-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_2)) (v2 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_2) = v1 c
          ∧ r.2.mem ((c.tc : Thread Cert.KernelIdeal.nD Cert.KernelIdeal.τ).loc Cert.KernelIdeal.main_v25_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S4x256x64 : Shape := ⟨3, ![4, 256, 64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S_ : Shape := ⟨0, ![]⟩

class Facts : Prop where
  bcast_S_S4x256x64 : S_.BroadcastsInDim S4x256x64 (![] : Fin 0 → Fin S4x256x64.rank)
  reducesTo_S4x256x64_S_d0_1_2 : S4x256x64.ReducesTo [0, 1, 2] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg6 : FVec F S128 .f32) (main_arg7 : FVec F S128x64 .f32) (main_arg8 : FVec F S64 .f32) (main_v29 : IVec S_ 1) (main_v33 : IVec S_ 1) : IVec S_ 1 :=
  let main_v34 : IVec S_ 1 := andi main_v29 main_v33
  let main_v35 : FVec F S128 .f32 := Host.absf main_arg6
  let main_cst_12 : FVec F S_ .f32 := constant S_ .f32 0x7F800000#32
  let main_v36 : FVec F S128 .f32 := broadcastInDim S128 ![] bcast_S_S128 main_cst_12
  let main_v37 : IVec S128 1 := cmpf .olt main_v35 main_v36
  let main_c_13 : IVec S_ 1 := constantI S_ 1 1#1
  let main_v38 : IVec S_ 1 := (fun x v => Host.reduce IntOp.andi x v reducesTo_S128_S_d0 h_S_) main_v37 main_c_13
  let main_v39 : IVec S_ 1 := andi main_v34 main_v38
  let main_v40 : FVec F S128x64 .f32 := Host.absf main_arg7
  let main_cst_14 : FVec F S_ .f32 := constant S_ .f32 0x7F800000#32
  let main_v41 : FVec F S128x64 .f32 := broadcastInDim S128x64 ![] bcast_S_S128x64 main_cst_14
  let main_v42 : IVec S128x64 1 := cmpf .olt main_v40 main_v41
  let main_c_15 : IVec S_ 1 := constantI S_ 1 1#1
  let main_v43 : IVec S_ 1 := (fun x v => Host.reduce IntOp.andi x v reducesTo_S128x64_S_d0_1 h_S_) main_v42 main_c_15
  let main_v44 : IVec S_ 1 := andi main_v39 main_v43
  let main_v45 : FVec F S64 .f32 := Host.absf main_arg8
  let main_cst_16 : FVec F S_ .f32 := constant S_ .f32 0x7F800000#32
  let main_v46 : FVec F S64 .f32 := broadcastInDim S64 ![] bcast_S_S64 main_cst_16
  let main_v47 : IVec S64 1 := cmpf .olt main_v45 main_v46
  let main_c_17 : IVec S_ 1 := constantI S_ 1 1#1
  let main_v48 : IVec S_ 1 := (fun x v => Host.reduce IntOp.andi x v reducesTo_S64_S_d0 h_S_) main_v47 main_c_17
  let main_v49 : IVec S_ 1 := andi main_v44 main_v48
  main_v49

def fn_part1 {F : FTy → Type} [FloatOps F] (main_arg3 : FVec F S512x256 .f32) (main_arg4 : FVec F S256 .f32) (main_arg5 : FVec F S256x128 .f32) (main_arg6 : FVec F S128 .f32) (main_arg7 : FVec F S128x64 .f32) (main_arg8 : FVec F S64 .f32) (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  let main_v20 : FVec F S512x256 .f32 := Host.absf main_arg3
  let main_cst_6 : FVec F S_ .f32 := constant S_ .f32 0x7F800000#32
  let main_v21 : FVec F S512x256 .f32 := broadcastInDim S512x256 ![] bcast_S_S512x256 main_cst_6
  let main_v22 : IVec S512x256 1 := cmpf .olt main_v20 main_v21
  let main_c_7 : IVec S_ 1 := constantI S_ 1 1#1
  let main_v23 : IVec S_ 1 := (fun x v => Host.reduce IntOp.andi x v reducesTo_S512x256_S_d0_1 h_S_) main_v22 main_c_7
  let main_v24 : IVec S_ 1 := andi main_v19 main_v23
  let main_v25 : FVec F S256 .f32 := Host.absf main_arg4
  let main_cst_8 : FVec F S_ .f32 := constant S_ .f32 0x7F800000#32
  let main_v26 : FVec F S256 .f32 := broadcastInDim S256 ![] bcast_S_S256 main_cst_8
  let main_v27 : IVec S256 1 := cmpf .olt main_v25 main_v26
  let main_c_9 : IVec S_ 1 := constantI S_ 1 1#1
  let main_v28 : IVec S_ 1 := (fun x v => Host.reduce IntOp.andi x v reducesTo_S256_S_d0 h_S_) main_v27 main_c_9
  let main_v29 : IVec S_ 1 := andi main_v24 main_v28
  let main_v30 : FVec F S256x128 .f32 := Host.absf main_arg5
  let main_cst_10 : FVec F S_ .f32 := constant S_ .f32 0x7F800000#32
  let main_v31 : FVec F S256x128 .f32 := broadcastInDim S256x128 ![] bcast_S_S256x128 main_cst_10
  let main_v32 : IVec S256x128 1 := cmpf .olt main_v30 main_v31
  let main_c_11 : IVec S_ 1 := constantI S_ 1 1#1
  let main_v33 : IVec S_ 1 := (fun x v => Host.reduce IntOp.andi x v reducesTo_S256x128_S_d0_1 h_S_) main_v32 main_c_11
  fn_part2 (F := F) main_arg6 main_arg7 main_arg8 main_v29 main_v33

def fn {F : FTy → Type} [FloatOps F] (main_arg0 : FVec F S16384x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg9 : IVec S4x256x64 32) (main_arg10 : FVec F S64x128 .f32) (main_arg11 : FVec F S128 .f32) (main_arg12 : FVec F S128x256 .f32) (main_arg13 : FVec F S256 .f32) (main_arg14 : FVec F S256x512 .f32) (main_arg15 : FVec F S512 .f32) (main_arg16 : FVec F S512x768 .f32) (main_arg17 : FVec F S768 .f32) : IVec S_ 1 :=
  let main_v0 : FVec F S4x256x64 .f32 := bitcastToFloat .f32 main_arg9
  let main_v1 : FVec F S4x256x64 .f32 := Host.absf main_v0
  let main_cst : FVec F S_ .f32 := constant S_ .f32 0x7F800000#32
  let main_v2 : FVec F S4x256x64 .f32 := broadcastInDim S4x256x64 ![] bcast_S_S4x256x64 main_cst
  let main_v3 : IVec S4x256x64 1 := cmpf .olt main_v1 main_v2
  let main_c : IVec S_ 1 := constantI S_ 1 1#1
  let main_v4 : IVec S_ 1 := (fun x v => Host.reduce IntOp.andi x v reducesTo_S4x256x64_S_d0_1_2 h_S_) main_v3 main_c
  let main_v5 : FVec F S16384x768 .f32 := Host.absf main_arg0
  let main_cst_0 : FVec F S_ .f32 := constant S_ .f32 0x7F800000#32
  let main_v6 : FVec F S16384x768 .f32 := broadcastInDim S16384x768 ![] bcast_S_S16384x768 main_cst_0
  let main_v7 : IVec S16384x768 1 := cmpf .olt main_v5 main_v6
  let main_c_1 : IVec S_ 1 := constantI S_ 1 1#1
  let main_v8 : IVec S_ 1 := (fun x v => Host.reduce IntOp.andi x v reducesTo_S16384x768_S_d0_1 h_S_) main_v7 main_c_1
  let main_v9 : IVec S_ 1 := andi main_v4 main_v8
  let main_v10 : FVec F S768x512 .f32 := Host.absf main_arg1
  let main_cst_2 : FVec F S_ .f32 := constant S_ .f32 0x7F800000#32
  let main_v11 : FVec F S768x512 .f32 := broadcastInDim S768x512 ![] bcast_S_S768x512 main_cst_2
  let main_v12 : IVec S768x512 1 := cmpf .olt main_v10 main_v11
  let main_c_3 : IVec S_ 1 := constantI S_ 1 1#1
  let main_v13 : IVec S_ 1 := (fun x v => Host.reduce IntOp.andi x v reducesTo_S768x512_S_d0_1 h_S_) main_v12 main_c_3
  let main_v14 : IVec S_ 1 := andi main_v9 main_v13
  let main_v15 : FVec F S512 .f32 := Host.absf main_arg2
  let main_cst_4 : FVec F S_ .f32 := constant S_ .f32 0x7F800000#32
  let main_v16 : FVec F S512 .f32 := broadcastInDim S512 ![] bcast_S_S512 main_cst_4
  fn_part1 (F := F) main_arg3 main_arg4 main_arg5 main_arg6 main_arg7 main_arg8 main_v14 main_v15 main_v16
-- ==== Kernel.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S4x256x64 : Shape := ⟨3, ![4, 256, 64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S4x64x256 : Shape := ⟨3, ![4, 64, 256]⟩
abbrev S_ : Shape := ⟨0, ![]⟩
abbrev S4x256 : Shape := ⟨2, ![4, 256]⟩
abbrev S4x1x256 : Shape := ⟨3, ![4, 1, 256]⟩
abbrev S16384x4 : Shape := ⟨2, ![16384, 4]⟩
abbrev S1x1 : Shape := ⟨2, ![1, 1]⟩
abbrev S2048x768 : Shape := ⟨2, ![2048, 768]⟩
abbrev S2048x4 : Shape := ⟨2, ![2048, 4]⟩
abbrev S2048x512 : Shape := ⟨2, ![2048, 512]⟩
abbrev S2048x256 : Shape := ⟨2, ![2048, 256]⟩
abbrev S2048x128 : Shape := ⟨2, ![2048, 128]⟩
abbrev S2048x64 : Shape := ⟨2, ![2048, 64]⟩
abbrev S1x512 : Shape := ⟨2, ![1, 512]⟩
abbrev S1x256 : Shape := ⟨2, ![1, 256]⟩
abbrev S1x128 : Shape := ⟨2, ![1, 128]⟩
abbrev S1x64 : Shape := ⟨2, ![1, 64]⟩
abbrev S2048 : Shape := ⟨1, ![2048]⟩
abbrev S2048x1 : Shape := ⟨2, ![2048, 1]⟩
abbrev S1x1x256 : Shape := ⟨3, ![1, 1, 256]⟩
abbrev S1x64x256 : Shape := ⟨3, ![1, 64, 256]⟩
abbrev S64x256 : Shape := ⟨2, ![64, 256]⟩
abbrev S1x256x64 : Shape := ⟨3, ![1, 256, 64]⟩
abbrev S256x64 : Shape := ⟨2, ![256, 64]⟩
abbrev S1x2048x64 : Shape := ⟨3, ![1, 2048, 64]⟩
abbrev S1 : Shape := ⟨1, ![1]⟩
abbrev S1x1x1 : Shape := ⟨3, ![1, 1, 1]⟩
abbrev S1x768 : Shape := ⟨2, ![1, 768]⟩

abbrev nBuf : Space → Nat
  | .hbm => 55
  | .vmem => 34
  | .smem => 0
  | _ => 0

abbrev bufTy : (tb : Table) → Fin (tcTables nBuf tb) → BufTy
  | .hbm, ⟨0, _⟩ => ⟨S16384x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S4x256x64, .i32⟩
  | .hbm, ⟨10, _⟩ => ⟨S64x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S256x512, .f32⟩
  | .hbm, ⟨15, _⟩ => ⟨S512, .f32⟩
  | .hbm, ⟨16, _⟩ => ⟨S512x768, .f32⟩
  | .hbm, ⟨17, _⟩ => ⟨S768, .f32⟩
  | .hbm, ⟨18, _⟩ => ⟨S4x256x64, .f32⟩
  | .hbm, ⟨19, _⟩ => ⟨S4x64x256, .f32⟩
  | .hbm, ⟨20, _⟩ => ⟨S_, .f32⟩
  | .hbm, ⟨21, _⟩ => ⟨S4x64x256, .f32⟩
  | .hbm, ⟨22, _⟩ => ⟨S4x64x256, .f32⟩
  | .hbm, ⟨23, _⟩ => ⟨S4x256x64, .f32⟩
  | .hbm, ⟨24, _⟩ => ⟨S_, .f32⟩
  | .hbm, ⟨25, _⟩ => ⟨S4x256, .f32⟩
  | .hbm, ⟨26, _⟩ => ⟨S4x1x256, .f32⟩
  | .hbm, ⟨27, _⟩ => ⟨S_, .i32⟩
  | .hbm, ⟨28, _⟩ => ⟨S4x256x64, .i32⟩
  | .hbm, ⟨29, _⟩ => ⟨S4x256x64, .i32⟩
  | .hbm, ⟨30, _⟩ => ⟨S4x256x64, .i8⟩
  | .hbm, ⟨31, _⟩ => ⟨S_, .i32⟩
  | .hbm, ⟨32, _⟩ => ⟨S4x256x64, .i32⟩
  | .hbm, ⟨33, _⟩ => ⟨S4x256x64, .i32⟩
  | .hbm, ⟨34, _⟩ => ⟨S_, .i32⟩
  | .hbm, ⟨35, _⟩ => ⟨S4x256x64, .i32⟩
  | .hbm, ⟨36, _⟩ => ⟨S4x256x64, .i32⟩
  | .hbm, ⟨37, _⟩ => ⟨S4x256x64, .i8⟩
  | .hbm, ⟨38, _⟩ => ⟨S_, .i32⟩
  | .hbm, ⟨39, _⟩ => ⟨S4x256x64, .i32⟩
  | .hbm, ⟨40, _⟩ => ⟨S4x256x64, .i32⟩
  | .hbm, ⟨41, _⟩ => ⟨S_, .i32⟩
  | .hbm, ⟨42, _⟩ => ⟨S4x256x64, .i32⟩
  | .hbm, ⟨43, _⟩ => ⟨S4x256x64, .i32⟩
  | .hbm, ⟨44, _⟩ => ⟨S4x256x64, .i8⟩
  | .hbm, ⟨45, _⟩ => ⟨S_, .i32⟩
  | .hbm, ⟨46, _⟩ => ⟨S4x256x64, .i32⟩
  | .hbm, ⟨47, _⟩ => ⟨S4x256x64, .i32⟩
  | .hbm, ⟨48, _⟩ => ⟨S_, .i32⟩
  | .hbm, ⟨49, _⟩ => ⟨S4x256x64, .i32⟩
  | .hbm, ⟨50, _⟩ => ⟨S4x256x64, .i32⟩
  | .hbm, ⟨51, _⟩ => ⟨S4x256x64, .i8⟩
  | .hbm, ⟨52, _⟩ => ⟨S16384x768, .f32⟩
  | .hbm, ⟨53, _⟩ => ⟨S16384x4, .i32⟩
  | .hbm, ⟨54, _⟩ => ⟨S1x1, .f32⟩
  | .local _ .vmem, ⟨0, _⟩ => ⟨S2048x768, .f32⟩
  | .local _ .vmem, ⟨1, _⟩ => ⟨S2048x768, .f32⟩
  | .local _ .vmem, ⟨2, _⟩ => ⟨S768x512, .f32⟩
  | .local _ .vmem, ⟨3, _⟩ => ⟨S512, .f32⟩
  | .local _ .vmem, ⟨4, _⟩ => ⟨S512x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S4x64x256, .f32⟩
  | .local _ .vmem, ⟨11, _⟩ => ⟨S4x256x64, .i8⟩
  | .local _ .vmem, ⟨12, _⟩ => ⟨S4x256x64, .i8⟩
  | .local _ .vmem, ⟨13, _⟩ => ⟨S4x256x64, .i8⟩
  | .local _ .vmem, ⟨14, _⟩ => ⟨S4x256x64, .i8⟩
  | .local _ .vmem, ⟨15, _⟩ => ⟨S4x1x256, .f32⟩
  | .local _ .vmem, ⟨16, _⟩ => ⟨S64x128, .f32⟩
  | .local _ .vmem, ⟨17, _⟩ => ⟨S128, .f32⟩
  | .local _ .vmem, ⟨18, _⟩ => ⟨S128x256, .f32⟩
  | .local _ .vmem, ⟨19, _⟩ => ⟨S256, .f32⟩
  | .local _ .vmem, ⟨20, _⟩ => ⟨S256x512, .f32⟩
  | .local _ .vmem, ⟨21, _⟩ => ⟨S512, .f32⟩
  | .local _ .vmem, ⟨22, _⟩ => ⟨S512x768, .f32⟩
  | .local _ .vmem, ⟨23, _⟩ => ⟨S768, .f32⟩
  | .local _ .vmem, ⟨24, _⟩ => ⟨S2048x768, .f32⟩
  | .local _ .vmem, ⟨25, _⟩ => ⟨S2048x768, .f32⟩
  | .local _ .vmem, ⟨26, _⟩ => ⟨S2048x4, .i32⟩
  | .local _ .vmem, ⟨27, _⟩ => ⟨S2048x4, .i32⟩
  | .local _ .vmem, ⟨28, _⟩ => ⟨S1x1, .f32⟩
  | .local _ .vmem, ⟨29, _⟩ => ⟨S2048x512, .f32⟩
  | .local _ .vmem, ⟨30, _⟩ => ⟨S2048x256, .f32⟩
  | .local _ .vmem, ⟨31, _⟩ => ⟨S2048x128, .f32⟩
  | .local _ .vmem, ⟨32, _⟩ => ⟨S2048x64, .f32⟩
  | .local _ .vmem, ⟨33, _⟩ => ⟨S2048x64, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_c_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_v25_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_stg24_0 : Ref sig .tc := ⟨.vmem, 26, rfl⟩
abbrev cc0_stg24_1 : Ref sig .tc := ⟨.vmem, 27, rfl⟩
abbrev cc0_stg25_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25
abbrev cc0_sem24_0 : DmaSem sig := 26
abbrev cc0_sem24_1 : DmaSem sig := 27
abbrev cc0_sem25_0 : DmaSem sig := 28

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v334 : BitVec 1 := Scalar.cmpi .eq arg0 c0_i32
  let v335 : BitVec 32 := Scalar.extui v334
  let c0_i32_206 : BitVec 32 := 0#32
  let v336 : BitVec 1 := Scalar.cmpi .ne v335 c0_i32_206
  v336

def k0_cond2 (i : grid0.Coords) : BitVec 1 :=
  let arg0 : BitVec 32 := BitVec.ofNat 32 (i 0).val
  let c0_i32_207 : BitVec 32 := 0#32
  let v337 : BitVec 1 := Scalar.cmpi .ne arg0 c0_i32_207
  let v338 : BitVec 32 := Scalar.extui v337
  let c0_i32_208 : BitVec 32 := 0#32
  let v339 : BitVec 1 := Scalar.cmpi .ne v338 c0_i32_208
  v339

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x64 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x64 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x64 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x64 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2048x768 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x4 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S4x256x64 : Shape := ⟨3, ![4, 256, 64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S1x256x64 : Shape := ⟨3, ![1, 256, 64]⟩
abbrev S256x64 : Shape := ⟨2, ![256, 64]⟩
abbrev S16384 : Shape := ⟨1, ![16384]⟩
abbrev S16384x1 : Shape := ⟨2, ![16384, 1]⟩
abbrev S64x256 : Shape := ⟨2, ![64, 256]⟩
abbrev S1 : Shape := ⟨1, ![1]⟩
abbrev S1x1 : Shape := ⟨2, ![1, 1]⟩
abbrev S4 : Shape := ⟨1, ![4]⟩
abbrev S16384x4 : Shape := ⟨2, ![16384, 4]⟩
abbrev S1x768 : Shape := ⟨2, ![1, 768]⟩

abbrev nBuf : Space → Nat
  | .hbm => 350
  | .vmem => 0
  | .smem => 0
  | _ => 0

abbrev hbmTy0_0 (i : Nat) : BufTy := match i % 128 with
  | 0 => ⟨S16384x768, .f32⟩
  | 1 => ⟨S768x512, .f32⟩
  | 2 => ⟨S512, .f32⟩
  | 3 => ⟨S512x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S4x256x64, .i32⟩
  | 10 => ⟨S64x128, .f32⟩
  | 11 => ⟨S128, .f32⟩
  | 12 => ⟨S128x256, .f32⟩
  | 13 => ⟨S256, .f32⟩
  | 14 => ⟨S256x512, .f32⟩
  | 15 => ⟨S512, .f32⟩
  | 16 => ⟨S512x768, .f32⟩
  | 17 => ⟨S768, .f32⟩
  | 18 => ⟨S4x256x64, .f32⟩
  | 19 => ⟨S16384x512, .f32⟩
  | 20 => ⟨S1x512, .f32⟩
  | 21 => ⟨S16384x512, .f32⟩
  | 22 => ⟨S16384x512, .f32⟩
  | 23 => ⟨S_, .f32⟩
  | 24 => ⟨S16384x512, .f32⟩
  | 25 => ⟨S16384x512, .f32⟩
  | 26 => ⟨S16384x256, .f32⟩
  | 27 => ⟨S1x256, .f32⟩
  | 28 => ⟨S16384x256, .f32⟩
  | 29 => ⟨S16384x256, .f32⟩
  | 30 => ⟨S_, .f32⟩
  | 31 => ⟨S16384x256, .f32⟩
  | 32 => ⟨S16384x256, .f32⟩
  | 33 => ⟨S16384x128, .f32⟩
  | 34 => ⟨S1x128, .f32⟩
  | 35 => ⟨S16384x128, .f32⟩
  | 36 => ⟨S16384x128, .f32⟩
  | 37 => ⟨S_, .f32⟩
  | 38 => ⟨S16384x128, .f32⟩
  | 39 => ⟨S16384x128, .f32⟩
  | 40 => ⟨S16384x64, .f32⟩
  | 41 => ⟨S1x64, .f32⟩
  | 42 => ⟨S16384x64, .f32⟩
  | 43 => ⟨S16384x64, .f32⟩
  | 44 => ⟨S_, .f32⟩
  | 45 => ⟨S16384x64, .f32⟩
  | 46 => ⟨S1x256x64, .f32⟩
  | 47 => ⟨S256x64, .f32⟩
  | 48 => ⟨S16384x64, .f32⟩
  | 49 => ⟨S_, .f32⟩
  | 50 => ⟨S16384, .f32⟩
  | 51 => ⟨S16384x1, .f32⟩
  | 52 => ⟨S256x64, .f32⟩
  | 53 => ⟨S_, .f32⟩
  | 54 => ⟨S256, .f32⟩
  | 55 => ⟨S1x256, .f32⟩
  | 56 => ⟨S16384x256, .f32⟩
  | 57 => ⟨S16384x256, .f32⟩
  | 58 => ⟨S16384x256, .f32⟩
  | 59 => ⟨S64x256, .f32⟩
  | 60 => ⟨S16384x256, .f32⟩
  | 61 => ⟨S_, .f32⟩
  | 62 => ⟨S16384x256, .f32⟩
  | 63 => ⟨S16384x256, .f32⟩
  | 64 => ⟨S16384x256, .f32⟩
  | 65 => ⟨S16384x256, .i32⟩
  | 66 => ⟨S_, .f32⟩
  | 67 => ⟨S_, .i32⟩
  | 68 => ⟨S16384, .f32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S1, .i32⟩
  | 79 => ⟨S_, .i32⟩
  | 80 => ⟨S16384x1, .i32⟩
  | 81 => ⟨S16384x1, .i1⟩
  | 82 => ⟨S1x1, .i32⟩
  | 83 => ⟨S16384x1, .i32⟩
  | 84 => ⟨S16384x1, .i1⟩
  | 85 => ⟨S16384x1, .i1⟩
  | 86 => ⟨S_, .i1⟩
  | 87 => ⟨S16384, .i1⟩
  | 88 => ⟨S16384x64, .f32⟩
  | 89 => ⟨S16384x64, .i1⟩
  | 90 => ⟨S_, .f32⟩
  | 91 => ⟨S16384x64, .f32⟩
  | 92 => ⟨S16384x64, .f32⟩
  | 93 => ⟨S16384x64, .f32⟩
  | 94 => ⟨S16384x64, .f32⟩
  | 95 => ⟨S_, .f32⟩
  | 96 => ⟨S_, .f32⟩
  | 97 => ⟨S_, .f32⟩
  | 98 => ⟨S_, .f32⟩
  | 99 => ⟨S16384x64, .f32⟩
  | 100 => ⟨S16384x64, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S16384x64, .f32⟩
  | 109 => ⟨S16384x64, .f32⟩
  | 110 => ⟨S16384x64, .f32⟩
  | 111 => ⟨S16384x64, .f32⟩
  | 112 => ⟨S1x256x64, .f32⟩
  | 113 => ⟨S256x64, .f32⟩
  | 114 => ⟨S16384x64, .f32⟩
  | 115 => ⟨S_, .f32⟩
  | 116 => ⟨S16384, .f32⟩
  | 117 => ⟨S16384x1, .f32⟩
  | 118 => ⟨S256x64, .f32⟩
  | 119 => ⟨S_, .f32⟩
  | 120 => ⟨S256, .f32⟩
  | 121 => ⟨S1x256, .f32⟩
  | 122 => ⟨S16384x256, .f32⟩
  | 123 => ⟨S16384x256, .f32⟩
  | 124 => ⟨S16384x256, .f32⟩
  | 125 => ⟨S64x256, .f32⟩
  | 126 => ⟨S16384x256, .f32⟩
  | 127 => ⟨S_, .f32⟩
  | _ => ⟨S16384x768, .f32⟩

abbrev hbmTy0_1 (i : Nat) : BufTy := match i % 128 with
  | 0 => ⟨S16384x256, .f32⟩
  | 1 => ⟨S16384x256, .f32⟩
  | 2 => ⟨S16384x256, .f32⟩
  | 3 => ⟨S16384x256, .i32⟩
  | 4 => ⟨S_, .f32⟩
  | 5 => ⟨S_, .i32⟩
  | 6 => ⟨S16384, .f32⟩
  | 7 => ⟨S16384, .i32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S1, .i32⟩
  | 17 => ⟨S_, .i32⟩
  | 18 => ⟨S16384x1, .i32⟩
  | 19 => ⟨S16384x1, .i1⟩
  | 20 => ⟨S1x1, .i32⟩
  | 21 => ⟨S16384x1, .i32⟩
  | 22 => ⟨S16384x1, .i1⟩
  | 23 => ⟨S16384x1, .i1⟩
  | 24 => ⟨S_, .i1⟩
  | 25 => ⟨S16384, .i1⟩
  | 26 => ⟨S16384x64, .f32⟩
  | 27 => ⟨S16384x64, .i1⟩
  | 28 => ⟨S_, .f32⟩
  | 29 => ⟨S16384x64, .f32⟩
  | 30 => ⟨S16384x64, .f32⟩
  | 31 => ⟨S16384x64, .f32⟩
  | 32 => ⟨S16384x64, .f32⟩
  | 33 => ⟨S_, .f32⟩
  | 34 => ⟨S_, .f32⟩
  | 35 => ⟨S_, .f32⟩
  | 36 => ⟨S_, .f32⟩
  | 37 => ⟨S16384x64, .f32⟩
  | 38 => ⟨S16384x64, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S16384x64, .f32⟩
  | 47 => ⟨S16384x64, .f32⟩
  | 48 => ⟨S16384x64, .f32⟩
  | 49 => ⟨S16384x64, .f32⟩
  | 50 => ⟨S1x256x64, .f32⟩
  | 51 => ⟨S256x64, .f32⟩
  | 52 => ⟨S16384x64, .f32⟩
  | 53 => ⟨S_, .f32⟩
  | 54 => ⟨S16384, .f32⟩
  | 55 => ⟨S16384x1, .f32⟩
  | 56 => ⟨S256x64, .f32⟩
  | 57 => ⟨S_, .f32⟩
  | 58 => ⟨S256, .f32⟩
  | 59 => ⟨S1x256, .f32⟩
  | 60 => ⟨S16384x256, .f32⟩
  | 61 => ⟨S16384x256, .f32⟩
  | 62 => ⟨S16384x256, .f32⟩
  | 63 => ⟨S64x256, .f32⟩
  | 64 => ⟨S16384x256, .f32⟩
  | 65 => ⟨S_, .f32⟩
  | 66 => ⟨S16384x256, .f32⟩
  | 67 => ⟨S16384x256, .f32⟩
  | 68 => ⟨S16384x256, .f32⟩
  | 69 => ⟨S16384x256, .i32⟩
  | 70 => ⟨S_, .f32⟩
  | 71 => ⟨S_, .i32⟩
  | 72 => ⟨S16384, .f32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x64, .f32⟩
  | 93 => ⟨S16384x64, .i1⟩
  | 94 => ⟨S_, .f32⟩
  | 95 => ⟨S16384x64, .f32⟩
  | 96 => ⟨S16384x64, .f32⟩
  | 97 => ⟨S16384x64, .f32⟩
  | 98 => ⟨S16384x64, .f32⟩
  | 99 => ⟨S_, .f32⟩
  | 100 => ⟨S_, .f32⟩
  | 101 => ⟨S_, .f32⟩
  | 102 => ⟨S_, .f32⟩
  | 103 => ⟨S16384x64, .f32⟩
  | 104 => ⟨S16384x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S16384x64, .f32⟩
  | 113 => ⟨S16384x64, .f32⟩
  | 114 => ⟨S16384x64, .f32⟩
  | 115 => ⟨S16384x64, .f32⟩
  | 116 => ⟨S1x256x64, .f32⟩
  | 117 => ⟨S256x64, .f32⟩
  | 118 => ⟨S16384x64, .f32⟩
  | 119 => ⟨S_, .f32⟩
  | 120 => ⟨S16384, .f32⟩
  | 121 => ⟨S16384x1, .f32⟩
  | 122 => ⟨S256x64, .f32⟩
  | 123 => ⟨S_, .f32⟩
  | 124 => ⟨S256, .f32⟩
  | 125 => ⟨S1x256, .f32⟩
  | 126 => ⟨S16384x256, .f32⟩
  | 127 => ⟨S16384x256, .f32⟩
  | _ => ⟨S16384x768, .f32⟩

abbrev hbmTy0_2 (i : Nat) : BufTy := match i % 128 with
  | 0 => ⟨S16384x256, .f32⟩
  | 1 => ⟨S64x256, .f32⟩
  | 2 => ⟨S16384x256, .f32⟩
  | 3 => ⟨S_, .f32⟩
  | 4 => ⟨S16384x256, .f32⟩
  | 5 => ⟨S16384x256, .f32⟩
  | 6 => ⟨S16384x256, .f32⟩
  | 7 => ⟨S16384x256, .i32⟩
  | 8 => ⟨S_, .f32⟩
  | 9 => ⟨S_, .i32⟩
  | 10 => ⟨S16384, .f32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S16384x64, .f32⟩
  | 31 => ⟨S16384x64, .i1⟩
  | 32 => ⟨S_, .f32⟩
  | 33 => ⟨S16384x64, .f32⟩
  | 34 => ⟨S16384x64, .f32⟩
  | 35 => ⟨S16384x64, .f32⟩
  | 36 => ⟨S16384x64, .f32⟩
  | 37 => ⟨S_, .f32⟩
  | 38 => ⟨S_, .f32⟩
  | 39 => ⟨S_, .f32⟩
  | 40 => ⟨S_, .f32⟩
  | 41 => ⟨S16384x64, .f32⟩
  | 42 => ⟨S16384x64, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S16384x64, .f32⟩
  | 51 => ⟨S16384x64, .f32⟩
  | 52 => ⟨S16384x64, .f32⟩
  | 53 => ⟨S16384x64, .f32⟩
  | 54 => ⟨S1, .f32⟩
  | 55 => ⟨S1, .f32⟩
  | 56 => ⟨S1, .f32⟩
  | 57 => ⟨S1, .f32⟩
  | 58 => ⟨S4, .f32⟩
  | 59 => ⟨S_, .f32⟩
  | 60 => ⟨S_, .f32⟩
  | 61 => ⟨S_, .f32⟩
  | 62 => ⟨S_, .f32⟩
  | 63 => ⟨S16384x1, .i32⟩
  | 64 => ⟨S16384x1, .i32⟩
  | 65 => ⟨S16384x1, .i32⟩
  | 66 => ⟨S16384x1, .i32⟩
  | 67 => ⟨S16384x4, .i32⟩
  | 68 => ⟨S16384x128, .f32⟩
  | 69 => ⟨S1x128, .f32⟩
  | 70 => ⟨S16384x128, .f32⟩
  | 71 => ⟨S16384x128, .f32⟩
  | 72 => ⟨S_, .f32⟩
  | 73 => ⟨S16384x128, .f32⟩
  | 74 => ⟨S16384x128, .f32⟩
  | 75 => ⟨S16384x256, .f32⟩
  | 76 => ⟨S1x256, .f32⟩
  | 77 => ⟨S16384x256, .f32⟩
  | 78 => ⟨S16384x256, .f32⟩
  | 79 => ⟨S_, .f32⟩
  | 80 => ⟨S16384x256, .f32⟩
  | 81 => ⟨S16384x256, .f32⟩
  | 82 => ⟨S16384x512, .f32⟩
  | 83 => ⟨S1x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S16384x768, .f32⟩
  | 90 => ⟨S1x768, .f32⟩
  | 91 => ⟨S16384x768, .f32⟩
  | 92 => ⟨S16384x768, .f32⟩
  | 93 => ⟨S1x1, .f32⟩
  | _ => ⟨S16384x768, .f32⟩

abbrev hbmTy (i : Nat) : BufTy := match i / 128 with
  | 0 => hbmTy0_0 i
  | 1 => hbmTy0_1 i
  | 2 => hbmTy0_2 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_cst : Ref sig .tc := ⟨.hbm, 30, rfl⟩
abbrev main_call1_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call2_cst : Ref sig .tc := ⟨.hbm, 37, rfl⟩
abbrev main_call2_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call3_v0 : Ref sig .tc := ⟨.hbm, 65, rfl⟩
abbrev main_call3_cst : Ref sig .tc := ⟨.hbm, 66, rfl⟩
abbrev main_call3_c : Ref sig .tc := ⟨.hbm, 67, rfl⟩
abbrev main_call3_v1_0 : Ref sig .tc := ⟨.hbm, 68, rfl⟩
abbrev main_v37 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_c_1 : Ref sig .tc := ⟨.hbm, 78, rfl⟩
abbrev main_call4_c_2 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_3 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_call4_cst : Ref sig .tc := ⟨.hbm, 90, rfl⟩
abbrev main_call4_v15 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_3 : Ref sig .tc := ⟨.hbm, 95, rfl⟩
abbrev main_v41 : Ref sig .tc := ⟨.hbm, 96, rfl⟩
abbrev main_cst_4 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_5 : Ref sig .tc := ⟨.hbm, 101, rfl⟩
abbrev main_v45 : Ref sig .tc := ⟨.hbm, 102, rfl⟩
abbrev main_cst_6 : Ref sig .tc := ⟨.hbm, 103, rfl⟩
abbrev main_v46 : Ref sig .tc := ⟨.hbm, 104, rfl⟩
abbrev main_cst_7 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_8 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_9 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_10 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_call5_v0 : Ref sig .tc := ⟨.hbm, 131, rfl⟩
abbrev main_call5_cst : Ref sig .tc := ⟨.hbm, 132, rfl⟩
abbrev main_call5_c : Ref sig .tc := ⟨.hbm, 133, rfl⟩
abbrev main_call5_v1_0 : Ref sig .tc := ⟨.hbm, 134, rfl⟩
abbrev main_v69 : Ref sig .tc := ⟨.hbm, 135, rfl⟩
abbrev main_call6_c : Ref sig .tc := ⟨.hbm, 136, rfl⟩
abbrev main_call6_v0 : Ref sig .tc := ⟨.hbm, 137, rfl⟩
abbrev main_call6_v1 : Ref sig .tc := ⟨.hbm, 138, rfl⟩
abbrev main_call6_c_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_v5 : Ref sig .tc := ⟨.hbm, 143, rfl⟩
abbrev main_call6_c_1 : Ref sig .tc := ⟨.hbm, 144, rfl⟩
abbrev main_call6_c_2 : Ref sig .tc := ⟨.hbm, 145, rfl⟩
abbrev main_call6_v6 : Ref sig .tc := ⟨.hbm, 146, rfl⟩
abbrev main_call6_v7 : Ref sig .tc := ⟨.hbm, 147, rfl⟩
abbrev main_call6_v8 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_c_3 : Ref sig .tc := ⟨.hbm, 152, rfl⟩
abbrev main_call6_v12 : Ref sig .tc := ⟨.hbm, 153, rfl⟩
abbrev main_call6_v13 : Ref sig .tc := ⟨.hbm, 154, rfl⟩
abbrev main_call6_v14 : Ref sig .tc := ⟨.hbm, 155, rfl⟩
abbrev main_call6_cst : Ref sig .tc := ⟨.hbm, 156, rfl⟩
abbrev main_call6_v15 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_cst_11 : Ref sig .tc := ⟨.hbm, 161, rfl⟩
abbrev main_v73 : Ref sig .tc := ⟨.hbm, 162, rfl⟩
abbrev main_cst_12 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_cst_13 : Ref sig .tc := ⟨.hbm, 167, rfl⟩
abbrev main_v77 : Ref sig .tc := ⟨.hbm, 168, rfl⟩
abbrev main_cst_14 : Ref sig .tc := ⟨.hbm, 169, rfl⟩
abbrev main_v78 : Ref sig .tc := ⟨.hbm, 170, rfl⟩
abbrev main_cst_15 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_16 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_cst_17 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_cst_18 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_call7_v0 : Ref sig .tc := ⟨.hbm, 197, rfl⟩
abbrev main_call7_cst : Ref sig .tc := ⟨.hbm, 198, rfl⟩
abbrev main_call7_c : Ref sig .tc := ⟨.hbm, 199, rfl⟩
abbrev main_call7_v1_0 : Ref sig .tc := ⟨.hbm, 200, rfl⟩
abbrev main_v101 : Ref sig .tc := ⟨.hbm, 201, rfl⟩
abbrev main_call8_c : Ref sig .tc := ⟨.hbm, 202, rfl⟩
abbrev main_call8_v0 : Ref sig .tc := ⟨.hbm, 203, rfl⟩
abbrev main_call8_v1 : Ref sig .tc := ⟨.hbm, 204, rfl⟩
abbrev main_call8_c_0 : Ref sig .tc := ⟨.hbm, 205, rfl⟩
abbrev main_call8_v2 : Ref sig .tc := ⟨.hbm, 206, rfl⟩
abbrev main_call8_v3 : Ref sig .tc := ⟨.hbm, 207, rfl⟩
abbrev main_call8_v4 : Ref sig .tc := ⟨.hbm, 208, rfl⟩
abbrev main_call8_v5 : Ref sig .tc := ⟨.hbm, 209, rfl⟩
abbrev main_call8_c_1 : Ref sig .tc := ⟨.hbm, 210, rfl⟩
abbrev main_call8_c_2 : Ref sig .tc := ⟨.hbm, 211, rfl⟩
abbrev main_call8_v6 : Ref sig .tc := ⟨.hbm, 212, rfl⟩
abbrev main_call8_v7 : Ref sig .tc := ⟨.hbm, 213, rfl⟩
abbrev main_call8_v8 : Ref sig .tc := ⟨.hbm, 214, rfl⟩
abbrev main_call8_v9 : Ref sig .tc := ⟨.hbm, 215, rfl⟩
abbrev main_call8_v10 : Ref sig .tc := ⟨.hbm, 216, rfl⟩
abbrev main_call8_v11 : Ref sig .tc := ⟨.hbm, 217, rfl⟩
abbrev main_call8_c_3 : Ref sig .tc := ⟨.hbm, 218, rfl⟩
abbrev main_call8_v12 : Ref sig .tc := ⟨.hbm, 219, rfl⟩
abbrev main_call8_v13 : Ref sig .tc := ⟨.hbm, 220, rfl⟩
abbrev main_call8_v14 : Ref sig .tc := ⟨.hbm, 221, rfl⟩
abbrev main_call8_cst : Ref sig .tc := ⟨.hbm, 222, rfl⟩
abbrev main_call8_v15 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_cst_19 : Ref sig .tc := ⟨.hbm, 227, rfl⟩
abbrev main_v105 : Ref sig .tc := ⟨.hbm, 228, rfl⟩
abbrev main_cst_20 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩
abbrev main_cst_21 : Ref sig .tc := ⟨.hbm, 233, rfl⟩
abbrev main_v109 : Ref sig .tc := ⟨.hbm, 234, rfl⟩
abbrev main_cst_22 : Ref sig .tc := ⟨.hbm, 235, rfl⟩
abbrev main_v110 : Ref sig .tc := ⟨.hbm, 236, rfl⟩
abbrev main_cst_23 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_v114 : Ref sig .tc := ⟨.hbm, 241, rfl⟩
abbrev main_v115 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_cst_24 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_cst_25 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_cst_26 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_call9_v0 : Ref sig .tc := ⟨.hbm, 263, rfl⟩
abbrev main_call9_cst : Ref sig .tc := ⟨.hbm, 264, rfl⟩
abbrev main_call9_c : Ref sig .tc := ⟨.hbm, 265, rfl⟩
abbrev main_call9_v1_0 : Ref sig .tc := ⟨.hbm, 266, rfl⟩
abbrev main_v133 : Ref sig .tc := ⟨.hbm, 267, rfl⟩
abbrev main_call10_c : Ref sig .tc := ⟨.hbm, 268, rfl⟩
abbrev main_call10_v0 : Ref sig .tc := ⟨.hbm, 269, rfl⟩
abbrev main_call10_v1 : Ref sig .tc := ⟨.hbm, 270, rfl⟩
abbrev main_call10_c_0 : Ref sig .tc := ⟨.hbm, 271, rfl⟩
abbrev main_call10_v2 : Ref sig .tc := ⟨.hbm, 272, rfl⟩
abbrev main_call10_v3 : Ref sig .tc := ⟨.hbm, 273, rfl⟩
abbrev main_call10_v4 : Ref sig .tc := ⟨.hbm, 274, rfl⟩
abbrev main_call10_v5 : Ref sig .tc := ⟨.hbm, 275, rfl⟩
abbrev main_call10_c_1 : Ref sig .tc := ⟨.hbm, 276, rfl⟩
abbrev main_call10_c_2 : Ref sig .tc := ⟨.hbm, 277, rfl⟩
abbrev main_call10_v6 : Ref sig .tc := ⟨.hbm, 278, rfl⟩
abbrev main_call10_v7 : Ref sig .tc := ⟨.hbm, 279, rfl⟩
abbrev main_call10_v8 : Ref sig .tc := ⟨.hbm, 280, rfl⟩
abbrev main_call10_v9 : Ref sig .tc := ⟨.hbm, 281, rfl⟩
abbrev main_call10_v10 : Ref sig .tc := ⟨.hbm, 282, rfl⟩
abbrev main_call10_v11 : Ref sig .tc := ⟨.hbm, 283, rfl⟩
abbrev main_call10_c_3 : Ref sig .tc := ⟨.hbm, 284, rfl⟩
abbrev main_call10_v12 : Ref sig .tc := ⟨.hbm, 285, rfl⟩
abbrev main_call10_v13 : Ref sig .tc := ⟨.hbm, 286, rfl⟩
abbrev main_call10_v14 : Ref sig .tc := ⟨.hbm, 287, rfl⟩
abbrev main_call10_cst : Ref sig .tc := ⟨.hbm, 288, rfl⟩
abbrev main_call10_v15 : Ref sig .tc := ⟨.hbm, 289, rfl⟩
abbrev main_v134 : Ref sig .tc := ⟨.hbm, 290, rfl⟩
abbrev main_v135 : Ref sig .tc := ⟨.hbm, 291, rfl⟩
abbrev main_v136 : Ref sig .tc := ⟨.hbm, 292, rfl⟩
abbrev main_cst_27 : Ref sig .tc := ⟨.hbm, 293, rfl⟩
abbrev main_v137 : Ref sig .tc := ⟨.hbm, 294, rfl⟩
abbrev main_cst_28 : Ref sig .tc := ⟨.hbm, 295, rfl⟩
abbrev main_v138 : Ref sig .tc := ⟨.hbm, 296, rfl⟩
abbrev main_v139 : Ref sig .tc := ⟨.hbm, 297, rfl⟩
abbrev main_v140 : Ref sig .tc := ⟨.hbm, 298, rfl⟩
abbrev main_cst_29 : Ref sig .tc := ⟨.hbm, 299, rfl⟩
abbrev main_v141 : Ref sig .tc := ⟨.hbm, 300, rfl⟩
abbrev main_cst_30 : Ref sig .tc := ⟨.hbm, 301, rfl⟩
abbrev main_v142 : Ref sig .tc := ⟨.hbm, 302, rfl⟩
abbrev main_cst_31 : Ref sig .tc := ⟨.hbm, 303, rfl⟩
abbrev main_v143 : Ref sig .tc := ⟨.hbm, 304, rfl⟩
abbrev main_v144 : Ref sig .tc := ⟨.hbm, 305, rfl⟩
abbrev main_v145 : Ref sig .tc := ⟨.hbm, 306, rfl⟩
abbrev main_v146 : Ref sig .tc := ⟨.hbm, 307, rfl⟩
abbrev main_v147 : Ref sig .tc := ⟨.hbm, 308, rfl⟩
abbrev main_v148 : Ref sig .tc := ⟨.hbm, 309, rfl⟩
abbrev main_v149 : Ref sig .tc := ⟨.hbm, 310, rfl⟩
abbrev main_v150 : Ref sig .tc := ⟨.hbm, 311, rfl⟩
abbrev main_v151 : Ref sig .tc := ⟨.hbm, 312, rfl⟩
abbrev main_v152 : Ref sig .tc := ⟨.hbm, 313, rfl⟩
abbrev main_v153 : Ref sig .tc := ⟨.hbm, 314, rfl⟩
abbrev main_cst_32 : Ref sig .tc := ⟨.hbm, 315, rfl⟩
abbrev main_v154 : Ref sig .tc := ⟨.hbm, 316, rfl⟩
abbrev main_cst_33 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_v158 : Ref sig .tc := ⟨.hbm, 321, rfl⟩
abbrev main_v159 : Ref sig .tc := ⟨.hbm, 322, rfl⟩
abbrev main_v160 : Ref sig .tc := ⟨.hbm, 323, rfl⟩
abbrev main_v161 : Ref sig .tc := ⟨.hbm, 324, rfl⟩
abbrev main_v162 : Ref sig .tc := ⟨.hbm, 325, rfl⟩
abbrev main_v163 : Ref sig .tc := ⟨.hbm, 326, rfl⟩
abbrev main_v164 : Ref sig .tc := ⟨.hbm, 327, rfl⟩
abbrev main_call11_cst : Ref sig .tc := ⟨.hbm, 328, rfl⟩
abbrev main_call11_v0 : Ref sig .tc := ⟨.hbm, 329, rfl⟩
abbrev main_v165 : Ref sig .tc := ⟨.hbm, 330, rfl⟩
abbrev main_v166 : Ref sig .tc := ⟨.hbm, 331, rfl⟩
abbrev main_v167 : Ref sig .tc := ⟨.hbm, 332, rfl⟩
abbrev main_v168 : Ref sig .tc := ⟨.hbm, 333, rfl⟩
abbrev main_v169 : Ref sig .tc := ⟨.hbm, 334, rfl⟩
abbrev main_call12_cst : Ref sig .tc := ⟨.hbm, 335, rfl⟩
abbrev main_call12_v0 : Ref sig .tc := ⟨.hbm, 336, rfl⟩
abbrev main_v170 : Ref sig .tc := ⟨.hbm, 337, rfl⟩
abbrev main_v171 : Ref sig .tc := ⟨.hbm, 338, rfl⟩
abbrev main_v172 : Ref sig .tc := ⟨.hbm, 339, rfl⟩
abbrev main_v173 : Ref sig .tc := ⟨.hbm, 340, rfl⟩
abbrev main_v174 : Ref sig .tc := ⟨.hbm, 341, rfl⟩
abbrev main_call13_cst : Ref sig .tc := ⟨.hbm, 342, rfl⟩
abbrev main_call13_v0 : Ref sig .tc := ⟨.hbm, 343, rfl⟩
abbrev main_v175 : Ref sig .tc := ⟨.hbm, 344, rfl⟩
abbrev main_v176 : Ref sig .tc := ⟨.hbm, 345, rfl⟩
abbrev main_v177 : Ref sig .tc := ⟨.hbm, 346, rfl⟩
abbrev main_v178 : Ref sig .tc := ⟨.hbm, 347, rfl⟩
abbrev main_v179 : Ref sig .tc := ⟨.hbm, 348, rfl⟩
abbrev main_v180 : Ref sig .tc := ⟨.hbm, 349, rfl⟩

abbrev nD : Nat := 1
abbrev τ : Topo := Topo.v7x

variable {F : FTy → Type} [FloatOps F]
-- ==== Proof.RunA.lean ====
/- The run of the kernel body at the first grid point, where the loss block is set. -/
module

public import proofs.«01_k».proof.Proof.Gen.KernelIdeal.Frame.Runs

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The kernel body at the first grid point, where the loss block is set: on staging buffers that hold the inputs it runs to its end, leaves the inputs as they were,
    and leaves each output and scratch buffer at the writes that its list holds. -/
noncomputable def runA (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S4x64x256 .f32) (harg10 : arg10.IsWhole) (arg11 : Memref sig .tc .vmem S4x256x64 .i8) (harg11 : arg11.IsWhole) (arg12 : Memref sig .tc .vmem S4x256x64 .i8) (harg12 : arg12.IsWhole) (arg13 : Memref sig .tc .vmem S4x256x64 .i8) (harg13 : arg13.IsWhole) (arg14 : Memref sig .tc .vmem S4x256x64 .i8) (harg14 : arg14.IsWhole) (arg15 : Memref sig .tc .vmem S4x1x256 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x256 .f32) (harg18 : arg18.IsWhole) (arg19 : Memref sig .tc .vmem S256 .f32) (harg19 : arg19.IsWhole) (arg20 : Memref sig .tc .vmem S256x512 .f32) (harg20 : arg20.IsWhole) (arg21 : Memref sig .tc .vmem S512 .f32) (harg21 : arg21.IsWhole) (arg22 : Memref sig .tc .vmem S512x768 .f32) (harg22 : arg22.IsWhole) (arg23 : Memref sig .tc .vmem S768 .f32) (harg23 : arg23.IsWhole) (arg24 : Memref sig .tc .vmem S2048x768 .f32) (harg24 : arg24.IsWhole) (arg25 : Memref sig .tc .vmem S2048x4 .i32) (harg25 : arg25.IsWhole) (arg26 : Memref sig .tc .vmem S1x1 .f32) (harg26 : arg26.IsWhole) (arg27 : Memref sig .tc .vmem S2048x512 .f32) (harg27 : arg27.IsWhole) (arg28 : Memref sig .tc .vmem S2048x256 .f32) (harg28 : arg28.IsWhole) (arg29 : Memref sig .tc .vmem S2048x128 .f32) (harg29 : arg29.IsWhole) (arg30 : Memref sig .tc .vmem S2048x64 .f32) (harg30 : arg30.IsWhole) (arg31 : Memref sig .tc .vmem S2048x64 .f32) (harg31 : arg31.IsWhole) (hc0 : cond0_0 i) (hc1 : ¬cond0_1 i)
    (x0 : Vec F S2048x768 .f32) (x1 : Vec F S768x512 .f32) (x2 : Vec F S512 .f32) (x3 : Vec F S512x256 .f32) (x4 : Vec F S256 .f32) (x5 : Vec F S256x128 .f32) (x6 : Vec F S128 .f32) (x7 : Vec F S128x64 .f32) (x8 : Vec F S64 .f32) (x9 : Vec F S4x64x256 .f32) (x10 : Vec F S4x256x64 .i8) (x11 : Vec F S4x256x64 .i8) (x12 : Vec F S4x256x64 .i8) (x13 : Vec F S4x256x64 .i8) (x14 : Vec F S4x1x256 .f32) (x15 : Vec F S64x128 .f32) (x16 : Vec F S128 .f32) (x17 : Vec F S128x256 .f32) (x18 : Vec F S256 .f32) (x19 : Vec F S256x512 .f32) (x20 : Vec F S512 .f32) (x21 : Vec F S512x768 .f32) (x22 : Vec F S768 .f32) :
    Σ' (L23 : List (View.Piece (Elt F) S2048x768 .f32)), Σ' (L24 : List (View.Piece (Elt F) S2048x4 .i32)), Σ' (L25 : List (View.Piece (Elt F) S1x1 .f32)), Σ' (LT0 : List (View.Piece (Elt F) S2048x512 .f32)), Σ' (LT1 : List (View.Piece (Elt F) S2048x256 .f32)), Σ' (LT2 : List (View.Piece (Elt F) S2048x128 .f32)), Σ' (LT3 : List (View.Piece (Elt F) S2048x64 .f32)), { LT4 : List (View.Piece (Elt F) S2048x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0) ∗ (∃ f, arg28.view.loc (c : Thread nD τ) ↦[arg28.view.set]{fullShare} arg28.view.writes (Elt F) f LT1) ∗ (∃ f, arg29.view.loc (c : Thread nD τ) ↦[arg29.view.set]{fullShare} arg29.view.writes (Elt F) f LT2) ∗ (∃ f, arg30.view.loc (c : Thread nD τ) ↦[arg30.view.set]{fullShare} arg30.view.writes (Elt F) f LT3) ∗ (∃ f, arg31.view.loc (c : Thread nD τ) ↦[arg31.view.set]{fullShare} arg31.view.writes (Elt F) f LT4)) -∗ K ⟨⟩))
          ⊢ wp frame (wpE (defs₀ (F := F)) Variants.none c none) E (cc0__rqvae_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, fun E K => ?run⟩
  case run =>
    simp only [cc0__rqvae_kernel_eq_skeleton]; unfold cc0__rqvae_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    isplitl [H24]; · iexists _; iexact H24
    isplitl [H25]; · iexists _; iexact H25
    isplitl [HS0]; · iexists _; iexact HS0
    isplitl [HS1]; · iexists _; iexact HS1
    isplitl [HS2]; · iexists _; iexact HS2
    isplitl [HS3]; · iexists _; iexact HS3
    iexists _; iexact HS4

end Cert.KernelIdeal.Body

end
-- ==== Proof.Block.lean ====
/- What one grid point of the kernel computes, as plain functions of the blocks it reads, and the proof that the
   recorded runs of the body leave exactly these values in the output blocks. -/
module

public import proofs.«01_k».proof.Proof.RunB
public import Idealize.ShloMosaic.Lib.Pipeline.ValueKit.Acc

@[expose] public section

set_option maxRecDepth 16384

noncomputable section

namespace Cert.KernelIdeal.Body

open Cert.KernelIdeal Cert.KernelIdeal.Gen Idealize.ShloMosaic Idealize.ShloMosaic.TcCoe

variable {F : FTy → Type} [FloatOps F]

/-- The six codebook operands of the kernel: minus twice the transposed codebooks, the four byte planes of the
    codebook words, and the squared norms. -/
structure Books (F : FTy → Type) [FloatOps F] where
  t : Vec F S4x64x256 .f32
  p0 : Vec F S4x256x64 .i8
  p1 : Vec F S4x256x64 .i8
  p2 : Vec F S4x256x64 .i8
  p3 : Vec F S4x256x64 .i8
  sq : Vec F S4x1x256 .f32

/-- The codebook operands of one quantizer level. -/
structure Slab (F : FTy → Type) [FloatOps F] where
  t : Vec F S1x64x256 .f32
  p0 : Vec F S1x256x64 .i8
  p1 : Vec F S1x256x64 .i8
  p2 : Vec F S1x256x64 .i8
  p3 : Vec F S1x256x64 .i8
  sq : Vec F S1x1x256 .f32

/-- The operands of level 0. -/
def slab0 (K : Books F) : Slab F where
  t := View.ld K.t (Rect.unit ![0, 0, 0] S1x64x256.size inb_S4x64x256_S1x64x256_0_0_0)
  p0 := View.ld K.p0 (Rect.unit ![0, 0, 0] S1x256x64.size inb_S4x256x64_S1x256x64_0_0_0)
  p1 := View.ld K.p1 (Rect.unit ![0, 0, 0] S1x256x64.size inb_S4x256x64_S1x256x64_0_0_0)
  p2 := View.ld K.p2 (Rect.unit ![0, 0, 0] S1x256x64.size inb_S4x256x64_S1x256x64_0_0_0)
  p3 := View.ld K.p3 (Rect.unit ![0, 0, 0] S1x256x64.size inb_S4x256x64_S1x256x64_0_0_0)
  sq := View.ld K.sq (Rect.unit ![0, 0, 0] S1x1x256.size inb_S4x1x256_S1x1x256_0_0_0)

/-- The operands of level 1. -/
def slab1 (K : Books F) : Slab F where
  t := View.ld K.t (Rect.unit ![1, 0, 0] S1x64x256.size inb_S4x64x256_S1x64x256_1_0_0)
  p0 := View.ld K.p0 (Rect.unit ![1, 0, 0] S1x256x64.size inb_S4x256x64_S1x256x64_1_0_0)
  p1 := View.ld K.p1 (Rect.unit ![1, 0, 0] S1x256x64.size inb_S4x256x64_S1x256x64_1_0_0)
  p2 := View.ld K.p2 (Rect.unit ![1, 0, 0] S1x256x64.size inb_S4x256x64_S1x256x64_1_0_0)
  p3 := View.ld K.p3 (Rect.unit ![1, 0, 0] S1x256x64.size inb_S4x256x64_S1x256x64_1_0_0)
  sq := View.ld K.sq (Rect.unit ![1, 0, 0] S1x1x256.size inb_S4x1x256_S1x1x256_1_0_0)

/-- The operands of level 2. -/
def slab2 (K : Books F) : Slab F where
  t := View.ld K.t (Rect.unit ![2, 0, 0] S1x64x256.size inb_S4x64x256_S1x64x256_2_0_0)
  p0 := View.ld K.p0 (Rect.unit ![2, 0, 0] S1x256x64.size inb_S4x256x64_S1x256x64_2_0_0)
  p1 := View.ld K.p1 (Rect.unit ![2, 0, 0] S1x256x64.size inb_S4x256x64_S1x256x64_2_0_0)
  p2 := View.ld K.p2 (Rect.unit ![2, 0, 0] S1x256x64.size inb_S4x256x64_S1x256x64_2_0_0)
  p3 := View.ld K.p3 (Rect.unit ![2, 0, 0] S1x256x64.size inb_S4x256x64_S1x256x64_2_0_0)
  sq := View.ld K.sq (Rect.unit ![2, 0, 0] S1x1x256.size inb_S4x1x256_S1x1x256_2_0_0)

/-- The operands of level 3. -/
def slab3 (K : Books F) : Slab F where
  t := View.ld K.t (Rect.unit ![3, 0, 0] S1x64x256.size inb_S4x64x256_S1x64x256_3_0_0)
  p0 := View.ld K.p0 (Rect.unit ![3, 0, 0] S1x256x64.size inb_S4x256x64_S1x256x64_3_0_0)
  p1 := View.ld K.p1 (Rect.unit ![3, 0, 0] S1x256x64.size inb_S4x256x64_S1x256x64_3_0_0)
  p2 := View.ld K.p2 (Rect.unit ![3, 0, 0] S1x256x64.size inb_S4x256x64_S1x256x64_3_0_0)
  p3 := View.ld K.p3 (Rect.unit ![3, 0, 0] S1x256x64.size inb_S4x256x64_S1x256x64_3_0_0)
  sq := View.ld K.sq (Rect.unit ![3, 0, 0] S1x1x256.size inb_S4x1x256_S1x1x256_3_0_0)

/-- The column numbers of a block of distances. -/
def lane : IVec S2048x256 32 := iota Kind.tc S2048x256 32 [1] iota_S2048x256_d1_w32

/-- The encoder on a block of rows. -/
def enc (x0 : Vec F S2048x768 .f32) (x1 : Vec F S768x512 .f32) (x2 : Vec F S512 .f32) (x3 : Vec F S512x256 .f32) (x4 : Vec F S256 .f32)
    (x5 : Vec F S256x128 .f32) (x6 : Vec F S128 .f32) (x7 : Vec F S128x64 .f32) (x8 : Vec F S64 .f32) : Vec F S2048x64 .f32 :=
  k0_pay6 (k0_pay5 (k0_pay3 (k0_pay2 (k0_pay1 x0 x1 x2) x3 x4) x5 x6) k0_pay4) x7 x8

/-- The distances of a block of residual rows to the entries of a level's codebook. -/
def far (s : Slab F) (r : Vec F S2048x64 .f32) : FVec F S2048x256 .f32 := k0_pay9 r s.sq s.t

/-- The number of the first nearest entry, row by row. -/
def best (s : Slab F) (r : Vec F S2048x64 .f32) : IVec S2048x1 32 := k0_pay10 lane (far s r)

/-- The words of the chosen entries, put together from the four byte planes. -/
def word (s : Slab F) (r : Vec F S2048x64 .f32) : IVec S2048x64 32 :=
  ori (k0_pay13 lane (far s r) s.p0 s.p1 s.p2) (shli (k0_pay12 lane (far s r) s.p3) (broadcast S2048x64 24#32))

/-- The chosen entries. -/
def row (s : Slab F) (r : Vec F S2048x64 .f32) : FVec F S2048x64 .f32 := bitcastToFloat .f32 (word s r)

/-- The residual after a level. -/
def nx (s : Slab F) (r : Vec F S2048x64 .f32) : FVec F S2048x64 .f32 := subf r (row s r)

/-- The running sum of squared errors after a level. -/
def err (s : Slab F) (r : Vec F S2048x64 .f32) (e : FVec F S1x1 .f32) : FVec F S1x1 .f32 :=
  k0_pay30 e (mulf (subf (row s r) r) (subf (row s r) r))

/-- The running sum of chosen entries after a level. -/
def add (s : Slab F) (r : Vec F S2048x64 .f32) (a : Vec F S2048x64 .f32) : FVec F S2048x64 .f32 := addf a (row s r)

/-- The residuals entering levels 1, 2 and 3. -/
def res1 (K : Books F) (r : Vec F S2048x64 .f32) : Vec F S2048x64 .f32 := nx (slab0 K) r
def res2 (K : Books F) (r : Vec F S2048x64 .f32) : Vec F S2048x64 .f32 := nx (slab1 K) (res1 K r)
def res3 (K : Books F) (r : Vec F S2048x64 .f32) : Vec F S2048x64 .f32 := nx (slab2 K) (res2 K r)

/-- The sum of the chosen entries over the four levels. -/
def acc (K : Books F) (r : Vec F S2048x64 .f32) : Vec F S2048x64 .f32 :=
  add (slab3 K) (res3 K r) (add (slab2 K) (res2 K r) (add (slab1 K) (res1 K r) (add (slab0 K) r k0_pay7)))

/-- The sum of squared errors over the first three levels. -/
def err3 (K : Books F) (r : Vec F S2048x64 .f32) : FVec F S1x1 .f32 :=
  err (slab2 K) (res2 K r) (err (slab1 K) (res1 K r) (err (slab0 K) r k0_pay8))

/-- The block's share of the loss. -/
def share (K : Books F) (r : Vec F S2048x64 .f32) : FVec F S1x1 .f32 :=
  k0_pay39 (err3 K r) (k0_pay36 lane (res3 K r) (k0_pay33 lane (res3 K r) (slab3 K).sq (slab3 K).t)
    (slab3 K).p0 (slab3 K).p1 (slab3 K).p2 (slab3 K).p3)

/-- The decoder on a block of rows. -/
def dec (a : Vec F S2048x64 .f32) (x15 : Vec F S64x128 .f32) (x16 : Vec F S128 .f32) (x17 : Vec F S128x256 .f32) (x18 : Vec F S256 .f32)
    (x19 : Vec F S256x512 .f32) (x20 : Vec F S512 .f32) (x21 : Vec F S512x768 .f32) (x22 : Vec F S768 .f32) : Vec F S2048x768 .f32 :=
  k0_pay45 (k0_pay44 (k0_pay43 (k0_pay42 (k0_pay41 a x15 x16)) x17 x18) x19 x20) x21 x22

/-- The four columns of chosen numbers, as the stores of a block, the last one first. -/
def cols (K : Books F) (r : Vec F S2048x64 .f32) : List (View.Piece (Elt F) S2048x4 .i32) :=
  [⟨Rect.unit ![0, 3] S2048x1.size inb_S2048x4_S2048x1_0_3, best (slab3 K) (res3 K r)⟩,
   ⟨Rect.unit ![0, 2] S2048x1.size inb_S2048x4_S2048x1_0_2, best (slab2 K) (res2 K r)⟩,
   ⟨Rect.unit ![0, 1] S2048x1.size inb_S2048x4_S2048x1_0_1, best (slab1 K) (res1 K r)⟩,
   ⟨Rect.unit ![0, 0] S2048x1.size inb_S2048x4_S2048x1_0_0, best (slab0 K) r⟩]

theorem zero1 : (![0] : Fin 1 → Nat) = fun _ => 0 := by funext a; fin_cases a; rfl
theorem zero2 : (![0, 0] : Fin 2 → Nat) = fun _ => 0 := by funext a; fin_cases a <;> rfl

/-- A load of a whole buffer reads the contents it holds. -/
theorem load_whole {S : Shape} {e : EltTy} {arg : Memref sig .tc .vmem S e} (h : arg.IsWhole) {off : Fin S.rank → Nat} (z : off = fun _ => 0)
    (inb : ∀ a, off a + S.size a ≤ S.size a) (x : S.Idx → Elt F e) :
    View.readAt (Elt F) arg.view (Rect.unit off S.size inb).toLoadRect (h.unread x) = x := by
  rw [View.readAt_eq_ld, h.read_unread, View.ld_unit_zero z]

/-- A load of part of a buffer reads that part of the contents it holds. -/
theorem load_part {S : Shape} {e : EltTy} {arg : Memref sig .tc .vmem S e} (h : arg.IsWhole) (r : Rect S) (x : S.Idx → Elt F e) :
    View.readAt (Elt F) arg.view r.toLoadRect (h.unread x) = View.ld x r := by
  rw [View.readAt_eq_ld, h.read_unread]

/-- A load of a whole buffer reads what the last store to the whole of it left. -/
theorem load_last {S : Shape} {e : EltTy} {sp : Space} (v : View sig .tc sp S e) {off : Fin S.rank → Nat} (z : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst z
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

section

variable (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S4x64x256 .f32) (harg10 : arg10.IsWhole) (arg11 : Memref sig .tc .vmem S4x256x64 .i8) (harg11 : arg11.IsWhole) (arg12 : Memref sig .tc .vmem S4x256x64 .i8) (harg12 : arg12.IsWhole) (arg13 : Memref sig .tc .vmem S4x256x64 .i8) (harg13 : arg13.IsWhole) (arg14 : Memref sig .tc .vmem S4x256x64 .i8) (harg14 : arg14.IsWhole) (arg15 : Memref sig .tc .vmem S4x1x256 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x256 .f32) (harg18 : arg18.IsWhole) (arg19 : Memref sig .tc .vmem S256 .f32) (harg19 : arg19.IsWhole) (arg20 : Memref sig .tc .vmem S256x512 .f32) (harg20 : arg20.IsWhole) (arg21 : Memref sig .tc .vmem S512 .f32) (harg21 : arg21.IsWhole) (arg22 : Memref sig .tc .vmem S512x768 .f32) (harg22 : arg22.IsWhole) (arg23 : Memref sig .tc .vmem S768 .f32) (harg23 : arg23.IsWhole) (arg24 : Memref sig .tc .vmem S2048x768 .f32) (harg24 : arg24.IsWhole) (arg25 : Memref sig .tc .vmem S2048x4 .i32) (harg25 : arg25.IsWhole) (arg26 : Memref sig .tc .vmem S1x1 .f32) (harg26 : arg26.IsWhole) (arg27 : Memref sig .tc .vmem S2048x512 .f32) (harg27 : arg27.IsWhole) (arg28 : Memref sig .tc .vmem S2048x256 .f32) (harg28 : arg28.IsWhole) (arg29 : Memref sig .tc .vmem S2048x128 .f32) (harg29 : arg29.IsWhole) (arg30 : Memref sig .tc .vmem S2048x64 .f32) (harg30 : arg30.IsWhole) (arg31 : Memref sig .tc .vmem S2048x64 .f32) (harg31 : arg31.IsWhole)

variable (x0 : Vec F S2048x768 .f32) (x1 : Vec F S768x512 .f32) (x2 : Vec F S512 .f32) (x3 : Vec F S512x256 .f32) (x4 : Vec F S256 .f32) (x5 : Vec F S256x128 .f32) (x6 : Vec F S128 .f32) (x7 : Vec F S128x64 .f32) (x8 : Vec F S64 .f32) (x9 : Vec F S4x64x256 .f32) (x10 : Vec F S4x256x64 .i8) (x11 : Vec F S4x256x64 .i8) (x12 : Vec F S4x256x64 .i8) (x13 : Vec F S4x256x64 .i8) (x14 : Vec F S4x1x256 .f32) (x15 : Vec F S64x128 .f32) (x16 : Vec F S128 .f32) (x17 : Vec F S128x256 .f32) (x18 : Vec F S256 .f32) (x19 : Vec F S256x512 .f32) (x20 : Vec F S512 .f32) (x21 : Vec F S512x768 .f32) (x22 : Vec F S768 .f32) (xo25 : Vec F S1x1 .f32)

/-! The values that the run at the first grid point names, one after the other. -/

theorem A_v12 : runA.sl.v12 (F := F) c arg1 harg1 arg2 harg2 arg3 harg3 arg27 x0 x1 x2 = (k0_pay1 x0 x1 x2) := by
  unfold runA.sl.v12 runA.sl.HS0_1
  rw [load_last (S := S2048x512) _ zero2, load_whole (S := S2048x768) _ zero2, load_whole (S := S768x512) _ zero2, load_whole (S := S512) _ zero1]

theorem A_v24 : runA.sl.v24 (F := F) c arg1 harg1 arg2 harg2 arg3 harg3 arg4 harg4 arg5 harg5 arg27 arg28 x0 x1 x2 x3 x4 = (k0_pay2 (k0_pay1 x0 x1 x2) x3 x4) := by
  unfold runA.sl.v24 runA.sl.HS1_1
  rw [load_last (S := S2048x256) _ zero2, load_whole (S := S512x256) _ zero2, load_whole (S := S256) _ zero1, A_v12]

theorem A_r : runA.sl.r (F := F) c arg1 harg1 arg2 harg2 arg3 harg3 arg4 harg4 arg5 harg5 arg6 harg6 arg7 harg7 arg27 arg28 x0 x1 x2 x3 x4 x5 x6 = (k0_pay3 (k0_pay2 (k0_pay1 x0 x1 x2) x3 x4) x5 x6) := by
  unfold runA.sl.r
  rw [load_whole (S := S256x128) _ zero2, load_whole (S := S128) _ zero1, A_v24]

theorem A_v36 : runA.sl.v36 (F := F) c arg1 harg1 arg2 harg2 arg3 harg3 arg4 harg4 arg5 harg5 arg6 harg6 arg7 harg7 arg27 arg28 arg29 x0 x1 x2 x3 x4 x5 x6 = (k0_pay5 (k0_pay3 (k0_pay2 (k0_pay1 x0 x1 x2) x3 x4) x5 x6) k0_pay4) := by
  unfold runA.sl.v36 runA.sl.HS2_1
  rw [load_last (S := S2048x128) _ zero2, A_r]

theorem A_v52 : runA.sl.v52 (F := F) c arg1 harg1 arg2 harg2 arg3 harg3 arg4 harg4 arg5 harg5 arg6 harg6 arg7 harg7 arg8 harg8 arg9 harg9 arg27 arg28 arg29 arg30 x0 x1 x2 x3 x4 x5 x6 x7 x8 = (enc x0 x1 x2 x3 x4 x5 x6 x7 x8) := by
  unfold runA.sl.v52 runA.sl.HS3_1
  rw [load_last (S := S2048x64) _ zero2, load_whole (S := S128x64) _ zero2, load_whole (S := S64) _ zero1, A_v36]
  rfl

theorem A_r_1 : runA.sl.r_1 (F := F) c arg1 harg1 arg2 harg2 arg3 harg3 arg4 harg4 arg5 harg5 arg6 harg6 arg7 harg7 arg8 harg8 arg9 harg9 arg10 harg10 arg15 harg15 arg27 arg28 arg29 arg30 x0 x1 x2 x3 x4 x5 x6 x7 x8 x9 x14 = far (slab0 (Books.mk x9 x10 x11 x12 x13 x14)) (enc x0 x1 x2 x3 x4 x5 x6 x7 x8) := by
  unfold runA.sl.r_1
  simp only [load_part]
  rw [A_v52]
  rfl

theorem A_r_2 : runA.sl.r_2 (F := F) c arg1 harg1 arg2 harg2 arg3 harg3 arg4 harg4 arg5 harg5 arg6 harg6 arg7 harg7 arg8 harg8 arg9 harg9 arg10 harg10 arg15 harg15 arg27 arg28 arg29 arg30 x0 x1 x2 x3 x4 x5 x6 x7 x8 x9 x14 = best (slab0 (Books.mk x9 x10 x11 x12 x13 x14)) (enc x0 x1 x2 x3 x4 x5 x6 x7 x8) := by
  unfold runA.sl.r_2
  rw [A_r_1 (x10 := x10) (x11 := x11) (x12 := x12) (x13 := x13)]
  rfl

theorem A_r_3 : runA.sl.r_3 (F := F) c arg1 harg1 arg2 harg2 arg3 harg3 arg4 harg4 arg5 harg5 arg6 harg6 arg7 harg7 arg8 harg8 arg9 harg9 arg10 harg10 arg14 harg14 arg15 harg15 arg27 arg28 arg29 arg30 x0 x1 x2 x3 x4 x5 x6 x7 x8 x9 x13 x14 = k0_pay12 lane (far (slab0 (Books.mk x9 x10 x11 x12 x13 x14)) (enc x0 x1 x2 x3 x4 x5 x6 x7 x8)) (slab0 (Books.mk x9 x10 x11 x12 x13 x14)).p3 := by
  unfold runA.sl.r_3
  simp only [load_part]
  rw [A_r_1 (x10 := x10) (x11 := x11) (x12 := x12) (x13 := x13)]
  rfl

theorem A_r_4 : runA.sl.r_4 (F := F) c arg1 harg1 arg2 harg2 arg3 harg3 arg4 harg4 arg5 harg5 arg6 harg6 arg7 harg7 arg8 harg8 arg9 harg9 arg10 harg10 arg11 harg11 arg12 harg12 arg13 harg13 arg15 harg15 arg27 arg28 arg29 arg30 x0 x1 x2 x3 x4 x5 x6 x7 x8 x9 x10 x11 x12 x14 = k0_pay13 lane (far (slab0 (Books.mk x9 x10 x11 x12 x13 x14)) (enc x0 x1 x2 x3 x4 x5 x6 x7 x8)) (slab0 (Books.mk x9 x10 x11 x12 x13 x14)).p0 (slab0 (Books.mk x9 x10 x11 x12 x13 x14)).p1 (slab0 (Books.mk x9 x10 x11 x12 x13 x14)).p2 := by
  unfold runA.sl.r_4
  simp only [load_part]
  rw [A_r_1 (x10 := x10) (x11 := x11) (x12 := x12) (x13 := x13)]
  rfl

theorem A_r_5 : runA.sl.r_5 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (err (slab0 (Books.mk x9 x10 x11 x12 x13 x14)) (enc x0 x1 x2 x3 x4 x5 x6 x7 x8) k0_pay8) := by
  unfold runA.sl.r_5
  rw [A_v52, A_r_3 (x10 := x10) (x11 := x11) (x12 := x12), A_r_4 (x13 := x13)]
  rfl

theorem A_v116 : runA.sl.v116 (F := F) c arg31 = k0_pay7 := by
  unfold runA.sl.v116 runA.sl.HS4_1
  rw [load_last (S := S2048x64) _ zero2]

theorem A_v122 : runA.sl.v122 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (res1 (Books.mk x9 x10 x11 x12 x13 x14) (enc x0 x1 x2 x3 x4 x5 x6 x7 x8)) := by
  unfold runA.sl.v122 runA.sl.HS3_2
  rw [load_last (S := S2048x64) _ zero2, A_v52, A_r_3 (x10 := x10) (x11 := x11) (x12 := x12), A_r_4 (x13 := x13)]
  unfold k0_pay16; dsimp only; rw [shapeCast_self]
  rfl

theorem A_v186 : runA.sl.v186 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 arg31 x0 x1 x2 x3 x4 x5 x6 x7 x8 x9 x10 x11 x12 x13 x14 = (add (slab0 (Books.mk x9 x10 x11 x12 x13 x14)) (enc x0 x1 x2 x3 x4 x5 x6 x7 x8) k0_pay7) := by
  unfold runA.sl.v186 runA.sl.HS4_2
  rw [load_last (S := S2048x64) _ zero2, A_r_3 (x10 := x10) (x11 := x11) (x12 := x12), A_r_4 (x13 := x13), A_v116]
  unfold k0_pay17; dsimp only; rw [shapeCast_self]
  rfl

theorem A_r_6 : runA.sl.r_6 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = far (slab1 (Books.mk x9 x10 x11 x12 x13 x14)) (res1 (Books.mk x9 x10 x11 x12 x13 x14) (enc x0 x1 x2 x3 x4 x5 x6 x7 x8)) := by
  unfold runA.sl.r_6
  simp only [load_part]
  rw [A_v122]
  rfl

theorem A_r_7 : runA.sl.r_7 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = k0_pay19 (res1 (Books.mk x9 x10 x11 x12 x13 x14) (enc x0 x1 x2 x3 x4 x5 x6 x7 x8)) (slab1 (Books.mk x9 x10 x11 x12 x13 x14)).sq (slab1 (Books.mk x9 x10 x11 x12 x13 x14)).t := by
  unfold runA.sl.r_7
  simp only [load_part]
  rw [A_v122]
  rfl

theorem A_r_8 : runA.sl.r_8 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = best (slab1 (Books.mk x9 x10 x11 x12 x13 x14)) (res1 (Books.mk x9 x10 x11 x12 x13 x14) (enc x0 x1 x2 x3 x4 x5 x6 x7 x8)) := by
  unfold runA.sl.r_8
  rw [A_r_6, A_r_7]
  rfl

theorem A_r_9 : runA.sl.r_9 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = word (slab1 (Books.mk x9 x10 x11 x12 x13 x14)) (res1 (Books.mk x9 x10 x11 x12 x13 x14) (enc x0 x1 x2 x3 x4 x5 x6 x7 x8)) := by
  unfold runA.sl.r_9
  simp only [load_part]
  rw [A_r_6, A_r_7]
  rfl

theorem A_r_10 : runA.sl.r_10 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (err (slab1 (Books.mk x9 x10 x11 x12 x13 x14)) (res1 (Books.mk x9 x10 x11 x12 x13 x14) (enc x0 x1 x2 x3 x4 x5 x6 x7 x8)) (err (slab0 (Books.mk x9 x10 x11 x12 x13 x14)) (enc x0 x1 x2 x3 x4 x5 x6 x7 x8) k0_pay8)) := by
  unfold runA.sl.r_10
  rw [A_r_5, A_v122, A_r_9]
  rfl

theorem A_v192 : runA.sl.v192 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (res2 (Books.mk x9 x10 x11 x12 x13 x14) (enc x0 x1 x2 x3 x4 x5 x6 x7 x8)) := by
  unfold runA.sl.v192 runA.sl.HS3_3
  rw [load_last (S := S2048x64) _ zero2, A_v122, A_r_9]
  unfold k0_pay24; dsimp only; rw [shapeCast_self]
  rfl

theorem A_v256 : runA.sl.v256 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 arg31 x0 x1 x2 x3 x4 x5 x6 x7 x8 x9 x10 x11 x12 x13 x14 = (add (slab1 (Books.mk x9 x10 x11 x12 x13 x14)) (res1 (Books.mk x9 x10 x11 x12 x13 x14) (enc x0 x1 x2 x3 x4 x5 x6 x7 x8)) (add (slab0 (Books.mk x9 x10 x11 x12 x13 x14)) (enc x0 x1 x2 x3 x4 x5 x6 x7 x8) k0_pay7)) := by
  unfold runA.sl.v256 runA.sl.HS4_3
  rw [load_last (S := S2048x64) _ zero2, A_r_9, A_v186]
  unfold k0_pay25; dsimp only; rw [shapeCast_self]
  rfl

theorem A_r_11 : runA.sl.r_11 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = k0_pay26 (res2 (Books.mk x9 x10 x11 x12 x13 x14) (enc x0 x1 x2 x3 x4 x5 x6 x7 x8)) (slab2 (Books.mk x9 x10 x11 x12 x13 x14)).sq (slab2 (Books.mk x9 x10 x11 x12 x13 x14)).t := by
  unfold runA.sl.r_11
  simp only [load_part]
  rw [A_v192]
  rfl

theorem A_r_12 : runA.sl.r_12 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = best (slab2 (Books.mk x9 x10 x11 x12 x13 x14)) (res2 (Books.mk x9 x10 x11 x12 x13 x14) (enc x0 x1 x2 x3 x4 x5 x6 x7 x8)) := by
  unfold runA.sl.r_12
  rw [A_r_11]
  rfl

theorem A_r_13 : runA.sl.r_13 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = row (slab2 (Books.mk x9 x10 x11 x12 x13 x14)) (res2 (Books.mk x9 x10 x11 x12 x13 x14) (enc x0 x1 x2 x3 x4 x5 x6 x7 x8)) := by
  unfold runA.sl.r_13
  simp only [load_part]
  rw [A_r_11]
  rfl

theorem A_r_14 : runA.sl.r_14 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = mulf (subf (row (slab2 (Books.mk x9 x10 x11 x12 x13 x14)) (res2 (Books.mk x9 x10 x11 x12 x13 x14) (enc x0 x1 x2 x3 x4 x5 x6 x7 x8))) (res2 (Books.mk x9 x10 x11 x12 x13 x14) (enc x0 x1 x2 x3 x4 x5 x6 x7 x8))) (subf (row (slab2 (Books.mk x9 x10 x11 x12 x13 x14)) (res2 (Books.mk x9 x10 x11 x12 x13 x14) (enc x0 x1 x2 x3 x4 x5 x6 x7 x8))) (res2 (Books.mk x9 x10 x11 x12 x13 x14) (enc x0 x1 x2 x3 x4 x5 x6 x7 x8))) := by
  unfold runA.sl.r_14
  simp only [load_part]
  rw [A_v192, A_r_11]
  rfl

theorem A_r_15 : runA.sl.r_15 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (err3 (Books.mk x9 x10 x11 x12 x13 x14) (enc x0 x1 x2 x3 x4 x5 x6 x7 x8)) := by
  unfold runA.sl.r_15
  rw [A_r_10, A_r_14]
  rfl

theorem A_v262 : runA.sl.v262 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (res3 (Books.mk x9 x10 x11 x12 x13 x14) (enc x0 x1 x2 x3 x4 x5 x6 x7 x8)) := by
  unfold runA.sl.v262 runA.sl.HS3_4
  rw [load_last (S := S2048x64) _ zero2, A_v192, A_r_13]
  unfold k0_pay31; dsimp only; rw [shapeCast_self]
  rfl

theorem A_v326 : runA.sl.v326 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 arg31 x0 x1 x2 x3 x4 x5 x6 x7 x8 x9 x10 x11 x12 x13 x14 = (add (slab2 (Books.mk x9 x10 x11 x12 x13 x14)) (res2 (Books.mk x9 x10 x11 x12 x13 x14) (enc x0 x1 x2 x3 x4 x5 x6 x7 x8)) (add (slab1 (Books.mk x9 x10 x11 x12 x13 x14)) (res1 (Books.mk x9 x10 x11 x12 x13 x14) (enc x0 x1 x2 x3 x4 x5 x6 x7 x8)) (add (slab0 (Books.mk x9 x10 x11 x12 x13 x14)) (enc x0 x1 x2 x3 x4 x5 x6 x7 x8) k0_pay7))) := by
  unfold runA.sl.v326 runA.sl.HS4_4
  rw [load_last (S := S2048x64) _ zero2, A_r_13, A_v256]
  unfold k0_pay32; dsimp only; rw [shapeCast_self]
  rfl

theorem A_r_16 : runA.sl.r_16 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = k0_pay33 lane (res3 (Books.mk x9 x10 x11 x12 x13 x14) (enc x0 x1 x2 x3 x4 x5 x6 x7 x8)) (slab3 (Books.mk x9 x10 x11 x12 x13 x14)).sq (slab3 (Books.mk x9 x10 x11 x12 x13 x14)).t := by
  unfold runA.sl.r_16
  simp only [load_part]
  rw [A_v262]
  rfl

theorem A_r_17 : runA.sl.r_17 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = best (slab3 (Books.mk x9 x10 x11 x12 x13 x14)) (res3 (Books.mk x9 x10 x11 x12 x13 x14) (enc x0 x1 x2 x3 x4 x5 x6 x7 x8)) := by
  unfold runA.sl.r_17
  rw [A_r_16]
  rfl

theorem A_r_18 : runA.sl.r_18 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = row (slab3 (Books.mk x9 x10 x11 x12 x13 x14)) (res3 (Books.mk x9 x10 x11 x12 x13 x14) (enc x0 x1 x2 x3 x4 x5 x6 x7 x8)) := by
  unfold runA.sl.r_18
  simp only [load_part]
  rw [A_r_16]
  rfl

theorem A_r_19 : runA.sl.r_19 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = k0_pay36 lane (res3 (Books.mk x9 x10 x11 x12 x13 x14) (enc x0 x1 x2 x3 x4 x5 x6 x7 x8)) (k0_pay33 lane (res3 (Books.mk x9 x10 x11 x12 x13 x14) (enc x0 x1 x2 x3 x4 x5 x6 x7 x8)) (slab3 (Books.mk x9 x10 x11 x12 x13 x14)).sq (slab3 (Books.mk x9 x10 x11 x12 x13 x14)).t) (slab3 (Books.mk x9 x10 x11 x12 x13 x14)).p0 (slab3 (Books.mk x9 x10 x11 x12 x13 x14)).p1 (slab3 (Books.mk x9 x10 x11 x12 x13 x14)).p2 (slab3 (Books.mk x9 x10 x11 x12 x13 x14)).p3 := by
  unfold runA.sl.r_19
  simp only [load_part]
  rw [A_v262, A_r_16]
  rfl

theorem A_v340 : runA.sl.v340 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 arg31 x0 x1 x2 x3 x4 x5 x6 x7 x8 x9 x10 x11 x12 x13 x14 = (acc (Books.mk x9 x10 x11 x12 x13 x14) (enc x0 x1 x2 x3 x4 x5 x6 x7 x8)) := by
  unfold runA.sl.v340 runA.sl.HS4_5
  rw [load_last (S := S2048x64) _ zero2, A_r_18, A_v326]
  unfold k0_pay38; dsimp only; rw [shapeCast_self]
  rfl

theorem A_r_20 : runA.sl.r_20 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg27 arg28 arg29 arg30 arg31 x0 x1 x2 x3 x4 x5 x6 x7 x8 x9 x10 x11 x12 x13 x14 x15 x16 = k0_pay41 (acc (Books.mk x9 x10 x11 x12 x13 x14) (enc x0 x1 x2 x3 x4 x5 x6 x7 x8)) x15 x16 := by
  unfold runA.sl.r_20
  rw [load_whole (S := S64x128) _ zero2, load_whole (S := S128) _ zero1, A_v340]

theorem A_v352 : runA.sl.v352 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg27 arg28 arg29 arg30 arg31 x0 x1 x2 x3 x4 x5 x6 x7 x8 x9 x10 x11 x12 x13 x14 x15 x16 = (k0_pay42 (k0_pay41 (acc (Books.mk x9 x10 x11 x12 x13 x14) (enc x0 x1 x2 x3 x4 x5 x6 x7 x8)) x15 x16)) := by
  unfold runA.sl.v352 runA.sl.HS2_2
  rw [load_last (S := S2048x128) _ zero2, A_r_20]

theorem A_v364 : runA.sl.v364 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg27 arg28 arg29 arg30 arg31 x0 x1 x2 x3 x4 x5 x6 x7 x8 x9 x10 x11 x12 x13 x14 x15 x16 x17 x18 = (k0_pay43 (k0_pay42 (k0_pay41 (acc (Books.mk x9 x10 x11 x12 x13 x14) (enc x0 x1 x2 x3 x4 x5 x6 x7 x8)) x15 x16)) x17 x18) := by
  unfold runA.sl.v364 runA.sl.HS1_2
  rw [load_last (S := S2048x256) _ zero2, load_whole (S := S128x256) _ zero2, load_whole (S := S256) _ zero1, A_v352]

theorem A_v376 : runA.sl.v376 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg27 arg28 arg29 arg30 arg31 x0 x1 x2 x3 x4 x5 x6 x7 x8 x9 x10 x11 x12 x13 x14 x15 x16 x17 x18 x19 x20 = (k0_pay44 (k0_pay43 (k0_pay42 (k0_pay41 (acc (Books.mk x9 x10 x11 x12 x13 x14) (enc x0 x1 x2 x3 x4 x5 x6 x7 x8)) x15 x16)) x17 x18) x19 x20) := by
  unfold runA.sl.v376 runA.sl.HS0_2
  rw [load_last (S := S2048x512) _ zero2, load_whole (S := S256x512) _ zero2, load_whole (S := S512) _ zero1, A_v364]

theorem A_r_21 : runA.sl.r_21 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg27 arg28 arg29 arg30 arg31 x0 x1 x2 x3 x4 x5 x6 x7 x8 x9 x10 x11 x12 x13 x14 x15 x16 x17 x18 x19 x20 x21 x22 = dec (acc (Books.mk x9 x10 x11 x12 x13 x14) (enc x0 x1 x2 x3 x4 x5 x6 x7 x8)) x15 x16 x17 x18 x19 x20 x21 x22 := by
  unfold runA.sl.r_21
  rw [load_whole (S := S512x768) _ zero2, load_whole (S := S768) _ zero1, A_v376]
  rfl

/-! The values that the run at a later grid point names, one after the other. -/

theorem B_v12 : runB.sl.v12 (F := F) c arg1 harg1 arg2 harg2 arg3 harg3 arg27 x0 x1 x2 = (k0_pay1 x0 x1 x2) := by
  unfold runB.sl.v12 runB.sl.HS0_1
  rw [load_last (S := S2048x512) _ zero2, load_whole (S := S2048x768) _ zero2, load_whole (S := S768x512) _ zero2, load_whole (S := S512) _ zero1]

theorem B_v24 : runB.sl.v24 (F := F) c arg1 harg1 arg2 harg2 arg3 harg3 arg4 harg4 arg5 harg5 arg27 arg28 x0 x1 x2 x3 x4 = (k0_pay2 (k0_pay1 x0 x1 x2) x3 x4) := by
  unfold runB.sl.v24 runB.sl.HS1_1
  rw [load_last (S := S2048x256) _ zero2, load_whole (S := S512x256) _ zero2, load_whole (S := S256) _ zero1, B_v12]

theorem B_r : runB.sl.r (F := F) c arg1 harg1 arg2 harg2 arg3 harg3 arg4 harg4 arg5 harg5 arg6 harg6 arg7 harg7 arg27 arg28 x0 x1 x2 x3 x4 x5 x6 = (k0_pay3 (k0_pay2 (k0_pay1 x0 x1 x2) x3 x4) x5 x6) := by
  unfold runB.sl.r
  rw [load_whole (S := S256x128) _ zero2, load_whole (S := S128) _ zero1, B_v24]

theorem B_v36 : runB.sl.v36 (F := F) c arg1 harg1 arg2 harg2 arg3 harg3 arg4 harg4 arg5 harg5 arg6 harg6 arg7 harg7 arg27 arg28 arg29 x0 x1 x2 x3 x4 x5 x6 = (k0_pay5 (k0_pay3 (k0_pay2 (k0_pay1 x0 x1 x2) x3 x4) x5 x6) k0_pay4) := by
  unfold runB.sl.v36 runB.sl.HS2_1
  rw [load_last (S := S2048x128) _ zero2, B_r]

theorem B_v52 : runB.sl.v52 (F := F) c arg1 harg1 arg2 harg2 arg3 harg3 arg4 harg4 arg5 harg5 arg6 harg6 arg7 harg7 arg8 harg8 arg9 harg9 arg27 arg28 arg29 arg30 x0 x1 x2 x3 x4 x5 x6 x7 x8 = (enc x0 x1 x2 x3 x4 x5 x6 x7 x8) := by
  unfold runB.sl.v52 runB.sl.HS3_1
  rw [load_last (S := S2048x64) _ zero2, load_whole (S := S128x64) _ zero2, load_whole (S := S64) _ zero1, B_v36]
  rfl

theorem B_r_1 : runB.sl.r_1 (F := F) c arg1 harg1 arg2 harg2 arg3 harg3 arg4 harg4 arg5 harg5 arg6 harg6 arg7 harg7 arg8 harg8 arg9 harg9 arg10 harg10 arg15 harg15 arg27 arg28 arg29 arg30 x0 x1 x2 x3 x4 x5 x6 x7 x8 x9 x14 = far (slab0 (Books.mk x9 x10 x11 x12 x13 x14)) (enc x0 x1 x2 x3 x4 x5 x6 x7 x8) := by
  unfold runB.sl.r_1
  simp only [load_part]
  rw [B_v52]
  rfl

theorem B_r_2 : runB.sl.r_2 (F := F) c arg1 harg1 arg2 harg2 arg3 harg3 arg4 harg4 arg5 harg5 arg6 harg6 arg7 harg7 arg8 harg8 arg9 harg9 arg10 harg10 arg15 harg15 arg27 arg28 arg29 arg30 x0 x1 x2 x3 x4 x5 x6 x7 x8 x9 x14 = best (slab0 (Books.mk x9 x10 x11 x12 x13 x14)) (enc x0 x1 x2 x3 x4 x5 x6 x7 x8) := by
  unfold runB.sl.r_2
  rw [B_r_1 (x10 := x10) (x11 := x11) (x12 := x12) (x13 := x13)]
  rfl

theorem B_r_3 : runB.sl.r_3 (F := F) c arg1 harg1 arg2 harg2 arg3 harg3 arg4 harg4 arg5 harg5 arg6 harg6 arg7 harg7 arg8 harg8 arg9 harg9 arg10 harg10 arg14 harg14 arg15 harg15 arg27 arg28 arg29 arg30 x0 x1 x2 x3 x4 x5 x6 x7 x8 x9 x13 x14 = k0_pay12 lane (far (slab0 (Books.mk x9 x10 x11 x12 x13 x14)) (enc x0 x1 x2 x3 x4 x5 x6 x7 x8)) (slab0 (Books.mk x9 x10 x11 x12 x13 x14)).p3 := by
  unfold runB.sl.r_3
  simp only [load_part]
  rw [B_r_1 (x10 := x10) (x11 := x11) (x12 := x12) (x13 := x13)]
  rfl

theorem B_r_4 : runB.sl.r_4 (F := F) c arg1 harg1 arg2 harg2 arg3 harg3 arg4 harg4 arg5 harg5 arg6 harg6 arg7 harg7 arg8 harg8 arg9 harg9 arg10 harg10 arg11 harg11 arg12 harg12 arg13 harg13 arg15 harg15 arg27 arg28 arg29 arg30 x0 x1 x2 x3 x4 x5 x6 x7 x8 x9 x10 x11 x12 x14 = k0_pay13 lane (far (slab0 (Books.mk x9 x10 x11 x12 x13 x14)) (enc x0 x1 x2 x3 x4 x5 x6 x7 x8)) (slab0 (Books.mk x9 x10 x11 x12 x13 x14)).p0 (slab0 (Books.mk x9 x10 x11 x12 x13 x14)).p1 (slab0 (Books.mk x9 x10 x11 x12 x13 x14)).p2 := by
  unfold runB.sl.r_4
  simp only [load_part]
  rw [B_r_1 (x10 := x10) (x11 := x11) (x12 := x12) (x13 := x13)]
  rfl

theorem B_r_5 : runB.sl.r_5 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (err (slab0 (Books.mk x9 x10 x11 x12 x13 x14)) (enc x0 x1 x2 x3 x4 x5 x6 x7 x8) k0_pay8) := by
  unfold runB.sl.r_5
  rw [B_v52, B_r_3 (x10 := x10) (x11 := x11) (x12 := x12), B_r_4 (x13 := x13)]
  rfl

theorem B_v116 : runB.sl.v116 (F := F) c arg31 = k0_pay7 := by
  unfold runB.sl.v116 runB.sl.HS4_1
  rw [load_last (S := S2048x64) _ zero2]

theorem B_v122 : runB.sl.v122 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (res1 (Books.mk x9 x10 x11 x12 x13 x14) (enc x0 x1 x2 x3 x4 x5 x6 x7 x8)) := by
  unfold runB.sl.v122 runB.sl.HS3_2
  rw [load_last (S := S2048x64) _ zero2, B_v52, B_r_3 (x10 := x10) (x11 := x11) (x12 := x12), B_r_4 (x13 := x13)]
  unfold k0_pay16; dsimp only; rw [shapeCast_self]
  rfl

theorem B_v186 : runB.sl.v186 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 arg31 x0 x1 x2 x3 x4 x5 x6 x7 x8 x9 x10 x11 x12 x13 x14 = (add (slab0 (Books.mk x9 x10 x11 x12 x13 x14)) (enc x0 x1 x2 x3 x4 x5 x6 x7 x8) k0_pay7) := by
  unfold runB.sl.v186 runB.sl.HS4_2
  rw [load_last (S := S2048x64) _ zero2, B_r_3 (x10 := x10) (x11 := x11) (x12 := x12), B_r_4 (x13 := x13), B_v116]
  unfold k0_pay17; dsimp only; rw [shapeCast_self]
  rfl

theorem B_r_6 : runB.sl.r_6 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = far (slab1 (Books.mk x9 x10 x11 x12 x13 x14)) (res1 (Books.mk x9 x10 x11 x12 x13 x14) (enc x0 x1 x2 x3 x4 x5 x6 x7 x8)) := by
  unfold runB.sl.r_6
  simp only [load_part]
  rw [B_v122]
  rfl

theorem B_r_7 : runB.sl.r_7 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = k0_pay19 (res1 (Books.mk x9 x10 x11 x12 x13 x14) (enc x0 x1 x2 x3 x4 x5 x6 x7 x8)) (slab1 (Books.mk x9 x10 x11 x12 x13 x14)).sq (slab1 (Books.mk x9 x10 x11 x12 x13 x14)).t := by
  unfold runB.sl.r_7
  simp only [load_part]
  rw [B_v122]
  rfl

theorem B_r_8 : runB.sl.r_8 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = best (slab1 (Books.mk x9 x10 x11 x12 x13 x14)) (res1 (Books.mk x9 x10 x11 x12 x13 x14) (enc x0 x1 x2 x3 x4 x5 x6 x7 x8)) := by
  unfold runB.sl.r_8
  rw [B_r_6, B_r_7]
  rfl

theorem B_r_9 : runB.sl.r_9 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = word (slab1 (Books.mk x9 x10 x11 x12 x13 x14)) (res1 (Books.mk x9 x10 x11 x12 x13 x14) (enc x0 x1 x2 x3 x4 x5 x6 x7 x8)) := by
  unfold runB.sl.r_9
  simp only [load_part]
  rw [B_r_6, B_r_7]
  rfl

theorem B_r_10 : runB.sl.r_10 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (err (slab1 (Books.mk x9 x10 x11 x12 x13 x14)) (res1 (Books.mk x9 x10 x11 x12 x13 x14) (enc x0 x1 x2 x3 x4 x5 x6 x7 x8)) (err (slab0 (Books.mk x9 x10 x11 x12 x13 x14)) (enc x0 x1 x2 x3 x4 x5 x6 x7 x8) k0_pay8)) := by
  unfold runB.sl.r_10
  rw [B_r_5, B_v122, B_r_9]
  rfl

theorem B_v192 : runB.sl.v192 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (res2 (Books.mk x9 x10 x11 x12 x13 x14) (enc x0 x1 x2 x3 x4 x5 x6 x7 x8)) := by
  unfold runB.sl.v192 runB.sl.HS3_3
  rw [load_last (S := S2048x64) _ zero2, B_v122, B_r_9]
  unfold k0_pay24; dsimp only; rw [shapeCast_self]
  rfl

theorem B_v256 : runB.sl.v256 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 arg31 x0 x1 x2 x3 x4 x5 x6 x7 x8 x9 x10 x11 x12 x13 x14 = (add (slab1 (Books.mk x9 x10 x11 x12 x13 x14)) (res1 (Books.mk x9 x10 x11 x12 x13 x14) (enc x0 x1 x2 x3 x4 x5 x6 x7 x8)) (add (slab0 (Books.mk x9 x10 x11 x12 x13 x14)) (enc x0 x1 x2 x3 x4 x5 x6 x7 x8) k0_pay7)) := by
  unfold runB.sl.v256 runB.sl.HS4_3
  rw [load_last (S := S2048x64) _ zero2, B_r_9, B_v186]
  unfold k0_pay25; dsimp only; rw [shapeCast_self]
  rfl

theorem B_r_11 : runB.sl.r_11 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = k0_pay26 (res2 (Books.mk x9 x10 x11 x12 x13 x14) (enc x0 x1 x2 x3 x4 x5 x6 x7 x8)) (slab2 (Books.mk x9 x10 x11 x12 x13 x14)).sq (slab2 (Books.mk x9 x10 x11 x12 x13 x14)).t := by
  unfold runB.sl.r_11
  simp only [load_part]
  rw [B_v192]
  rfl

theorem B_r_12 : runB.sl.r_12 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = best (slab2 (Books.mk x9 x10 x11 x12 x13 x14)) (res2 (Books.mk x9 x10 x11 x12 x13 x14) (enc x0 x1 x2 x3 x4 x5 x6 x7 x8)) := by
  unfold runB.sl.r_12
  rw [B_r_11]
  rfl

theorem B_r_13 : runB.sl.r_13 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = row (slab2 (Books.mk x9 x10 x11 x12 x13 x14)) (res2 (Books.mk x9 x10 x11 x12 x13 x14) (enc x0 x1 x2 x3 x4 x5 x6 x7 x8)) := by
  unfold runB.sl.r_13
  simp only [load_part]
  rw [B_r_11]
  rfl

theorem B_r_14 : runB.sl.r_14 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = mulf (subf (row (slab2 (Books.mk x9 x10 x11 x12 x13 x14)) (res2 (Books.mk x9 x10 x11 x12 x13 x14) (enc x0 x1 x2 x3 x4 x5 x6 x7 x8))) (res2 (Books.mk x9 x10 x11 x12 x13 x14) (enc x0 x1 x2 x3 x4 x5 x6 x7 x8))) (subf (row (slab2 (Books.mk x9 x10 x11 x12 x13 x14)) (res2 (Books.mk x9 x10 x11 x12 x13 x14) (enc x0 x1 x2 x3 x4 x5 x6 x7 x8))) (res2 (Books.mk x9 x10 x11 x12 x13 x14) (enc x0 x1 x2 x3 x4 x5 x6 x7 x8))) := by
  unfold runB.sl.r_14
  simp only [load_part]
  rw [B_v192, B_r_11]
  rfl

theorem B_r_15 : runB.sl.r_15 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (err3 (Books.mk x9 x10 x11 x12 x13 x14) (enc x0 x1 x2 x3 x4 x5 x6 x7 x8)) := by
  unfold runB.sl.r_15
  rw [B_r_10, B_r_14]
  rfl

theorem B_v262 : runB.sl.v262 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = (res3 (Books.mk x9 x10 x11 x12 x13 x14) (enc x0 x1 x2 x3 x4 x5 x6 x7 x8)) := by
  unfold runB.sl.v262 runB.sl.HS3_4
  rw [load_last (S := S2048x64) _ zero2, B_v192, B_r_13]
  unfold k0_pay31; dsimp only; rw [shapeCast_self]
  rfl

theorem B_v326 : runB.sl.v326 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 arg31 x0 x1 x2 x3 x4 x5 x6 x7 x8 x9 x10 x11 x12 x13 x14 = (add (slab2 (Books.mk x9 x10 x11 x12 x13 x14)) (res2 (Books.mk x9 x10 x11 x12 x13 x14) (enc x0 x1 x2 x3 x4 x5 x6 x7 x8)) (add (slab1 (Books.mk x9 x10 x11 x12 x13 x14)) (res1 (Books.mk x9 x10 x11 x12 x13 x14) (enc x0 x1 x2 x3 x4 x5 x6 x7 x8)) (add (slab0 (Books.mk x9 x10 x11 x12 x13 x14)) (enc x0 x1 x2 x3 x4 x5 x6 x7 x8) k0_pay7))) := by
  unfold runB.sl.v326 runB.sl.HS4_4
  rw [load_last (S := S2048x64) _ zero2, B_r_13, B_v256]
  unfold k0_pay32; dsimp only; rw [shapeCast_self]
  rfl

theorem B_r_16 : runB.sl.r_16 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = k0_pay33 lane (res3 (Books.mk x9 x10 x11 x12 x13 x14) (enc x0 x1 x2 x3 x4 x5 x6 x7 x8)) (slab3 (Books.mk x9 x10 x11 x12 x13 x14)).sq (slab3 (Books.mk x9 x10 x11 x12 x13 x14)).t := by
  unfold runB.sl.r_16
  simp only [load_part]
  rw [B_v262]
  rfl

theorem B_r_17 : runB.sl.r_17 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = best (slab3 (Books.mk x9 x10 x11 x12 x13 x14)) (res3 (Books.mk x9 x10 x11 x12 x13 x14) (enc x0 x1 x2 x3 x4 x5 x6 x7 x8)) := by
  unfold runB.sl.r_17
  rw [B_r_16]
  rfl

theorem B_r_18 : runB.sl.r_18 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = row (slab3 (Books.mk x9 x10 x11 x12 x13 x14)) (res3 (Books.mk x9 x10 x11 x12 x13 x14) (enc x0 x1 x2 x3 x4 x5 x6 x7 x8)) := by
  unfold runB.sl.r_18
  simp only [load_part]
  rw [B_r_16]
  rfl

theorem B_r_19 : runB.sl.r_19 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 x0 x1 x2 x3 x4 x5 x6 x7 x8 x9 x10 x11 x12 x13 x14 = k0_pay36 lane (res3 (Books.mk x9 x10 x11 x12 x13 x14) (enc x0 x1 x2 x3 x4 x5 x6 x7 x8)) (k0_pay33 lane (res3 (Books.mk x9 x10 x11 x12 x13 x14) (enc x0 x1 x2 x3 x4 x5 x6 x7 x8)) (slab3 (Books.mk x9 x10 x11 x12 x13 x14)).sq (slab3 (Books.mk x9 x10 x11 x12 x13 x14)).t) (slab3 (Books.mk x9 x10 x11 x12 x13 x14)).p0 (slab3 (Books.mk x9 x10 x11 x12 x13 x14)).p1 (slab3 (Books.mk x9 x10 x11 x12 x13 x14)).p2 (slab3 (Books.mk x9 x10 x11 x12 x13 x14)).p3 := by
  unfold runB.sl.r_19
  simp only [load_part]
  rw [B_v262, B_r_16]
  rfl

theorem B_v340 : runB.sl.v340 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg27 arg28 arg29 arg30 arg31 x0 x1 x2 x3 x4 x5 x6 x7 x8 x9 x10 x11 x12 x13 x14 = (acc (Books.mk x9 x10 x11 x12 x13 x14) (enc x0 x1 x2 x3 x4 x5 x6 x7 x8)) := by
  unfold runB.sl.v340 runB.sl.HS4_5
  rw [load_last (S := S2048x64) _ zero2, B_r_18, B_v326]
  unfold k0_pay38; dsimp only; rw [shapeCast_self]
  rfl

theorem B_r_20 : runB.sl.r_20 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg27 arg28 arg29 arg30 arg31 x0 x1 x2 x3 x4 x5 x6 x7 x8 x9 x10 x11 x12 x13 x14 x15 x16 = k0_pay41 (acc (Books.mk x9 x10 x11 x12 x13 x14) (enc x0 x1 x2 x3 x4 x5 x6 x7 x8)) x15 x16 := by
  unfold runB.sl.r_20
  rw [load_whole (S := S64x128) _ zero2, load_whole (S := S128) _ zero1, B_v340]

theorem B_v352 : runB.sl.v352 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg27 arg28 arg29 arg30 arg31 x0 x1 x2 x3 x4 x5 x6 x7 x8 x9 x10 x11 x12 x13 x14 x15 x16 = (k0_pay42 (k0_pay41 (acc (Books.mk x9 x10 x11 x12 x13 x14) (enc x0 x1 x2 x3 x4 x5 x6 x7 x8)) x15 x16)) := by
  unfold runB.sl.v352 runB.sl.HS2_2
  rw [load_last (S := S2048x128) _ zero2, B_r_20]

theorem B_v364 : runB.sl.v364 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg27 arg28 arg29 arg30 arg31 x0 x1 x2 x3 x4 x5 x6 x7 x8 x9 x10 x11 x12 x13 x14 x15 x16 x17 x18 = (k0_pay43 (k0_pay42 (k0_pay41 (acc (Books.mk x9 x10 x11 x12 x13 x14) (enc x0 x1 x2 x3 x4 x5 x6 x7 x8)) x15 x16)) x17 x18) := by
  unfold runB.sl.v364 runB.sl.HS1_2
  rw [load_last (S := S2048x256) _ zero2, load_whole (S := S128x256) _ zero2, load_whole (S := S256) _ zero1, B_v352]

theorem B_v376 : runB.sl.v376 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg27 arg28 arg29 arg30 arg31 x0 x1 x2 x3 x4 x5 x6 x7 x8 x9 x10 x11 x12 x13 x14 x15 x16 x17 x18 x19 x20 = (k0_pay44 (k0_pay43 (k0_pay42 (k0_pay41 (acc (Books.mk x9 x10 x11 x12 x13 x14) (enc x0 x1 x2 x3 x4 x5 x6 x7 x8)) x15 x16)) x17 x18) x19 x20) := by
  unfold runB.sl.v376 runB.sl.HS0_2
  rw [load_last (S := S2048x512) _ zero2, load_whole (S := S256x512) _ zero2, load_whole (S := S512) _ zero1, B_v364]

theorem B_r_21 : runB.sl.r_21 (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg27 arg28 arg29 arg30 arg31 x0 x1 x2 x3 x4 x5 x6 x7 x8 x9 x10 x11 x12 x13 x14 x15 x16 x17 x18 x19 x20 x21 x22 = dec (acc (Books.mk x9 x10 x11 x12 x13 x14) (enc x0 x1 x2 x3 x4 x5 x6 x7 x8)) x15 x16 x17 x18 x19 x20 x21 x22 := by
  unfold runB.sl.r_21
  rw [load_whole (S := S512x768) _ zero2, load_whole (S := S768) _ zero1, B_v376]
  rfl

end

/-- The output block at the first grid point. -/
theorem A_out (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S4x64x256 .f32) (harg10 : arg10.IsWhole) (arg11 : Memref sig .tc .vmem S4x256x64 .i8) (harg11 : arg11.IsWhole) (arg12 : Memref sig .tc .vmem S4x256x64 .i8) (harg12 : arg12.IsWhole) (arg13 : Memref sig .tc .vmem S4x256x64 .i8) (harg13 : arg13.IsWhole) (arg14 : Memref sig .tc .vmem S4x256x64 .i8) (harg14 : arg14.IsWhole) (arg15 : Memref sig .tc .vmem S4x1x256 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x256 .f32) (harg18 : arg18.IsWhole) (arg19 : Memref sig .tc .vmem S256 .f32) (harg19 : arg19.IsWhole) (arg20 : Memref sig .tc .vmem S256x512 .f32) (harg20 : arg20.IsWhole) (arg21 : Memref sig .tc .vmem S512 .f32) (harg21 : arg21.IsWhole) (arg22 : Memref sig .tc .vmem S512x768 .f32) (harg22 : arg22.IsWhole) (arg23 : Memref sig .tc .vmem S768 .f32) (harg23 : arg23.IsWhole) (arg24 : Memref sig .tc .vmem S2048x768 .f32) (harg24 : arg24.IsWhole) (arg25 : Memref sig .tc .vmem S2048x4 .i32) (harg25 : arg25.IsWhole) (arg26 : Memref sig .tc .vmem S1x1 .f32) (harg26 : arg26.IsWhole) (arg27 : Memref sig .tc .vmem S2048x512 .f32) (harg27 : arg27.IsWhole) (arg28 : Memref sig .tc .vmem S2048x256 .f32) (harg28 : arg28.IsWhole) (arg29 : Memref sig .tc .vmem S2048x128 .f32) (harg29 : arg29.IsWhole) (arg30 : Memref sig .tc .vmem S2048x64 .f32) (harg30 : arg30.IsWhole) (arg31 : Memref sig .tc .vmem S2048x64 .f32) (harg31 : arg31.IsWhole) (hc0 : cond0_0 i) (hc1 : ¬cond0_1 i)
    (x0 : Vec F S2048x768 .f32) (x1 : Vec F S768x512 .f32) (x2 : Vec F S512 .f32) (x3 : Vec F S512x256 .f32) (x4 : Vec F S256 .f32) (x5 : Vec F S256x128 .f32) (x6 : Vec F S128 .f32) (x7 : Vec F S128x64 .f32) (x8 : Vec F S64 .f32) (x9 : Vec F S4x64x256 .f32) (x10 : Vec F S4x256x64 .i8) (x11 : Vec F S4x256x64 .i8) (x12 : Vec F S4x256x64 .i8) (x13 : Vec F S4x256x64 .i8) (x14 : Vec F S4x1x256 .f32) (x15 : Vec F S64x128 .f32) (x16 : Vec F S128 .f32) (x17 : Vec F S128x256 .f32) (x18 : Vec F S256 .f32) (x19 : Vec F S256x512 .f32) (x20 : Vec F S512 .f32) (x21 : Vec F S512x768 .f32) (x22 : Vec F S768 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22).1 =
      [⟨Rect.unit ![0, 0] ![2048, 768] inb_S2048x768_S2048x768_0_0, dec (acc (Books.mk x9 x10 x11 x12 x13 x14) (enc x0 x1 x2 x3 x4 x5 x6 x7 x8)) x15 x16 x17 x18 x19 x20 x21 x22⟩] := by
  unfold runA; dsimp only; rw [A_r_21]

/-- The number block at the first grid point. -/
theorem A_cols (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S4x64x256 .f32) (harg10 : arg10.IsWhole) (arg11 : Memref sig .tc .vmem S4x256x64 .i8) (harg11 : arg11.IsWhole) (arg12 : Memref sig .tc .vmem S4x256x64 .i8) (harg12 : arg12.IsWhole) (arg13 : Memref sig .tc .vmem S4x256x64 .i8) (harg13 : arg13.IsWhole) (arg14 : Memref sig .tc .vmem S4x256x64 .i8) (harg14 : arg14.IsWhole) (arg15 : Memref sig .tc .vmem S4x1x256 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x256 .f32) (harg18 : arg18.IsWhole) (arg19 : Memref sig .tc .vmem S256 .f32) (harg19 : arg19.IsWhole) (arg20 : Memref sig .tc .vmem S256x512 .f32) (harg20 : arg20.IsWhole) (arg21 : Memref sig .tc .vmem S512 .f32) (harg21 : arg21.IsWhole) (arg22 : Memref sig .tc .vmem S512x768 .f32) (harg22 : arg22.IsWhole) (arg23 : Memref sig .tc .vmem S768 .f32) (harg23 : arg23.IsWhole) (arg24 : Memref sig .tc .vmem S2048x768 .f32) (harg24 : arg24.IsWhole) (arg25 : Memref sig .tc .vmem S2048x4 .i32) (harg25 : arg25.IsWhole) (arg26 : Memref sig .tc .vmem S1x1 .f32) (harg26 : arg26.IsWhole) (arg27 : Memref sig .tc .vmem S2048x512 .f32) (harg27 : arg27.IsWhole) (arg28 : Memref sig .tc .vmem S2048x256 .f32) (harg28 : arg28.IsWhole) (arg29 : Memref sig .tc .vmem S2048x128 .f32) (harg29 : arg29.IsWhole) (arg30 : Memref sig .tc .vmem S2048x64 .f32) (harg30 : arg30.IsWhole) (arg31 : Memref sig .tc .vmem S2048x64 .f32) (harg31 : arg31.IsWhole) (hc0 : cond0_0 i) (hc1 : ¬cond0_1 i)
    (x0 : Vec F S2048x768 .f32) (x1 : Vec F S768x512 .f32) (x2 : Vec F S512 .f32) (x3 : Vec F S512x256 .f32) (x4 : Vec F S256 .f32) (x5 : Vec F S256x128 .f32) (x6 : Vec F S128 .f32) (x7 : Vec F S128x64 .f32) (x8 : Vec F S64 .f32) (x9 : Vec F S4x64x256 .f32) (x10 : Vec F S4x256x64 .i8) (x11 : Vec F S4x256x64 .i8) (x12 : Vec F S4x256x64 .i8) (x13 : Vec F S4x256x64 .i8) (x14 : Vec F S4x1x256 .f32) (x15 : Vec F S64x128 .f32) (x16 : Vec F S128 .f32) (x17 : Vec F S128x256 .f32) (x18 : Vec F S256 .f32) (x19 : Vec F S256x512 .f32) (x20 : Vec F S512 .f32) (x21 : Vec F S512x768 .f32) (x22 : Vec F S768 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22).2.1 = cols (Books.mk x9 x10 x11 x12 x13 x14) (enc x0 x1 x2 x3 x4 x5 x6 x7 x8) := by
  unfold runA; dsimp only; rw [A_r_2, A_r_8, A_r_12, A_r_17]; rfl

/-- The loss block at the first grid point. -/
theorem A_loss (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S4x64x256 .f32) (harg10 : arg10.IsWhole) (arg11 : Memref sig .tc .vmem S4x256x64 .i8) (harg11 : arg11.IsWhole) (arg12 : Memref sig .tc .vmem S4x256x64 .i8) (harg12 : arg12.IsWhole) (arg13 : Memref sig .tc .vmem S4x256x64 .i8) (harg13 : arg13.IsWhole) (arg14 : Memref sig .tc .vmem S4x256x64 .i8) (harg14 : arg14.IsWhole) (arg15 : Memref sig .tc .vmem S4x1x256 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x256 .f32) (harg18 : arg18.IsWhole) (arg19 : Memref sig .tc .vmem S256 .f32) (harg19 : arg19.IsWhole) (arg20 : Memref sig .tc .vmem S256x512 .f32) (harg20 : arg20.IsWhole) (arg21 : Memref sig .tc .vmem S512 .f32) (harg21 : arg21.IsWhole) (arg22 : Memref sig .tc .vmem S512x768 .f32) (harg22 : arg22.IsWhole) (arg23 : Memref sig .tc .vmem S768 .f32) (harg23 : arg23.IsWhole) (arg24 : Memref sig .tc .vmem S2048x768 .f32) (harg24 : arg24.IsWhole) (arg25 : Memref sig .tc .vmem S2048x4 .i32) (harg25 : arg25.IsWhole) (arg26 : Memref sig .tc .vmem S1x1 .f32) (harg26 : arg26.IsWhole) (arg27 : Memref sig .tc .vmem S2048x512 .f32) (harg27 : arg27.IsWhole) (arg28 : Memref sig .tc .vmem S2048x256 .f32) (harg28 : arg28.IsWhole) (arg29 : Memref sig .tc .vmem S2048x128 .f32) (harg29 : arg29.IsWhole) (arg30 : Memref sig .tc .vmem S2048x64 .f32) (harg30 : arg30.IsWhole) (arg31 : Memref sig .tc .vmem S2048x64 .f32) (harg31 : arg31.IsWhole) (hc0 : cond0_0 i) (hc1 : ¬cond0_1 i)
    (x0 : Vec F S2048x768 .f32) (x1 : Vec F S768x512 .f32) (x2 : Vec F S512 .f32) (x3 : Vec F S512x256 .f32) (x4 : Vec F S256 .f32) (x5 : Vec F S256x128 .f32) (x6 : Vec F S128 .f32) (x7 : Vec F S128x64 .f32) (x8 : Vec F S64 .f32) (x9 : Vec F S4x64x256 .f32) (x10 : Vec F S4x256x64 .i8) (x11 : Vec F S4x256x64 .i8) (x12 : Vec F S4x256x64 .i8) (x13 : Vec F S4x256x64 .i8) (x14 : Vec F S4x1x256 .f32) (x15 : Vec F S64x128 .f32) (x16 : Vec F S128 .f32) (x17 : Vec F S128x256 .f32) (x18 : Vec F S256 .f32) (x19 : Vec F S256x512 .f32) (x20 : Vec F S512 .f32) (x21 : Vec F S512x768 .f32) (x22 : Vec F S768 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22).2.2.1 =
      [⟨Rect.unit ![0, 0] S1x1.size inb_S1x1_S1x1_0_0, share (Books.mk x9 x10 x11 x12 x13 x14) (enc x0 x1 x2 x3 x4 x5 x6 x7 x8)⟩] := by
  unfold runA; dsimp only; rw [A_r_15, A_r_19]; rfl

/-- The output block at a later grid point. -/
theorem B_out (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S4x64x256 .f32) (harg10 : arg10.IsWhole) (arg11 : Memref sig .tc .vmem S4x256x64 .i8) (harg11 : arg11.IsWhole) (arg12 : Memref sig .tc .vmem S4x256x64 .i8) (harg12 : arg12.IsWhole) (arg13 : Memref sig .tc .vmem S4x256x64 .i8) (harg13 : arg13.IsWhole) (arg14 : Memref sig .tc .vmem S4x256x64 .i8) (harg14 : arg14.IsWhole) (arg15 : Memref sig .tc .vmem S4x1x256 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x256 .f32) (harg18 : arg18.IsWhole) (arg19 : Memref sig .tc .vmem S256 .f32) (harg19 : arg19.IsWhole) (arg20 : Memref sig .tc .vmem S256x512 .f32) (harg20 : arg20.IsWhole) (arg21 : Memref sig .tc .vmem S512 .f32) (harg21 : arg21.IsWhole) (arg22 : Memref sig .tc .vmem S512x768 .f32) (harg22 : arg22.IsWhole) (arg23 : Memref sig .tc .vmem S768 .f32) (harg23 : arg23.IsWhole) (arg24 : Memref sig .tc .vmem S2048x768 .f32) (harg24 : arg24.IsWhole) (arg25 : Memref sig .tc .vmem S2048x4 .i32) (harg25 : arg25.IsWhole) (arg26 : Memref sig .tc .vmem S1x1 .f32) (harg26 : arg26.IsWhole) (arg27 : Memref sig .tc .vmem S2048x512 .f32) (harg27 : arg27.IsWhole) (arg28 : Memref sig .tc .vmem S2048x256 .f32) (harg28 : arg28.IsWhole) (arg29 : Memref sig .tc .vmem S2048x128 .f32) (harg29 : arg29.IsWhole) (arg30 : Memref sig .tc .vmem S2048x64 .f32) (harg30 : arg30.IsWhole) (arg31 : Memref sig .tc .vmem S2048x64 .f32) (harg31 : arg31.IsWhole) (hc0 : ¬cond0_0 i) (hc1 : cond0_1 i)
    (x0 : Vec F S2048x768 .f32) (x1 : Vec F S768x512 .f32) (x2 : Vec F S512 .f32) (x3 : Vec F S512x256 .f32) (x4 : Vec F S256 .f32) (x5 : Vec F S256x128 .f32) (x6 : Vec F S128 .f32) (x7 : Vec F S128x64 .f32) (x8 : Vec F S64 .f32) (x9 : Vec F S4x64x256 .f32) (x10 : Vec F S4x256x64 .i8) (x11 : Vec F S4x256x64 .i8) (x12 : Vec F S4x256x64 .i8) (x13 : Vec F S4x256x64 .i8) (x14 : Vec F S4x1x256 .f32) (x15 : Vec F S64x128 .f32) (x16 : Vec F S128 .f32) (x17 : Vec F S128x256 .f32) (x18 : Vec F S256 .f32) (x19 : Vec F S256x512 .f32) (x20 : Vec F S512 .f32) (x21 : Vec F S512x768 .f32) (x22 : Vec F S768 .f32) (xo25 : Vec F S1x1 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 xo25).1 =
      [⟨Rect.unit ![0, 0] ![2048, 768] inb_S2048x768_S2048x768_0_0, dec (acc (Books.mk x9 x10 x11 x12 x13 x14) (enc x0 x1 x2 x3 x4 x5 x6 x7 x8)) x15 x16 x17 x18 x19 x20 x21 x22⟩] := by
  unfold runB; dsimp only; rw [B_r_21]

/-- The number block at a later grid point. -/
theorem B_cols (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S4x64x256 .f32) (harg10 : arg10.IsWhole) (arg11 : Memref sig .tc .vmem S4x256x64 .i8) (harg11 : arg11.IsWhole) (arg12 : Memref sig .tc .vmem S4x256x64 .i8) (harg12 : arg12.IsWhole) (arg13 : Memref sig .tc .vmem S4x256x64 .i8) (harg13 : arg13.IsWhole) (arg14 : Memref sig .tc .vmem S4x256x64 .i8) (harg14 : arg14.IsWhole) (arg15 : Memref sig .tc .vmem S4x1x256 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x256 .f32) (harg18 : arg18.IsWhole) (arg19 : Memref sig .tc .vmem S256 .f32) (harg19 : arg19.IsWhole) (arg20 : Memref sig .tc .vmem S256x512 .f32) (harg20 : arg20.IsWhole) (arg21 : Memref sig .tc .vmem S512 .f32) (harg21 : arg21.IsWhole) (arg22 : Memref sig .tc .vmem S512x768 .f32) (harg22 : arg22.IsWhole) (arg23 : Memref sig .tc .vmem S768 .f32) (harg23 : arg23.IsWhole) (arg24 : Memref sig .tc .vmem S2048x768 .f32) (harg24 : arg24.IsWhole) (arg25 : Memref sig .tc .vmem S2048x4 .i32) (harg25 : arg25.IsWhole) (arg26 : Memref sig .tc .vmem S1x1 .f32) (harg26 : arg26.IsWhole) (arg27 : Memref sig .tc .vmem S2048x512 .f32) (harg27 : arg27.IsWhole) (arg28 : Memref sig .tc .vmem S2048x256 .f32) (harg28 : arg28.IsWhole) (arg29 : Memref sig .tc .vmem S2048x128 .f32) (harg29 : arg29.IsWhole) (arg30 : Memref sig .tc .vmem S2048x64 .f32) (harg30 : arg30.IsWhole) (arg31 : Memref sig .tc .vmem S2048x64 .f32) (harg31 : arg31.IsWhole) (hc0 : ¬cond0_0 i) (hc1 : cond0_1 i)
    (x0 : Vec F S2048x768 .f32) (x1 : Vec F S768x512 .f32) (x2 : Vec F S512 .f32) (x3 : Vec F S512x256 .f32) (x4 : Vec F S256 .f32) (x5 : Vec F S256x128 .f32) (x6 : Vec F S128 .f32) (x7 : Vec F S128x64 .f32) (x8 : Vec F S64 .f32) (x9 : Vec F S4x64x256 .f32) (x10 : Vec F S4x256x64 .i8) (x11 : Vec F S4x256x64 .i8) (x12 : Vec F S4x256x64 .i8) (x13 : Vec F S4x256x64 .i8) (x14 : Vec F S4x1x256 .f32) (x15 : Vec F S64x128 .f32) (x16 : Vec F S128 .f32) (x17 : Vec F S128x256 .f32) (x18 : Vec F S256 .f32) (x19 : Vec F S256x512 .f32) (x20 : Vec F S512 .f32) (x21 : Vec F S512x768 .f32) (x22 : Vec F S768 .f32) (xo25 : Vec F S1x1 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 xo25).2.1 = cols (Books.mk x9 x10 x11 x12 x13 x14) (enc x0 x1 x2 x3 x4 x5 x6 x7 x8) := by
  unfold runB; dsimp only; rw [B_r_2, B_r_8, B_r_12, B_r_17]; rfl

/-- The loss block at a later grid point. -/
theorem B_loss (c : Dev nD) (i : grid0.Coords) (arg1 : Memref sig .tc .vmem S2048x768 .f32) (harg1 : arg1.IsWhole) (arg2 : Memref sig .tc .vmem S768x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S4x64x256 .f32) (harg10 : arg10.IsWhole) (arg11 : Memref sig .tc .vmem S4x256x64 .i8) (harg11 : arg11.IsWhole) (arg12 : Memref sig .tc .vmem S4x256x64 .i8) (harg12 : arg12.IsWhole) (arg13 : Memref sig .tc .vmem S4x256x64 .i8) (harg13 : arg13.IsWhole) (arg14 : Memref sig .tc .vmem S4x256x64 .i8) (harg14 : arg14.IsWhole) (arg15 : Memref sig .tc .vmem S4x1x256 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x256 .f32) (harg18 : arg18.IsWhole) (arg19 : Memref sig .tc .vmem S256 .f32) (harg19 : arg19.IsWhole) (arg20 : Memref sig .tc .vmem S256x512 .f32) (harg20 : arg20.IsWhole) (arg21 : Memref sig .tc .vmem S512 .f32) (harg21 : arg21.IsWhole) (arg22 : Memref sig .tc .vmem S512x768 .f32) (harg22 : arg22.IsWhole) (arg23 : Memref sig .tc .vmem S768 .f32) (harg23 : arg23.IsWhole) (arg24 : Memref sig .tc .vmem S2048x768 .f32) (harg24 : arg24.IsWhole) (arg25 : Memref sig .tc .vmem S2048x4 .i32) (harg25 : arg25.IsWhole) (arg26 : Memref sig .tc .vmem S1x1 .f32) (harg26 : arg26.IsWhole) (arg27 : Memref sig .tc .vmem S2048x512 .f32) (harg27 : arg27.IsWhole) (arg28 : Memref sig .tc .vmem S2048x256 .f32) (harg28 : arg28.IsWhole) (arg29 : Memref sig .tc .vmem S2048x128 .f32) (harg29 : arg29.IsWhole) (arg30 : Memref sig .tc .vmem S2048x64 .f32) (harg30 : arg30.IsWhole) (arg31 : Memref sig .tc .vmem S2048x64 .f32) (harg31 : arg31.IsWhole) (hc0 : ¬cond0_0 i) (hc1 : cond0_1 i)
    (x0 : Vec F S2048x768 .f32) (x1 : Vec F S768x512 .f32) (x2 : Vec F S512 .f32) (x3 : Vec F S512x256 .f32) (x4 : Vec F S256 .f32) (x5 : Vec F S256x128 .f32) (x6 : Vec F S128 .f32) (x7 : Vec F S128x64 .f32) (x8 : Vec F S64 .f32) (x9 : Vec F S4x64x256 .f32) (x10 : Vec F S4x256x64 .i8) (x11 : Vec F S4x256x64 .i8) (x12 : Vec F S4x256x64 .i8) (x13 : Vec F S4x256x64 .i8) (x14 : Vec F S4x1x256 .f32) (x15 : Vec F S64x128 .f32) (x16 : Vec F S128 .f32) (x17 : Vec F S128x256 .f32) (x18 : Vec F S256 .f32) (x19 : Vec F S256x512 .f32) (x20 : Vec F S512 .f32) (x21 : Vec F S512x768 .f32) (x22 : Vec F S768 .f32) (xo25 : Vec F S1x1 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 xo25).2.2.1 =
      [⟨Rect.unit ![0, 0] S1x1.size inb_S1x1_S1x1_0_0, addf xo25 (share (Books.mk x9 x10 x11 x12 x13 x14) (enc x0 x1 x2 x3 x4 x5 x6 x7 x8))⟩] := by
  unfold runB; dsimp only; rw [B_r_15, B_r_19, load_whole (S := S1x1) _ zero2]; unfold k0_pay40; dsimp only; rw [shapeCast_self]; rfl

end Cert.KernelIdeal.Body
-- ==== Proof.KFrame.lean ====
/- The kernel's pipeline at any interpretation of the values: what each grid point leaves in the output blocks, the
   body's obligation at every point, the launch, and the statement that the arguments end unchanged. -/
module

public import proofs.«01_k».proof.Proof.Block
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codebook operands as point `t` reads them. -/
def bk (c : Dev nD) (t : Fin cfg0.N) : Books F :=
  ⟨iblk m c 9 t, iblk m c 10 t, iblk m c 11 t, iblk m c 12 t, iblk m c 13 t, iblk m c 14 t⟩

/-- The encoder's output on the rows of point `t`. -/
def zb (c : Dev nD) (t : Fin cfg0.N) : Vec F S2048x64 .f32 :=
  enc (iblk m c 0 t) (iblk m c 1 t) (iblk m c 2 t) (iblk m c 3 t) (iblk m c 4 t) (iblk m c 5 t) (iblk m c 6 t) (iblk m c 7 t) (iblk m c 8 t)

/-- What point `t` leaves in the decoder's output block. -/
def outB (c : Dev nD) (t : Fin cfg0.N) : Vec F S2048x768 .f32 :=
  dec (acc (bk m c t) (zb m c t)) (iblk m c 15 t) (iblk m c 16 t) (iblk m c 17 t) (iblk m c 18 t) (iblk m c 19 t) (iblk m c 20 t) (iblk m c 21 t) (iblk m c 22 t)

/-- What point `t` leaves in the block of numbers. -/
def colB (c : Dev nD) (t : Fin cfg0.N) : Vec F S2048x4 .i32 := View.canon (cols (bk m c t) (zb m c t))

/-- The share of the loss that point `t` adds. -/
def shareB (c : Dev nD) (t : Fin cfg0.N) : FVec F S1x1 .f32 := share (bk m c t) (zb m c t)

/-- What the loss block holds after point `n`. -/
def lossB (c : Dev nD) : (n : ℕ) → n < cfg0.N → Vec F S1x1 .f32
  | 0, hn => shareB m c ⟨0, hn⟩
  | n + 1, hn => addf (lossB c n (Nat.lt_of_succ_lt hn)) (shareB m c ⟨n + 1, hn⟩)

theorem lossB_first (c : Dev nD) (t : Fin cfg0.N) (h : ¬1 ≤ t.val) : lossB m c t.val t.isLt = shareB m c t := by
  obtain ⟨n, hn⟩ := t
  cases n with
  | zero => rfl
  | succ n => exact absurd (Nat.le_add_left 1 n) h

theorem lossB_later (c : Dev nD) (t : Fin cfg0.N) (h : 1 ≤ t.val) :
    lossB m c t.val t.isLt = addf (lossB m c (t.val - 1) (Nat.lt_of_le_of_lt (Nat.sub_le _ _) t.isLt)) (shareB m c t) := by
  obtain ⟨n, hn⟩ := t
  cases n with
  | zero => exact absurd h (Nat.not_succ_le_zero 0)
  | succ n => rfl

/-- A buffer written once, whole, holds what was written. -/
theorem read_whole {S : Shape} {e : EltTy} {sp : Space} (v : View sig .tc sp S e) {off : Fin S.rank → Nat} (z : off = fun _ => 0)
    (inb : ∀ a, off a + S.size a ≤ S.size a) (w : S.Idx → Elt F e) (f : v.ty.Contents (Elt F)) :
    v.read (Elt F) (v.writes (Elt F) f [(⟨Rect.unit off S.size inb, w⟩ : View.Piece (Elt F) S e)]) = w := by
  subst z
  rw [View.read_writes_eq_canon _ _ _ (fun y => ⟨_, List.mem_cons_self, by
    show y ∈ (Rect.whole S).set; rw [Rect.set_whole]; exact Finset.mem_univ y⟩), View.canon_unit_zero rfl]

/-- The four columns cover the block of numbers. -/
theorem cols_cover (K : Books F) (r : Vec F S2048x64 .f32) (y : S2048x4.Idx) : ∃ pc ∈ cols K r, y ∈ pc.1.set :=
  View.cover_of_tiledL (cols K r) S2048x1.size (by sl_kernel_rfl) y

/-! What the pipeline is proved with -/

/-- What the pipeline is proved with: the arrays as the launch finds them, and after the body at point `t` each input at
    its block and the outputs at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => outB m c t
    | ⟨24, _⟩ => colB m c t
    | ⟨25, _⟩ => lossB m c t.val t.isLt
    | ⟨_ + 26, h⟩ => absurd h (Nat.not_lt.2 (Nat.le_add_left _ _))
  Φ _ := Pipeline.ΦA spec0 c
  q _ := fullShare
  owed _ := 0

/-- The arrays of the proof data are the contents at the launch. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = outB m c t := by dsimp only [dats]
theorem after0_24 (c : Dev nD) (t : Fin cfg0.N) : (dats m 0 c).after 24 t = colB m c t := by dsimp only [dats]
theorem after0_25 (c : Dev nD) (t : Fin cfg0.N) : (dats m 0 c).after 25 t = lossB m c t.val t.isLt := by dsimp only [dats]

/-- Each input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-- The loss block is carried through a point that leaves it idle (there is none). -/
theorem hcarry0_25 (c : Dev nD) : ∀ (t : Fin cfg0.N) (_ : t.val ≠ 0), cfg0.idle 25 (grid0.coords t) = true → cfg0.fresh 25 t.val = false →
    (dats m 0 c).after 25 t = (dats m 0 c).after 25 ⟨t.val - 1, by omega⟩ := by
  intro t _ hi _
  have hN : t.val < 8 := lt_of_lt_of_eq t.isLt (show cfg0.N = 8 from N_0)
  rw [after0_25, after0_25]
  by_cases h0 : t.val % 8 = 0
  · by_cases h1 : 1 ≤ t.val
    · exfalso; omega
    · rw [liveAt0_25_A t ((hcond0_0 t).mpr h0) (fun h => h1 ((hcond0_1 t).mp h))] at hi
      exact absurd hi Bool.false_ne_true
  · by_cases h1 : 1 ≤ t.val
    · rw [liveAt0_25_B t (fun h => h0 ((hcond0_0 t).mp h)) ((hcond0_1 t).mpr h1)] at hi
      exact absurd hi Bool.false_ne_true
    · exfalso; omega
/-- At a later point the loss block holds what the point before left. -/
theorem before0_25_B (c : Dev nD) (t : Fin cfg0.N) (h0 : ¬t.val % 8 = 0) (h1 : 1 ≤ t.val) (d) :
    (dats m 0 c).before 25 t d = lossB m c (t.val - 1) (Nat.lt_of_le_of_lt (Nat.sub_le _ _) t.isLt) := by
  rw [Dat.before_out_traj _ 25 rfl (fun _ _ => rfl) (hcarry0_25 m c) t.val t rfl d,
    if_neg (by rw [notFresh0_25_B t (fun h => h0 ((hcond0_0 t).mp h)) ((hcond0_1 t).mpr h1)]; exact Bool.false_ne_true)]
  dsimp only [dats]

/-! The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

set_option maxHeartbeats 5600000 in
/-- The body at any point, from its recorded run at the first point or at a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24 t], after0_24]
      rw [show (dats m 0 c).leavesExact 25 t = owns (c : Thread nD τ) (ms0_25 t) fullShare ((dats m 0 c).after 25 t) from by
      unfold Dat.leavesExact; rw [liveAt0_25_A t ((hcond0_0 t).mpr h0) (fun h => h1 ((hcond0_1 t).mp h))], after0_25]
      rw [lossB_first m c t h1]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, H22, ⟨%e23, H23⟩, ⟨%e24, H24⟩, ⟨%e25, H25⟩, ⟨%fT0, HS0⟩, ⟨%fT1, HS1⟩, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]
      · unfold owns; iexists _; isplitr
        swap; · iexact H23
        ipureintro; rw [A_out]; exact read_whole _ zero2 _ _ _
      isplitl [H24]
      · unfold owns; iexists _; isplitr
        swap; · iexact H24
        ipureintro; rw [A_cols]; exact View.read_writes_eq_canon _ _ _ (cols_cover _ _)
      unfold owns; iexists _; isplitr
      swap; · iexact H25
      ipureintro; rw [A_loss]; exact read_whole _ zero2 _ _ _
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24 t], after0_24]
      rw [show (dats m 0 c).leavesExact 25 t = owns (c : Thread nD τ) (ms0_25 t) fullShare ((dats m 0 c).after 25 t) from by
      unfold Dat.leavesExact; rw [liveAt0_25_B t (fun h => h0 ((hcond0_0 t).mp h)) ((hcond0_1 t).mpr h1)], after0_25]
      rw [lossB_later m c t h1]
      simp only [before0_25_B m c t h0 h1]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexact H25
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, H14, H15, H16, H17, H18, H19, H20, H21, H22, ⟨%e23, H23⟩, ⟨%e24, H24⟩, ⟨%e25, H25⟩, ⟨%fT0, HS0⟩, ⟨%fT1, HS1⟩, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]
      · unfold owns; iexists _; isplitr
        swap; · iexact H23
        ipureintro; rw [B_out]; exact read_whole _ zero2 _ _ _
      isplitl [H24]
      · unfold owns; iexists _; isplitr
        swap; · iexact H24
        ipureintro; rw [B_cols]; exact View.read_writes_eq_canon _ _ _ (cols_cover _ _)
      unfold owns; iexists _; isplitr
      swap; · iexact H25
      ipureintro; rw [B_loss]; exact read_whole _ zero2 _ _ _
    · exfalso; omega

/-- The body that the table of bodies holds for point `t`. -/
theorem defs₀_row (t : Fin cfg0.N) :
    defs₀ (F := F) .tc cfg0.body (cfg0.bodyArgs t (cfg0.slots t)) = bodyAt0 t := by
  unfold defs₀; rw [Defs.onTc_tc]

attribute [local irreducible] outB colB lossB in
set_option maxHeartbeats 4000000 in
/-- The obligation of the pipeline at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! The launch -/

set_option backward.isDefEq.respectTransparency.types false in
/-- Every execution of the program ends with the arrays of the pipeline at what the proof data say, every other buffer
    as the launch found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Body
-- ==== Proof.SameText.lean ====
/- The kernel as printed and the kernel read over the ideal numbers are the same text: the programs are equal over any
   interpretation of the values, so that one proof of the frame serves both. -/
module

public import proofs.«01_k».proof.Proof.KFrame
public import proofs.«01_k».proof.Proof.Gen.Kernel

@[expose] public section

set_option maxRecDepth 16384
set_option maxHeartbeats 4000000

noncomputable section

namespace Cert.SameText

open Idealize.ShloMosaic Idealize.ShloMosaic.TcCoe Idealize.SL.Sem

variable {F : FTy → Type} [FloatOps F]

/-- The tables of bodies agree. -/
theorem bodies_eq : @Cert.Kernel.defs₀ F _ _ = @Cert.KernelIdeal.defs₀ F _ _ := by
  unfold Cert.Kernel.defs₀ Cert.KernelIdeal.defs₀
  refine congrArg Defs.onTc (funext fun l => ?_)
  match l with
  | ⟨0, _⟩ => exact funext fun ⟨t, s⟩ => by rfl

/-- The tables of pipelines and bodies agree. -/
theorem defs_eq : @Cert.Kernel.defs F _ _ = @Cert.KernelIdeal.defs F _ _ :=
  congrArg (Pipeline.defs (Cert.Kernel.pcfgs (F := F))) bodies_eq

/-- The main programs agree. -/
theorem main_eq : @Cert.Kernel.main F _ _ = @Cert.KernelIdeal.main F _ _ := rfl

/-- The kernel as printed ends with its arguments unchanged and every semaphore counter at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0) := by
  rw [defs_eq, main_eq]
  exact Cert.KernelIdeal.Body.frame m ρ

end Cert.SameText
-- ==== Proof.RefOps.lean ====
/- The operations of the reference, in order, in the pieces its mathematics has. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The stacking of four arrays, as a function of the four. -/
def fn_main_v153 : (main_v149 : Ref sig .tc).ty.Contents (Elt F) → (main_v150 : Ref sig .tc).ty.Contents (Elt F) → (main_v151 : Ref sig .tc).ty.Contents (Elt F) → (main_v152 : Ref sig .tc).ty.Contents (Elt F) → (main_v153 : Ref sig .tc).ty.Contents (Elt F) :=
  (fun u0 u1 u2 u3 => (concatenate S4 0 [⟨S1, (u0 : (⟨S1, .f32⟩ : BufTy).Contents (Elt F))⟩, ⟨S1, (u1 : (⟨S1, .f32⟩ : BufTy).Contents (Elt F))⟩, ⟨S1, (u2 : (⟨S1, .f32⟩ : BufTy).Contents (Elt F))⟩, ⟨S1, (u3 : (⟨S1, .f32⟩ : BufTy).Contents (Elt F))⟩] concatenates_S1_S1_S1_S1_S4_d0 : (⟨S4, .f32⟩ : BufTy).Contents (Elt F)))

/-- The stacking of four arrays, as a function of the four. -/
def fn_main_v160 : (main_v156 : Ref sig .tc).ty.Contents (Elt F) → (main_v157 : Ref sig .tc).ty.Contents (Elt F) → (main_v158 : Ref sig .tc).ty.Contents (Elt F) → (main_v159 : Ref sig .tc).ty.Contents (Elt F) → (main_v160 : Ref sig .tc).ty.Contents (Elt F) :=
  (fun u0 u1 u2 u3 => (concatenate S16384x4 1 [⟨S16384x1, (u0 : (⟨S16384x1, .i32⟩ : BufTy).Contents (Elt F))⟩, ⟨S16384x1, (u1 : (⟨S16384x1, .i32⟩ : BufTy).Contents (Elt F))⟩, ⟨S16384x1, (u2 : (⟨S16384x1, .i32⟩ : BufTy).Contents (Elt F))⟩, ⟨S16384x1, (u3 : (⟨S16384x1, .i32⟩ : BufTy).Contents (Elt F))⟩] concatenates_S16384x1_S16384x1_S16384x1_S16384x1_S16384x4_d1 : (⟨S16384x4, .i32⟩ : BufTy).Contents (Elt F)))

/-- Operations 1 to 28: the encoder. -/
def enc : List (HloOp τ sig (Elt F)) :=
  [ unary main_arg9 main_v0 (bitcastToFloat (F := F) .f32 : (⟨S4x256x64, .i32⟩ : BufTy).Contents (Elt F) → (⟨S4x256x64, .f32⟩ : BufTy).Contents (Elt F)),
    binary main_arg0 main_arg1 main_v1 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg2 main_v2 (broadcastInDim S1x512 ![1] bcast_S512_S1x512_1 : (⟨S512, .f32⟩ : BufTy).Contents (Elt F) → (⟨S1x512, .f32⟩ : BufTy).Contents (Elt F)),
    unary main_v2 main_v3 (broadcastInDim S16384x512 ![0, 1] bcast_S1x512_S16384x512_0_1 : (⟨S1x512, .f32⟩ : BufTy).Contents (Elt F) → (⟨S16384x512, .f32⟩ : BufTy).Contents (Elt F)),
    binary main_v1 main_v3 main_v4 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v4) (TRef.of (T := ⟨S16384x512, .f32⟩) main_call0_v0) (TRef.of (T := ⟨S16384x512, .f32⟩) main_v5) maximumf,
    binary main_v5 main_arg3 main_v6 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg4 main_v7 (broadcastInDim S1x256 ![1] bcast_S256_S1x256_1 : (⟨S256, .f32⟩ : BufTy).Contents (Elt F) → (⟨S1x256, .f32⟩ : BufTy).Contents (Elt F)),
    unary main_v7 main_v8 (broadcastInDim S16384x256 ![0, 1] bcast_S1x256_S16384x256_0_1 : (⟨S1x256, .f32⟩ : BufTy).Contents (Elt F) → (⟨S16384x256, .f32⟩ : BufTy).Contents (Elt F)),
    binary main_v6 main_v8 main_v9 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x256, .f32⟩) main_call1_v0) (broadcastInDim S16384x256 ![] bcast_S_S16384x256),
    TRef.binary (TRef.of (T := ⟨S16384x256, .f32⟩) main_v9) (TRef.of (T := ⟨S16384x256, .f32⟩) main_call1_v0) (TRef.of (T := ⟨S16384x256, .f32⟩) main_v10) maximumf,
    binary main_v10 main_arg5 main_v11 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg6 main_v12 (broadcastInDim S1x128 ![1] bcast_S128_S1x128_1 : (⟨S128, .f32⟩ : BufTy).Contents (Elt F) → (⟨S1x128, .f32⟩ : BufTy).Contents (Elt F)),
    unary main_v12 main_v13 (broadcastInDim S16384x128 ![0, 1] bcast_S1x128_S16384x128_0_1 : (⟨S1x128, .f32⟩ : BufTy).Contents (Elt F) → (⟨S16384x128, .f32⟩ : BufTy).Contents (Elt F)),
    binary main_v11 main_v13 main_v14 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x128, .f32⟩) main_call2_v0) (broadcastInDim S16384x128 ![] bcast_S_S16384x128),
    TRef.binary (TRef.of (T := ⟨S16384x128, .f32⟩) main_v14) (TRef.of (T := ⟨S16384x128, .f32⟩) main_call2_v0) (TRef.of (T := ⟨S16384x128, .f32⟩) main_v15) maximumf,
    binary main_v15 main_arg7 main_v16 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg8 main_v17 (broadcastInDim S1x64 ![1] bcast_S64_S1x64_1 : (⟨S64, .f32⟩ : BufTy).Contents (Elt F) → (⟨S1x64, .f32⟩ : BufTy).Contents (Elt F)),
    unary main_v17 main_v18 (broadcastInDim S16384x64 ![0, 1] bcast_S1x64_S16384x64_0_1 : (⟨S1x64, .f32⟩ : BufTy).Contents (Elt F) → (⟨S16384x64, .f32⟩ : BufTy).Contents (Elt F)),
    binary main_v16 main_v18 main_v19 (addf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    unary main_cst main_v20 (broadcastInDim S16384x64 ![] bcast_S_S16384x64 : (⟨S_, .f32⟩ : BufTy).Contents (Elt F) → (⟨S16384x64, .f32⟩ : BufTy).Contents (Elt F)) ]

/-- The buffers that `enc` writes. -/
abbrev encW : List (Ref sig .tc) := [main_v0, main_v1, main_v2, main_v3, main_v4, main_call0_cst, main_call0_v0, main_v5, main_v6, main_v7, main_v8, main_v9, main_call1_cst, main_call1_v0, main_v10, main_v11, main_v12, main_v13, main_v14, main_call2_cst, main_call2_v0, main_v15, main_v16, main_v17, main_v18, main_v19, main_cst, main_v20]

set_option maxRecDepth 8192 in
set_option maxHeartbeats 1000000 in
theorem enc_writes : (enc : List (HloOp τ sig (Elt F))).Forall fun op => op.writes ⊆ (encW.map (Proc.devRef (τ := τ) .tc)).toFinset :=
  forall_writes_sub_of_map rfl

set_option maxRecDepth 8192 in
theorem enc_fresh : (enc : List (HloOp τ sig (Elt F))).Forall fun op => op.fresh = ∅ :=
  forall_fresh_of_map rfl

set_option maxRecDepth 8192 in
theorem enc_sub : (enc : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub ..⟩

/-- Operations 29 to 52: the distances to codebook 0 and the index of the smallest. -/
def A0 : List (HloOp τ sig (Elt F)) :=
  [ unary main_v0 main_v21 ((extractStridedSlice S1x256x64 ![0, 0, 0] · slices_S4x256x64_S1x256x64_0_0_0) : (⟨S4x256x64, .f32⟩ : BufTy).Contents (Elt F) → (⟨S1x256x64, .f32⟩ : BufTy).Contents (Elt F)),
    reshape main_v21 main_v22 (rfl : (.f32 : EltTy) = .f32) shapeCasts_S1x256x64_S256x64,
    binary main_v19 main_v19 main_v23 (mulf : (⟨S16384x64, .f32⟩ : BufTy).Contents (Elt F) → (⟨S16384x64, .f32⟩ : BufTy).Contents (Elt F) → (⟨S16384x64, .f32⟩ : BufTy).Contents (Elt F)),
    nullary main_cst_0 (constant S_ .f32 0x00000000#32),
    binary main_v23 main_cst_0 main_v24 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v24 main_v25 (broadcastInDim S16384x1 ![0] bcast_S16384_S16384x1_0 : (⟨S16384, .f32⟩ : BufTy).Contents (Elt F) → (⟨S16384x1, .f32⟩ : BufTy).Contents (Elt F)),
    binary main_v22 main_v22 main_v26 (mulf : (⟨S256x64, .f32⟩ : BufTy).Contents (Elt F) → (⟨S256x64, .f32⟩ : BufTy).Contents (Elt F) → (⟨S256x64, .f32⟩ : BufTy).Contents (Elt F)),
    nullary main_cst_1 (constant S_ .f32 0x00000000#32),
    binary main_v26 main_cst_1 main_v27 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    unary main_v27 main_v28 (broadcastInDim S1x256 ![1] bcast_S256_S1x256_1 : (⟨S256, .f32⟩ : BufTy).Contents (Elt F) → (⟨S1x256, .f32⟩ : BufTy).Contents (Elt F)),
    unary main_v25 main_v29 (broadcastInDim S16384x256 ![0, 1] bcast_S16384x1_S16384x256_0_1 : (⟨S16384x1, .f32⟩ : BufTy).Contents (Elt F) → (⟨S16384x256, .f32⟩ : BufTy).Contents (Elt F)),
    unary main_v28 main_v30 (broadcastInDim S16384x256 ![0, 1] bcast_S1x256_S16384x256_0_1 : (⟨S1x256, .f32⟩ : BufTy).Contents (Elt F) → (⟨S16384x256, .f32⟩ : BufTy).Contents (Elt F)),
    binary main_v29 main_v30 main_v31 (addf : (⟨S16384x256, .f32⟩ : BufTy).Contents (Elt F) → (⟨S16384x256, .f32⟩ : BufTy).Contents (Elt F) → (⟨S16384x256, .f32⟩ : BufTy).Contents (Elt F)),
    unary main_v22 main_v32 ((transpose S64x256 [1, 0] · transposes_S256x64_S64x256_1_0) : (⟨S256x64, .f32⟩ : BufTy).Contents (Elt F) → (⟨S64x256, .f32⟩ : BufTy).Contents (Elt F)),
    binary main_v19 main_v32 main_v33 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    nullary main_cst_2 (constant S_ .f32 0x40000000#32),
    unary main_cst_2 main_v34 (broadcastInDim S16384x256 ![] bcast_S_S16384x256 : (⟨S_, .f32⟩ : BufTy).Contents (Elt F) → (⟨S16384x256, .f32⟩ : BufTy).Contents (Elt F)),
    binary main_v34 main_v33 main_v35 (mulf : (⟨S16384x256, .f32⟩ : BufTy).Contents (Elt F) → (⟨S16384x256, .f32⟩ : BufTy).Contents (Elt F) → (⟨S16384x256, .f32⟩ : BufTy).Contents (Elt F)),
    binary main_v31 main_v35 main_v36 (subf : (⟨S16384x256, .f32⟩ : BufTy).Contents (Elt F) → (⟨S16384x256, .f32⟩ : BufTy).Contents (Elt F) → (⟨S16384x256, .f32⟩ : BufTy).Contents (Elt F)),
    TRef.nullary (TRef.of (T := ⟨S16384x256, .i32⟩) main_call3_v0) (iotaInDim S16384x256 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S16384x256, .f32⟩) main_v36) (TRef.of (T := ⟨S16384x256, .i32⟩) main_call3_v0) (TRef.of (T := ⟨S_, .f32⟩) main_call3_cst) (TRef.of (T := ⟨S_, .i32⟩) main_call3_c) (TRef.of (T := ⟨S16384, .f32⟩) main_call3_v1_0) (fun x y u v j => (Host.argReduce reducer_argmin_f32_i32 x y u v reducesTo_S16384x256_S16384_d1 h_S_ j).1),
    TRef.quaternary (TRef.of (T := ⟨S16384x256, .f32⟩) main_v36) (TRef.of (T := ⟨S16384x256, .i32⟩) main_call3_v0) (TRef.of (T := ⟨S_, .f32⟩) main_call3_cst) (TRef.of (T := ⟨S_, .i32⟩) main_call3_c) (TRef.of (T := ⟨S16384, .i32⟩) main_v37) (fun x y u v j => (Host.argReduce reducer_argmin_f32_i32 x y u v reducesTo_S16384x256_S16384_d1 h_S_ j).2) ]

/-- The buffers that `A0` writes. -/
abbrev A0W : List (Ref sig .tc) := [main_v21, main_v22, main_v23, main_cst_0, main_v24, main_v25, main_v26, main_cst_1, main_v27, main_v28, main_v29, main_v30, main_v31, main_v32, main_v33, main_cst_2, main_v34, main_v35, main_v36, main_call3_v0, main_call3_cst, main_call3_c, main_call3_v1_0, main_v37]

set_option maxRecDepth 8192 in
set_option maxHeartbeats 1000000 in
theorem A0_writes : (A0 : List (HloOp τ sig (Elt F))).Forall fun op => op.writes ⊆ (A0W.map (Proc.devRef (τ := τ) .tc)).toFinset :=
  forall_writes_sub_of_map rfl

set_option maxRecDepth 8192 in
theorem A0_fresh : (A0 : List (HloOp τ sig (Elt F))).Forall fun op => op.fresh = ∅ :=
  forall_fresh_of_map rfl

set_option maxRecDepth 8192 in
theorem A0_sub : (A0 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub ..⟩

/-- Operations 53 to 75: the rows of codebook 0 at the indices. -/
def B0 : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S16384, .i32⟩) main_call4_v0) (broadcastInDim S16384 ![] bcast_S_S16384),
    TRef.binary (TRef.of (T := ⟨S16384, .i32⟩) main_v37) (TRef.of (T := ⟨S16384, .i32⟩) main_call4_v0) (TRef.of (T := ⟨S16384, .i1⟩) main_call4_v1) (cmpi .slt),
    TRef.nullary (TRef.of (T := ⟨S_, .i32⟩) main_call4_c_0) (constantI S_ 32 256#32),
    TRef.unary (TRef.of (T := ⟨S_, .i32⟩) main_call4_c_0) (TRef.of (T := ⟨S16384, .i32⟩) main_call4_v2) (broadcastInDim S16384 ![] bcast_S_S16384),
    TRef.binary (TRef.of (T := ⟨S16384, .i32⟩) main_v37) (TRef.of (T := ⟨S16384, .i32⟩) main_call4_v2) (TRef.of (T := ⟨S16384, .i32⟩) main_call4_v3) addi,
    TRef.ternary (TRef.of (T := ⟨S16384, .i1⟩) main_call4_v1) (TRef.of (T := ⟨S16384, .i32⟩) main_call4_v3) (TRef.of (T := ⟨S16384, .i32⟩) main_v37) (TRef.of (T := ⟨S16384, .i32⟩) main_call4_v4) select,
    TRef.unary (TRef.of (T := ⟨S16384, .i32⟩) main_call4_v4) (TRef.of (T := ⟨S16384x1, .i32⟩) main_call4_v5) (broadcastInDim S16384x1 ![0] bcast_S16384_S16384x1_0),
    TRef.nullary (TRef.of (T := ⟨S1, .i32⟩) main_call4_c_1) (constantI S1 32 255#32),
    TRef.nullary (TRef.of (T := ⟨S_, .i32⟩) main_call4_c_2) (constantI S_ 32 0#32),
    TRef.unary (TRef.of (T := ⟨S_, .i32⟩) main_call4_c_2) (TRef.of (T := ⟨S16384x1, .i32⟩) main_call4_v6) (broadcastInDim S16384x1 ![] bcast_S_S16384x1),
    TRef.binary (TRef.of (T := ⟨S16384x1, .i32⟩) main_call4_v5) (TRef.of (T := ⟨S16384x1, .i32⟩) main_call4_v6) (TRef.of (T := ⟨S16384x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S16384x1, .i32⟩) main_call4_v9) (broadcastInDim S16384x1 ![0, 1] bcast_S1x1_S16384x1_0_1),
    TRef.binary (TRef.of (T := ⟨S16384x1, .i32⟩) main_call4_v5) (TRef.of (T := ⟨S16384x1, .i32⟩) main_call4_v9) (TRef.of (T := ⟨S16384x1, .i1⟩) main_call4_v10) (cmpi .sle),
    TRef.binary (TRef.of (T := ⟨S16384x1, .i1⟩) main_call4_v7) (TRef.of (T := ⟨S16384x1, .i1⟩) main_call4_v10) (TRef.of (T := ⟨S16384x1, .i1⟩) main_call4_v11) andi,
    TRef.nullary (TRef.of (T := ⟨S_, .i1⟩) main_call4_c_3) (constantI S_ 1 1#1),
    TRef.binary (TRef.of (T := ⟨S16384x1, .i1⟩) main_call4_v11) (TRef.of (T := ⟨S_, .i1⟩) main_call4_c_3) (TRef.of (T := ⟨S16384, .i1⟩) main_call4_v12) (fun x v => Host.reduce IntOp.andi x v reducesTo_S16384x1_S16384_d1 h_S_),
    TRef.binary (TRef.of (T := ⟨S256x64, .f32⟩) main_v22) (TRef.of (T := ⟨S16384x1, .i32⟩) main_call4_v5) (TRef.of (T := ⟨S16384x64, .f32⟩) main_call4_v13) (fun x i => Host.gather gather_S256x64_S16384x1_S16384x64_1_0_n_n_0_1_164 x i),
    TRef.unary (TRef.of (T := ⟨S16384, .i1⟩) main_call4_v12) (TRef.of (T := ⟨S16384x64, .i1⟩) main_call4_v14) (broadcastInDim S16384x64 ![0] bcast_S16384_S16384x64_0),
    TRef.nullary (TRef.of (T := ⟨S_, .f32⟩) main_call4_cst) (constant S_ .f32 0x7FC00000#32),
    TRef.unary (TRef.of (T := ⟨S_, .f32⟩) main_call4_cst) (TRef.of (T := ⟨S16384x64, .f32⟩) main_call4_v15) (broadcastInDim S16384x64 ![] bcast_S_S16384x64),
    TRef.ternary (TRef.of (T := ⟨S16384x64, .i1⟩) main_call4_v14) (TRef.of (T := ⟨S16384x64, .f32⟩) main_call4_v13) (TRef.of (T := ⟨S16384x64, .f32⟩) main_call4_v15) (TRef.of (T := ⟨S16384x64, .f32⟩) main_v38) select ]

/-- The buffers that `B0` writes. -/
abbrev B0W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v38]

set_option maxRecDepth 8192 in
set_option maxHeartbeats 1000000 in
theorem B0_writes : (B0 : List (HloOp τ sig (Elt F))).Forall fun op => op.writes ⊆ (B0W.map (Proc.devRef (τ := τ) .tc)).toFinset :=
  forall_writes_sub_of_map rfl

set_option maxRecDepth 8192 in
theorem B0_fresh : (B0 : List (HloOp τ sig (Elt F))).Forall fun op => op.fresh = ∅ :=
  forall_fresh_of_map rfl

set_option maxRecDepth 8192 in
theorem B0_sub : (B0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Operations 76 to 92: the loss of level 0, the next residual and the sum of the rows. -/
def C0x : List (HloOp τ sig (Elt F)) :=
  [ binary main_v38 main_v19 main_v39 (subf : (⟨S16384x64, .f32⟩ : BufTy).Contents (Elt F) → (⟨S16384x64, .f32⟩ : BufTy).Contents (Elt F) → (⟨S16384x64, .f32⟩ : BufTy).Contents (Elt F)),
    binary main_v39 main_v39 main_v40 (mulf : (⟨S16384x64, .f32⟩ : BufTy).Contents (Elt F) → (⟨S16384x64, .f32⟩ : BufTy).Contents (Elt F) → (⟨S16384x64, .f32⟩ : BufTy).Contents (Elt F)),
    nullary main_cst_3 (constant S_ .f32 0x00000000#32),
    binary main_v40 main_cst_3 main_v41 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_4 (constant S_ .f32 0x49800000#32),
    binary main_v41 main_cst_4 main_v42 (Host.divf : (⟨S_, .f32⟩ : BufTy).Contents (Elt F) → (⟨S_, .f32⟩ : BufTy).Contents (Elt F) → (⟨S_, .f32⟩ : BufTy).Contents (Elt F)),
    binary main_v38 main_v19 main_v43 (subf : (⟨S16384x64, .f32⟩ : BufTy).Contents (Elt F) → (⟨S16384x64, .f32⟩ : BufTy).Contents (Elt F) → (⟨S16384x64, .f32⟩ : BufTy).Contents (Elt F)),
    binary main_v43 main_v43 main_v44 (mulf : (⟨S16384x64, .f32⟩ : BufTy).Contents (Elt F) → (⟨S16384x64, .f32⟩ : BufTy).Contents (Elt F) → (⟨S16384x64, .f32⟩ : BufTy).Contents (Elt F)),
    nullary main_cst_5 (constant S_ .f32 0x00000000#32),
    binary main_v44 main_cst_5 main_v45 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_6 (constant S_ .f32 0x49800000#32),
    binary main_v45 main_cst_6 main_v46 (Host.divf : (⟨S_, .f32⟩ : BufTy).Contents (Elt F) → (⟨S_, .f32⟩ : BufTy).Contents (Elt F) → (⟨S_, .f32⟩ : BufTy).Contents (Elt F)),
    nullary main_cst_7 (constant S_ .f32 0x3E800000#32),
    binary main_cst_7 main_v46 main_v47 (mulf : (⟨S_, .f32⟩ : BufTy).Contents (Elt F) → (⟨S_, .f32⟩ : BufTy).Contents (Elt F) → (⟨S_, .f32⟩ : BufTy).Contents (Elt F)),
    binary main_v42 main_v47 main_v48 (addf : (⟨S_, .f32⟩ : BufTy).Contents (Elt F) → (⟨S_, .f32⟩ : BufTy).Contents (Elt F) → (⟨S_, .f32⟩ : BufTy).Contents (Elt F)),
    binary main_v38 main_v19 main_v49 (subf : (⟨S16384x64, .f32⟩ : BufTy).Contents (Elt F) → (⟨S16384x64, .f32⟩ : BufTy).Contents (Elt F) → (⟨S16384x64, .f32⟩ : BufTy).Contents (Elt F)),
    binary main_v19 main_v49 main_v50 (addf : (⟨S16384x64, .f32⟩ : BufTy).Contents (Elt F) → (⟨S16384x64, .f32⟩ : BufTy).Contents (Elt F) → (⟨S16384x64, .f32⟩ : BufTy).Contents (Elt F)) ]

/-- The buffers that `C0x` writes. -/
abbrev C0xW : List (Ref sig .tc) := [main_v39, main_v40, main_cst_3, main_v41, main_cst_4, main_v42, main_v43, main_v44, main_cst_5, main_v45, main_cst_6, main_v46, main_cst_7, main_v47, main_v48, main_v49, main_v50]

set_option maxRecDepth 8192 in
set_option maxHeartbeats 1000000 in
theorem C0x_writes : (C0x : List (HloOp τ sig (Elt F))).Forall fun op => op.writes ⊆ (C0xW.map (Proc.devRef (τ := τ) .tc)).toFinset :=
  forall_writes_sub_of_map rfl

set_option maxRecDepth 8192 in
theorem C0x_fresh : (C0x : List (HloOp τ sig (Elt F))).Forall fun op => op.fresh = ∅ :=
  forall_fresh_of_map rfl

set_option maxRecDepth 8192 in
theorem C0x_sub : (C0x : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

/-- Operations 93 to 94: the loss of level 0, the next residual and the sum of the rows. -/
def C0y : List (HloOp τ sig (Elt F)) :=
  [ binary main_v19 main_v50 main_v51 (subf : (⟨S16384x64, .f32⟩ : BufTy).Contents (Elt F) → (⟨S16384x64, .f32⟩ : BufTy).Contents (Elt F) → (⟨S16384x64, .f32⟩ : BufTy).Contents (Elt F)),
    binary main_v20 main_v50 main_v52 (addf : (⟨S16384x64, .f32⟩ : BufTy).Contents (Elt F) → (⟨S16384x64, .f32⟩ : BufTy).Contents (Elt F) → (⟨S16384x64, .f32⟩ : BufTy).Contents (Elt F)) ]

/-- The buffers that `C0y` writes. -/
abbrev C0yW : List (Ref sig .tc) := [main_v51, main_v52]

set_option maxRecDepth 8192 in
set_option maxHeartbeats 1000000 in
theorem C0y_writes : (C0y : List (HloOp τ sig (Elt F))).Forall fun op => op.writes ⊆ (C0yW.map (Proc.devRef (τ := τ) .tc)).toFinset :=
  forall_writes_sub_of_map rfl

set_option maxRecDepth 8192 in
theorem C0y_fresh : (C0y : List (HloOp τ sig (Elt F))).Forall fun op => op.fresh = ∅ :=
  forall_fresh_of_map rfl

set_option maxRecDepth 8192 in
theorem C0y_sub : (C0y : List (HloOp τ sig (Elt F))).Forall fun op => op.bufs ⊆ tcRefs τ sig :=
  ⟨binary_bufs_sub .., binary_bufs_sub ..⟩

/-- Operations 95 to 118: the distances to codebook 1 and the index of the smallest. -/
def A1 : List (HloOp τ sig (Elt F)) :=
  [ unary main_v0 main_v53 ((extractStridedSlice S1x256x64 ![1, 0, 0] · slices_S4x256x64_S1x256x64_1_0_0) : (⟨S4x256x64, .f32⟩ : BufTy).Contents (Elt F) → (⟨S1x256x64, .f32⟩ : BufTy).Contents (Elt F)),
    reshape main_v53 main_v54 (rfl : (.f32 : EltTy) = .f32) shapeCasts_S1x256x64_S256x64,
    binary main_v51 main_v51 main_v55 (mulf : (⟨S16384x64, .f32⟩ : BufTy).Contents (Elt F) → (⟨S16384x64, .f32⟩ : BufTy).Contents (Elt F) → (⟨S16384x64, .f32⟩ : BufTy).Contents (Elt F)),
    nullary main_cst_8 (constant S_ .f32 0x00000000#32),
    binary main_v55 main_cst_8 main_v56 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v56 main_v57 (broadcastInDim S16384x1 ![0] bcast_S16384_S16384x1_0 : (⟨S16384, .f32⟩ : BufTy).Contents (Elt F) → (⟨S16384x1, .f32⟩ : BufTy).Contents (Elt F)),
    binary main_v54 main_v54 main_v58 (mulf : (⟨S256x64, .f32⟩ : BufTy).Contents (Elt F) → (⟨S256x64, .f32⟩ : BufTy).Contents (Elt F) → (⟨S256x64, .f32⟩ : BufTy).Contents (Elt F)),
    nullary main_cst_9 (constant S_ .f32 0x00000000#32),
    binary main_v58 main_cst_9 main_v59 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    unary main_v59 main_v60 (broadcastInDim S1x256 ![1] bcast_S256_S1x256_1 : (⟨S256, .f32⟩ : BufTy).Contents (Elt F) → (⟨S1x256, .f32⟩ : BufTy).Contents (Elt F)),
    unary main_v57 main_v61 (broadcastInDim S16384x256 ![0, 1] bcast_S16384x1_S16384x256_0_1 : (⟨S16384x1, .f32⟩ : BufTy).Contents (Elt F) → (⟨S16384x256, .f32⟩ : BufTy).Contents (Elt F)),
    unary main_v60 main_v62 (broadcastInDim S16384x256 ![0, 1] bcast_S1x256_S16384x256_0_1 : (⟨S1x256, .f32⟩ : BufTy).Contents (Elt F) → (⟨S16384x256, .f32⟩ : BufTy).Contents (Elt F)),
    binary main_v61 main_v62 main_v63 (addf : (⟨S16384x256, .f32⟩ : BufTy).Contents (Elt F) → (⟨S16384x256, .f32⟩ : BufTy).Contents (Elt F) → (⟨S16384x256, .f32⟩ : BufTy).Contents (Elt F)),
    unary main_v54 main_v64 ((transpose S64x256 [1, 0] · transposes_S256x64_S64x256_1_0) : (⟨S256x64, .f32⟩ : BufTy).Contents (Elt F) → (⟨S64x256, .f32⟩ : BufTy).Contents (Elt F)),
    binary main_v51 main_v64 main_v65 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    nullary main_cst_10 (constant S_ .f32 0x40000000#32),
    unary main_cst_10 main_v66 (broadcastInDim S16384x256 ![] bcast_S_S16384x256 : (⟨S_, .f32⟩ : BufTy).Contents (Elt F) → (⟨S16384x256, .f32⟩ : BufTy).Contents (Elt F)),
    binary main_v66 main_v65 main_v67 (mulf : (⟨S16384x256, .f32⟩ : BufTy).Contents (Elt F) → (⟨S16384x256, .f32⟩ : BufTy).Contents (Elt F) → (⟨S16384x256, .f32⟩ : BufTy).Contents (Elt F)),
    binary main_v63 main_v67 main_v68 (subf : (⟨S16384x256, .f32⟩ : BufTy).Contents (Elt F) → (⟨S16384x256, .f32⟩ : BufTy).Contents (Elt F) → (⟨S16384x256, .f32⟩ : BufTy).Contents (Elt F)),
    TRef.nullary (TRef.of (T := ⟨S16384x256, .i32⟩) main_call5_v0) (iotaInDim S16384x256 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S16384x256, .f32⟩) main_v68) (TRef.of (T := ⟨S16384x256, .i32⟩) main_call5_v0) (TRef.of (T := ⟨S_, .f32⟩) main_call5_cst) (TRef.of (T := ⟨S_, .i32⟩) main_call5_c) (TRef.of (T := ⟨S16384, .f32⟩) main_call5_v1_0) (fun x y u v j => (Host.argReduce reducer_argmin_f32_i32 x y u v reducesTo_S16384x256_S16384_d1 h_S_ j).1),
    TRef.quaternary (TRef.of (T := ⟨S16384x256, .f32⟩) main_v68) (TRef.of (T := ⟨S16384x256, .i32⟩) main_call5_v0) (TRef.of (T := ⟨S_, .f32⟩) main_call5_cst) (TRef.of (T := ⟨S_, .i32⟩) main_call5_c) (TRef.of (T := ⟨S16384, .i32⟩) main_v69) (fun x y u v j => (Host.argReduce reducer_argmin_f32_i32 x y u v reducesTo_S16384x256_S16384_d1 h_S_ j).2) ]

/-- The buffers that `A1` writes. -/
abbrev A1W : List (Ref sig .tc) := [main_v53, main_v54, main_v55, main_cst_8, main_v56, main_v57, main_v58, main_cst_9, main_v59, main_v60, main_v61, main_v62, main_v63, main_v64, main_v65, main_cst_10, main_v66, main_v67, main_v68, main_call5_v0, main_call5_cst, main_call5_c, main_call5_v1_0, main_v69]

set_option maxRecDepth 8192 in
set_option maxHeartbeats 1000000 in
theorem A1_writes : (A1 : List (HloOp τ sig (Elt F))).Forall fun op => op.writes ⊆ (A1W.map (Proc.devRef (τ := τ) .tc)).toFinset :=
  forall_writes_sub_of_map rfl

set_option maxRecDepth 8192 in
theorem A1_fresh : (A1 : List (HloOp τ sig (Elt F))).Forall fun op => op.fresh = ∅ :=
  forall_fresh_of_map rfl

set_option maxRecDepth 8192 in
theorem A1_sub : (A1 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub ..⟩

/-- Operations 119 to 141: the rows of codebook 1 at the indices. -/
def B1 : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S16384, .i32⟩) main_call6_v0) (broadcastInDim S16384 ![] bcast_S_S16384),
    TRef.binary (TRef.of (T := ⟨S16384, .i32⟩) main_v69) (TRef.of (T := ⟨S16384, .i32⟩) main_call6_v0) (TRef.of (T := ⟨S16384, .i1⟩) main_call6_v1) (cmpi .slt),
    TRef.nullary (TRef.of (T := ⟨S_, .i32⟩) main_call6_c_0) (constantI S_ 32 256#32),
    TRef.unary (TRef.of (T := ⟨S_, .i32⟩) main_call6_c_0) (TRef.of (T := ⟨S16384, .i32⟩) main_call6_v2) (broadcastInDim S16384 ![] bcast_S_S16384),
    TRef.binary (TRef.of (T := ⟨S16384, .i32⟩) main_v69) (TRef.of (T := ⟨S16384, .i32⟩) main_call6_v2) (TRef.of (T := ⟨S16384, .i32⟩) main_call6_v3) addi,
    TRef.ternary (TRef.of (T := ⟨S16384, .i1⟩) main_call6_v1) (TRef.of (T := ⟨S16384, .i32⟩) main_call6_v3) (TRef.of (T := ⟨S16384, .i32⟩) main_v69) (TRef.of (T := ⟨S16384, .i32⟩) main_call6_v4) select,
    TRef.unary (TRef.of (T := ⟨S16384, .i32⟩) main_call6_v4) (TRef.of (T := ⟨S16384x1, .i32⟩) main_call6_v5) (broadcastInDim S16384x1 ![0] bcast_S16384_S16384x1_0),
    TRef.nullary (TRef.of (T := ⟨S1, .i32⟩) main_call6_c_1) (constantI S1 32 255#32),
    TRef.nullary (TRef.of (T := ⟨S_, .i32⟩) main_call6_c_2) (constantI S_ 32 0#32),
    TRef.unary (TRef.of (T := ⟨S_, .i32⟩) main_call6_c_2) (TRef.of (T := ⟨S16384x1, .i32⟩) main_call6_v6) (broadcastInDim S16384x1 ![] bcast_S_S16384x1),
    TRef.binary (TRef.of (T := ⟨S16384x1, .i32⟩) main_call6_v5) (TRef.of (T := ⟨S16384x1, .i32⟩) main_call6_v6) (TRef.of (T := ⟨S16384x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S16384x1, .i32⟩) main_call6_v9) (broadcastInDim S16384x1 ![0, 1] bcast_S1x1_S16384x1_0_1),
    TRef.binary (TRef.of (T := ⟨S16384x1, .i32⟩) main_call6_v5) (TRef.of (T := ⟨S16384x1, .i32⟩) main_call6_v9) (TRef.of (T := ⟨S16384x1, .i1⟩) main_call6_v10) (cmpi .sle),
    TRef.binary (TRef.of (T := ⟨S16384x1, .i1⟩) main_call6_v7) (TRef.of (T := ⟨S16384x1, .i1⟩) main_call6_v10) (TRef.of (T := ⟨S16384x1, .i1⟩) main_call6_v11) andi,
    TRef.nullary (TRef.of (T := ⟨S_, .i1⟩) main_call6_c_3) (constantI S_ 1 1#1),
    TRef.binary (TRef.of (T := ⟨S16384x1, .i1⟩) main_call6_v11) (TRef.of (T := ⟨S_, .i1⟩) main_call6_c_3) (TRef.of (T := ⟨S16384, .i1⟩) main_call6_v12) (fun x v => Host.reduce IntOp.andi x v reducesTo_S16384x1_S16384_d1 h_S_),
    TRef.binary (TRef.of (T := ⟨S256x64, .f32⟩) main_v54) (TRef.of (T := ⟨S16384x1, .i32⟩) main_call6_v5) (TRef.of (T := ⟨S16384x64, .f32⟩) main_call6_v13) (fun x i => Host.gather gather_S256x64_S16384x1_S16384x64_1_0_n_n_0_1_164 x i),
    TRef.unary (TRef.of (T := ⟨S16384, .i1⟩) main_call6_v12) (TRef.of (T := ⟨S16384x64, .i1⟩) main_call6_v14) (broadcastInDim S16384x64 ![0] bcast_S16384_S16384x64_0),
    TRef.nullary (TRef.of (T := ⟨S_, .f32⟩) main_call6_cst) (constant S_ .f32 0x7FC00000#32),
    TRef.unary (TRef.of (T := ⟨S_, .f32⟩) main_call6_cst) (TRef.of (T := ⟨S16384x64, .f32⟩) main_call6_v15) (broadcastInDim S16384x64 ![] bcast_S_S16384x64),
    TRef.ternary (TRef.of (T := ⟨S16384x64, .i1⟩) main_call6_v14) (TRef.of (T := ⟨S16384x64, .f32⟩) main_call6_v13) (TRef.of (T := ⟨S16384x64, .f32⟩) main_call6_v15) (TRef.of (T := ⟨S16384x64, .f32⟩) main_v70) select ]

/-- The buffers that `B1` writes. -/
abbrev B1W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v70]

set_option maxRecDepth 8192 in
set_option maxHeartbeats 1000000 in
theorem B1_writes : (B1 : List (HloOp τ sig (Elt F))).Forall fun op => op.writes ⊆ (B1W.map (Proc.devRef (τ := τ) .tc)).toFinset :=
  forall_writes_sub_of_map rfl

set_option maxRecDepth 8192 in
theorem B1_fresh : (B1 : List (HloOp τ sig (Elt F))).Forall fun op => op.fresh = ∅ :=
  forall_fresh_of_map rfl

set_option maxRecDepth 8192 in
theorem B1_sub : (B1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Operations 142 to 160: the loss of level 1, the next residual and the sum of the rows. -/
def C1 : List (HloOp τ sig (Elt F)) :=
  [ binary main_v70 main_v51 main_v71 (subf : (⟨S16384x64, .f32⟩ : BufTy).Contents (Elt F) → (⟨S16384x64, .f32⟩ : BufTy).Contents (Elt F) → (⟨S16384x64, .f32⟩ : BufTy).Contents (Elt F)),
    binary main_v71 main_v71 main_v72 (mulf : (⟨S16384x64, .f32⟩ : BufTy).Contents (Elt F) → (⟨S16384x64, .f32⟩ : BufTy).Contents (Elt F) → (⟨S16384x64, .f32⟩ : BufTy).Contents (Elt F)),
    nullary main_cst_11 (constant S_ .f32 0x00000000#32),
    binary main_v72 main_cst_11 main_v73 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_12 (constant S_ .f32 0x49800000#32),
    binary main_v73 main_cst_12 main_v74 (Host.divf : (⟨S_, .f32⟩ : BufTy).Contents (Elt F) → (⟨S_, .f32⟩ : BufTy).Contents (Elt F) → (⟨S_, .f32⟩ : BufTy).Contents (Elt F)),
    binary main_v70 main_v51 main_v75 (subf : (⟨S16384x64, .f32⟩ : BufTy).Contents (Elt F) → (⟨S16384x64, .f32⟩ : BufTy).Contents (Elt F) → (⟨S16384x64, .f32⟩ : BufTy).Contents (Elt F)),
    binary main_v75 main_v75 main_v76 (mulf : (⟨S16384x64, .f32⟩ : BufTy).Contents (Elt F) → (⟨S16384x64, .f32⟩ : BufTy).Contents (Elt F) → (⟨S16384x64, .f32⟩ : BufTy).Contents (Elt F)),
    nullary main_cst_13 (constant S_ .f32 0x00000000#32),
    binary main_v76 main_cst_13 main_v77 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_14 (constant S_ .f32 0x49800000#32),
    binary main_v77 main_cst_14 main_v78 (Host.divf : (⟨S_, .f32⟩ : BufTy).Contents (Elt F) → (⟨S_, .f32⟩ : BufTy).Contents (Elt F) → (⟨S_, .f32⟩ : BufTy).Contents (Elt F)),
    nullary main_cst_15 (constant S_ .f32 0x3E800000#32),
    binary main_cst_15 main_v78 main_v79 (mulf : (⟨S_, .f32⟩ : BufTy).Contents (Elt F) → (⟨S_, .f32⟩ : BufTy).Contents (Elt F) → (⟨S_, .f32⟩ : BufTy).Contents (Elt F)),
    binary main_v74 main_v79 main_v80 (addf : (⟨S_, .f32⟩ : BufTy).Contents (Elt F) → (⟨S_, .f32⟩ : BufTy).Contents (Elt F) → (⟨S_, .f32⟩ : BufTy).Contents (Elt F)),
    binary main_v70 main_v51 main_v81 (subf : (⟨S16384x64, .f32⟩ : BufTy).Contents (Elt F) → (⟨S16384x64, .f32⟩ : BufTy).Contents (Elt F) → (⟨S16384x64, .f32⟩ : BufTy).Contents (Elt F)),
    binary main_v51 main_v81 main_v82 (addf : (⟨S16384x64, .f32⟩ : BufTy).Contents (Elt F) → (⟨S16384x64, .f32⟩ : BufTy).Contents (Elt F) → (⟨S16384x64, .f32⟩ : BufTy).Contents (Elt F)),
    binary main_v51 main_v82 main_v83 (subf : (⟨S16384x64, .f32⟩ : BufTy).Contents (Elt F) → (⟨S16384x64, .f32⟩ : BufTy).Contents (Elt F) → (⟨S16384x64, .f32⟩ : BufTy).Contents (Elt F)),
    binary main_v52 main_v82 main_v84 (addf : (⟨S16384x64, .f32⟩ : BufTy).Contents (Elt F) → (⟨S16384x64, .f32⟩ : BufTy).Contents (Elt F) → (⟨S16384x64, .f32⟩ : BufTy).Contents (Elt F)) ]

/-- The buffers that `C1` writes. -/
abbrev C1W : List (Ref sig .tc) := [main_v71, main_v72, main_cst_11, main_v73, main_cst_12, main_v74, main_v75, main_v76, main_cst_13, main_v77, main_cst_14, main_v78, main_cst_15, main_v79, main_v80, main_v81, main_v82, main_v83, main_v84]

set_option maxRecDepth 8192 in
set_option maxHeartbeats 1000000 in
theorem C1_writes : (C1 : List (HloOp τ sig (Elt F))).Forall fun op => op.writes ⊆ (C1W.map (Proc.devRef (τ := τ) .tc)).toFinset :=
  forall_writes_sub_of_map rfl

set_option maxRecDepth 8192 in
theorem C1_fresh : (C1 : List (HloOp τ sig (Elt F))).Forall fun op => op.fresh = ∅ :=
  forall_fresh_of_map rfl

set_option maxRecDepth 8192 in
theorem C1_sub : (C1 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub ..⟩

/-- Operations 161 to 178: the distances to codebook 2 and the index of the smallest. -/
def A2x : List (HloOp τ sig (Elt F)) :=
  [ unary main_v0 main_v85 ((extractStridedSlice S1x256x64 ![2, 0, 0] · slices_S4x256x64_S1x256x64_2_0_0) : (⟨S4x256x64, .f32⟩ : BufTy).Contents (Elt F) → (⟨S1x256x64, .f32⟩ : BufTy).Contents (Elt F)),
    reshape main_v85 main_v86 (rfl : (.f32 : EltTy) = .f32) shapeCasts_S1x256x64_S256x64,
    binary main_v83 main_v83 main_v87 (mulf : (⟨S16384x64, .f32⟩ : BufTy).Contents (Elt F) → (⟨S16384x64, .f32⟩ : BufTy).Contents (Elt F) → (⟨S16384x64, .f32⟩ : BufTy).Contents (Elt F)),
    nullary main_cst_16 (constant S_ .f32 0x00000000#32),
    binary main_v87 main_cst_16 main_v88 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v88 main_v89 (broadcastInDim S16384x1 ![0] bcast_S16384_S16384x1_0 : (⟨S16384, .f32⟩ : BufTy).Contents (Elt F) → (⟨S16384x1, .f32⟩ : BufTy).Contents (Elt F)),
    binary main_v86 main_v86 main_v90 (mulf : (⟨S256x64, .f32⟩ : BufTy).Contents (Elt F) → (⟨S256x64, .f32⟩ : BufTy).Contents (Elt F) → (⟨S256x64, .f32⟩ : BufTy).Contents (Elt F)),
    nullary main_cst_17 (constant S_ .f32 0x00000000#32),
    binary main_v90 main_cst_17 main_v91 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    unary main_v91 main_v92 (broadcastInDim S1x256 ![1] bcast_S256_S1x256_1 : (⟨S256, .f32⟩ : BufTy).Contents (Elt F) → (⟨S1x256, .f32⟩ : BufTy).Contents (Elt F)),
    unary main_v89 main_v93 (broadcastInDim S16384x256 ![0, 1] bcast_S16384x1_S16384x256_0_1 : (⟨S16384x1, .f32⟩ : BufTy).Contents (Elt F) → (⟨S16384x256, .f32⟩ : BufTy).Contents (Elt F)),
    unary main_v92 main_v94 (broadcastInDim S16384x256 ![0, 1] bcast_S1x256_S16384x256_0_1 : (⟨S1x256, .f32⟩ : BufTy).Contents (Elt F) → (⟨S16384x256, .f32⟩ : BufTy).Contents (Elt F)),
    binary main_v93 main_v94 main_v95 (addf : (⟨S16384x256, .f32⟩ : BufTy).Contents (Elt F) → (⟨S16384x256, .f32⟩ : BufTy).Contents (Elt F) → (⟨S16384x256, .f32⟩ : BufTy).Contents (Elt F)),
    unary main_v86 main_v96 ((transpose S64x256 [1, 0] · transposes_S256x64_S64x256_1_0) : (⟨S256x64, .f32⟩ : BufTy).Contents (Elt F) → (⟨S64x256, .f32⟩ : BufTy).Contents (Elt F)),
    binary main_v83 main_v96 main_v97 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    nullary main_cst_18 (constant S_ .f32 0x40000000#32),
    unary main_cst_18 main_v98 (broadcastInDim S16384x256 ![] bcast_S_S16384x256 : (⟨S_, .f32⟩ : BufTy).Contents (Elt F) → (⟨S16384x256, .f32⟩ : BufTy).Contents (Elt F)),
    binary main_v98 main_v97 main_v99 (mulf : (⟨S16384x256, .f32⟩ : BufTy).Contents (Elt F) → (⟨S16384x256, .f32⟩ : BufTy).Contents (Elt F) → (⟨S16384x256, .f32⟩ : BufTy).Contents (Elt F)) ]

/-- The buffers that `A2x` writes. -/
abbrev A2xW : List (Ref sig .tc) := [main_v85, main_v86, main_v87, main_cst_16, main_v88, main_v89, main_v90, main_cst_17, main_v91, main_v92, main_v93, main_v94, main_v95, main_v96, main_v97, main_cst_18, main_v98, main_v99]

set_option maxRecDepth 8192 in
set_option maxHeartbeats 1000000 in
theorem A2x_writes : (A2x : List (HloOp τ sig (Elt F))).Forall fun op => op.writes ⊆ (A2xW.map (Proc.devRef (τ := τ) .tc)).toFinset :=
  forall_writes_sub_of_map rfl

set_option maxRecDepth 8192 in
theorem A2x_fresh : (A2x : List (HloOp τ sig (Elt F))).Forall fun op => op.fresh = ∅ :=
  forall_fresh_of_map rfl

set_option maxRecDepth 8192 in
theorem A2x_sub : (A2x : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub ..⟩

/-- Operations 179 to 184: the distances to codebook 2 and the index of the smallest. -/
def A2y : List (HloOp τ sig (Elt F)) :=
  [ binary main_v95 main_v99 main_v100 (subf : (⟨S16384x256, .f32⟩ : BufTy).Contents (Elt F) → (⟨S16384x256, .f32⟩ : BufTy).Contents (Elt F) → (⟨S16384x256, .f32⟩ : BufTy).Contents (Elt F)),
    TRef.nullary (TRef.of (T := ⟨S16384x256, .i32⟩) main_call7_v0) (iotaInDim S16384x256 32 1),
    TRef.nullary (TRef.of (T := ⟨S_, .f32⟩) main_call7_cst) (constant S_ .f32 0x7F800000#32),
    TRef.nullary (TRef.of (T := ⟨S_, .i32⟩) main_call7_c) (constantI S_ 32 0#32),
    TRef.quaternary (TRef.of (T := ⟨S16384x256, .f32⟩) main_v100) (TRef.of (T := ⟨S16384x256, .i32⟩) main_call7_v0) (TRef.of (T := ⟨S_, .f32⟩) main_call7_cst) (TRef.of (T := ⟨S_, .i32⟩) main_call7_c) (TRef.of (T := ⟨S16384, .f32⟩) main_call7_v1_0) (fun x y u v j => (Host.argReduce reducer_argmin_f32_i32 x y u v reducesTo_S16384x256_S16384_d1 h_S_ j).1),
    TRef.quaternary (TRef.of (T := ⟨S16384x256, .f32⟩) main_v100) (TRef.of (T := ⟨S16384x256, .i32⟩) main_call7_v0) (TRef.of (T := ⟨S_, .f32⟩) main_call7_cst) (TRef.of (T := ⟨S_, .i32⟩) main_call7_c) (TRef.of (T := ⟨S16384, .i32⟩) main_v101) (fun x y u v j => (Host.argReduce reducer_argmin_f32_i32 x y u v reducesTo_S16384x256_S16384_d1 h_S_ j).2) ]

/-- The buffers that `A2y` writes. -/
abbrev A2yW : List (Ref sig .tc) := [main_v100, main_call7_v0, main_call7_cst, main_call7_c, main_call7_v1_0, main_v101]

set_option maxRecDepth 8192 in
set_option maxHeartbeats 1000000 in
theorem A2y_writes : (A2y : List (HloOp τ sig (Elt F))).Forall fun op => op.writes ⊆ (A2yW.map (Proc.devRef (τ := τ) .tc)).toFinset :=
  forall_writes_sub_of_map rfl

set_option maxRecDepth 8192 in
theorem A2y_fresh : (A2y : List (HloOp τ sig (Elt F))).Forall fun op => op.fresh = ∅ :=
  forall_fresh_of_map rfl

set_option maxRecDepth 8192 in
theorem A2y_sub : (A2y : List (HloOp τ sig (Elt F))).Forall fun op => op.bufs ⊆ tcRefs τ sig :=
  ⟨binary_bufs_sub .., nullary_bufs_sub .., nullary_bufs_sub .., nullary_bufs_sub .., quaternary_bufs_sub .., quaternary_bufs_sub ..⟩

/-- Operations 185 to 207: the rows of codebook 2 at the indices. -/
def B2 : List (HloOp τ sig (Elt F)) :=
  [ TRef.nullary (TRef.of (T := ⟨S_, .i32⟩) main_call8_c) (constantI S_ 32 0#32),
    TRef.unary (TRef.of (T := ⟨S_, .i32⟩) main_call8_c) (TRef.of (T := ⟨S16384, .i32⟩) main_call8_v0) (broadcastInDim S16384 ![] bcast_S_S16384),
    TRef.binary (TRef.of (T := ⟨S16384, .i32⟩) main_v101) (TRef.of (T := ⟨S16384, .i32⟩) main_call8_v0) (TRef.of (T := ⟨S16384, .i1⟩) main_call8_v1) (cmpi .slt),
    TRef.nullary (TRef.of (T := ⟨S_, .i32⟩) main_call8_c_0) (constantI S_ 32 256#32),
    TRef.unary (TRef.of (T := ⟨S_, .i32⟩) main_call8_c_0) (TRef.of (T := ⟨S16384, .i32⟩) main_call8_v2) (broadcastInDim S16384 ![] bcast_S_S16384),
    TRef.binary (TRef.of (T := ⟨S16384, .i32⟩) main_v101) (TRef.of (T := ⟨S16384, .i32⟩) main_call8_v2) (TRef.of (T := ⟨S16384, .i32⟩) main_call8_v3) addi,
    TRef.ternary (TRef.of (T := ⟨S16384, .i1⟩) main_call8_v1) (TRef.of (T := ⟨S16384, .i32⟩) main_call8_v3) (TRef.of (T := ⟨S16384, .i32⟩) main_v101) (TRef.of (T := ⟨S16384, .i32⟩) main_call8_v4) select,
    TRef.unary (TRef.of (T := ⟨S16384, .i32⟩) main_call8_v4) (TRef.of (T := ⟨S16384x1, .i32⟩) main_call8_v5) (broadcastInDim S16384x1 ![0] bcast_S16384_S16384x1_0),
    TRef.nullary (TRef.of (T := ⟨S1, .i32⟩) main_call8_c_1) (constantI S1 32 255#32),
    TRef.nullary (TRef.of (T := ⟨S_, .i32⟩) main_call8_c_2) (constantI S_ 32 0#32),
    TRef.unary (TRef.of (T := ⟨S_, .i32⟩) main_call8_c_2) (TRef.of (T := ⟨S16384x1, .i32⟩) main_call8_v6) (broadcastInDim S16384x1 ![] bcast_S_S16384x1),
    TRef.binary (TRef.of (T := ⟨S16384x1, .i32⟩) main_call8_v5) (TRef.of (T := ⟨S16384x1, .i32⟩) main_call8_v6) (TRef.of (T := ⟨S16384x1, .i1⟩) main_call8_v7) (cmpi .sge),
    TRef.unary (TRef.of (T := ⟨S1, .i32⟩) main_call8_c_1) (TRef.of (T := ⟨S1x1, .i32⟩) main_call8_v8) (broadcastInDim S1x1 ![1] bcast_S1_S1x1_1),
    TRef.unary (TRef.of (T := ⟨S1x1, .i32⟩) main_call8_v8) (TRef.of (T := ⟨S16384x1, .i32⟩) main_call8_v9) (broadcastInDim S16384x1 ![0, 1] bcast_S1x1_S16384x1_0_1),
    TRef.binary (TRef.of (T := ⟨S16384x1, .i32⟩) main_call8_v5) (TRef.of (T := ⟨S16384x1, .i32⟩) main_call8_v9) (TRef.of (T := ⟨S16384x1, .i1⟩) main_call8_v10) (cmpi .sle),
    TRef.binary (TRef.of (T := ⟨S16384x1, .i1⟩) main_call8_v7) (TRef.of (T := ⟨S16384x1, .i1⟩) main_call8_v10) (TRef.of (T := ⟨S16384x1, .i1⟩) main_call8_v11) andi,
    TRef.nullary (TRef.of (T := ⟨S_, .i1⟩) main_call8_c_3) (constantI S_ 1 1#1),
    TRef.binary (TRef.of (T := ⟨S16384x1, .i1⟩) main_call8_v11) (TRef.of (T := ⟨S_, .i1⟩) main_call8_c_3) (TRef.of (T := ⟨S16384, .i1⟩) main_call8_v12) (fun x v => Host.reduce IntOp.andi x v reducesTo_S16384x1_S16384_d1 h_S_),
    TRef.binary (TRef.of (T := ⟨S256x64, .f32⟩) main_v86) (TRef.of (T := ⟨S16384x1, .i32⟩) main_call8_v5) (TRef.of (T := ⟨S16384x64, .f32⟩) main_call8_v13) (fun x i => Host.gather gather_S256x64_S16384x1_S16384x64_1_0_n_n_0_1_164 x i),
    TRef.unary (TRef.of (T := ⟨S16384, .i1⟩) main_call8_v12) (TRef.of (T := ⟨S16384x64, .i1⟩) main_call8_v14) (broadcastInDim S16384x64 ![0] bcast_S16384_S16384x64_0),
    TRef.nullary (TRef.of (T := ⟨S_, .f32⟩) main_call8_cst) (constant S_ .f32 0x7FC00000#32),
    TRef.unary (TRef.of (T := ⟨S_, .f32⟩) main_call8_cst) (TRef.of (T := ⟨S16384x64, .f32⟩) main_call8_v15) (broadcastInDim S16384x64 ![] bcast_S_S16384x64),
    TRef.ternary (TRef.of (T := ⟨S16384x64, .i1⟩) main_call8_v14) (TRef.of (T := ⟨S16384x64, .f32⟩) main_call8_v13) (TRef.of (T := ⟨S16384x64, .f32⟩) main_call8_v15) (TRef.of (T := ⟨S16384x64, .f32⟩) main_v102) select ]

/-- The buffers that `B2` writes. -/
abbrev B2W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v102]

set_option maxRecDepth 8192 in
set_option maxHeartbeats 1000000 in
theorem B2_writes : (B2 : List (HloOp τ sig (Elt F))).Forall fun op => op.writes ⊆ (B2W.map (Proc.devRef (τ := τ) .tc)).toFinset :=
  forall_writes_sub_of_map rfl

set_option maxRecDepth 8192 in
theorem B2_fresh : (B2 : List (HloOp τ sig (Elt F))).Forall fun op => op.fresh = ∅ :=
  forall_fresh_of_map rfl

set_option maxRecDepth 8192 in
theorem B2_sub : (B2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Operations 208 to 226: the loss of level 2, the next residual and the sum of the rows. -/
def C2 : List (HloOp τ sig (Elt F)) :=
  [ binary main_v102 main_v83 main_v103 (subf : (⟨S16384x64, .f32⟩ : BufTy).Contents (Elt F) → (⟨S16384x64, .f32⟩ : BufTy).Contents (Elt F) → (⟨S16384x64, .f32⟩ : BufTy).Contents (Elt F)),
    binary main_v103 main_v103 main_v104 (mulf : (⟨S16384x64, .f32⟩ : BufTy).Contents (Elt F) → (⟨S16384x64, .f32⟩ : BufTy).Contents (Elt F) → (⟨S16384x64, .f32⟩ : BufTy).Contents (Elt F)),
    nullary main_cst_19 (constant S_ .f32 0x00000000#32),
    binary main_v104 main_cst_19 main_v105 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_20 (constant S_ .f32 0x49800000#32),
    binary main_v105 main_cst_20 main_v106 (Host.divf : (⟨S_, .f32⟩ : BufTy).Contents (Elt F) → (⟨S_, .f32⟩ : BufTy).Contents (Elt F) → (⟨S_, .f32⟩ : BufTy).Contents (Elt F)),
    binary main_v102 main_v83 main_v107 (subf : (⟨S16384x64, .f32⟩ : BufTy).Contents (Elt F) → (⟨S16384x64, .f32⟩ : BufTy).Contents (Elt F) → (⟨S16384x64, .f32⟩ : BufTy).Contents (Elt F)),
    binary main_v107 main_v107 main_v108 (mulf : (⟨S16384x64, .f32⟩ : BufTy).Contents (Elt F) → (⟨S16384x64, .f32⟩ : BufTy).Contents (Elt F) → (⟨S16384x64, .f32⟩ : BufTy).Contents (Elt F)),
    nullary main_cst_21 (constant S_ .f32 0x00000000#32),
    binary main_v108 main_cst_21 main_v109 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_22 (constant S_ .f32 0x49800000#32),
    binary main_v109 main_cst_22 main_v110 (Host.divf : (⟨S_, .f32⟩ : BufTy).Contents (Elt F) → (⟨S_, .f32⟩ : BufTy).Contents (Elt F) → (⟨S_, .f32⟩ : BufTy).Contents (Elt F)),
    nullary main_cst_23 (constant S_ .f32 0x3E800000#32),
    binary main_cst_23 main_v110 main_v111 (mulf : (⟨S_, .f32⟩ : BufTy).Contents (Elt F) → (⟨S_, .f32⟩ : BufTy).Contents (Elt F) → (⟨S_, .f32⟩ : BufTy).Contents (Elt F)),
    binary main_v106 main_v111 main_v112 (addf : (⟨S_, .f32⟩ : BufTy).Contents (Elt F) → (⟨S_, .f32⟩ : BufTy).Contents (Elt F) → (⟨S_, .f32⟩ : BufTy).Contents (Elt F)),
    binary main_v102 main_v83 main_v113 (subf : (⟨S16384x64, .f32⟩ : BufTy).Contents (Elt F) → (⟨S16384x64, .f32⟩ : BufTy).Contents (Elt F) → (⟨S16384x64, .f32⟩ : BufTy).Contents (Elt F)),
    binary main_v83 main_v113 main_v114 (addf : (⟨S16384x64, .f32⟩ : BufTy).Contents (Elt F) → (⟨S16384x64, .f32⟩ : BufTy).Contents (Elt F) → (⟨S16384x64, .f32⟩ : BufTy).Contents (Elt F)),
    binary main_v83 main_v114 main_v115 (subf : (⟨S16384x64, .f32⟩ : BufTy).Contents (Elt F) → (⟨S16384x64, .f32⟩ : BufTy).Contents (Elt F) → (⟨S16384x64, .f32⟩ : BufTy).Contents (Elt F)),
    binary main_v84 main_v114 main_v116 (addf : (⟨S16384x64, .f32⟩ : BufTy).Contents (Elt F) → (⟨S16384x64, .f32⟩ : BufTy).Contents (Elt F) → (⟨S16384x64, .f32⟩ : BufTy).Contents (Elt F)) ]

/-- The buffers that `C2` writes. -/
abbrev C2W : List (Ref sig .tc) := [main_v103, main_v104, main_cst_19, main_v105, main_cst_20, main_v106, main_v107, main_v108, main_cst_21, main_v109, main_cst_22, main_v110, main_cst_23, main_v111, main_v112, main_v113, main_v114, main_v115, main_v116]

set_option maxRecDepth 8192 in
set_option maxHeartbeats 1000000 in
theorem C2_writes : (C2 : List (HloOp τ sig (Elt F))).Forall fun op => op.writes ⊆ (C2W.map (Proc.devRef (τ := τ) .tc)).toFinset :=
  forall_writes_sub_of_map rfl

set_option maxRecDepth 8192 in
theorem C2_fresh : (C2 : List (HloOp τ sig (Elt F))).Forall fun op => op.fresh = ∅ :=
  forall_fresh_of_map rfl

set_option maxRecDepth 8192 in
theorem C2_sub : (C2 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub ..⟩

/-- Operations 227 to 250: the distances to codebook 3 and the index of the smallest. -/
def A3 : List (HloOp τ sig (Elt F)) :=
  [ unary main_v0 main_v117 ((extractStridedSlice S1x256x64 ![3, 0, 0] · slices_S4x256x64_S1x256x64_3_0_0) : (⟨S4x256x64, .f32⟩ : BufTy).Contents (Elt F) → (⟨S1x256x64, .f32⟩ : BufTy).Contents (Elt F)),
    reshape main_v117 main_v118 (rfl : (.f32 : EltTy) = .f32) shapeCasts_S1x256x64_S256x64,
    binary main_v115 main_v115 main_v119 (mulf : (⟨S16384x64, .f32⟩ : BufTy).Contents (Elt F) → (⟨S16384x64, .f32⟩ : BufTy).Contents (Elt F) → (⟨S16384x64, .f32⟩ : BufTy).Contents (Elt F)),
    nullary main_cst_24 (constant S_ .f32 0x00000000#32),
    binary main_v119 main_cst_24 main_v120 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v120 main_v121 (broadcastInDim S16384x1 ![0] bcast_S16384_S16384x1_0 : (⟨S16384, .f32⟩ : BufTy).Contents (Elt F) → (⟨S16384x1, .f32⟩ : BufTy).Contents (Elt F)),
    binary main_v118 main_v118 main_v122 (mulf : (⟨S256x64, .f32⟩ : BufTy).Contents (Elt F) → (⟨S256x64, .f32⟩ : BufTy).Contents (Elt F) → (⟨S256x64, .f32⟩ : BufTy).Contents (Elt F)),
    nullary main_cst_25 (constant S_ .f32 0x00000000#32),
    binary main_v122 main_cst_25 main_v123 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    unary main_v123 main_v124 (broadcastInDim S1x256 ![1] bcast_S256_S1x256_1 : (⟨S256, .f32⟩ : BufTy).Contents (Elt F) → (⟨S1x256, .f32⟩ : BufTy).Contents (Elt F)),
    unary main_v121 main_v125 (broadcastInDim S16384x256 ![0, 1] bcast_S16384x1_S16384x256_0_1 : (⟨S16384x1, .f32⟩ : BufTy).Contents (Elt F) → (⟨S16384x256, .f32⟩ : BufTy).Contents (Elt F)),
    unary main_v124 main_v126 (broadcastInDim S16384x256 ![0, 1] bcast_S1x256_S16384x256_0_1 : (⟨S1x256, .f32⟩ : BufTy).Contents (Elt F) → (⟨S16384x256, .f32⟩ : BufTy).Contents (Elt F)),
    binary main_v125 main_v126 main_v127 (addf : (⟨S16384x256, .f32⟩ : BufTy).Contents (Elt F) → (⟨S16384x256, .f32⟩ : BufTy).Contents (Elt F) → (⟨S16384x256, .f32⟩ : BufTy).Contents (Elt F)),
    unary main_v118 main_v128 ((transpose S64x256 [1, 0] · transposes_S256x64_S64x256_1_0) : (⟨S256x64, .f32⟩ : BufTy).Contents (Elt F) → (⟨S64x256, .f32⟩ : BufTy).Contents (Elt F)),
    binary main_v115 main_v128 main_v129 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    nullary main_cst_26 (constant S_ .f32 0x40000000#32),
    unary main_cst_26 main_v130 (broadcastInDim S16384x256 ![] bcast_S_S16384x256 : (⟨S_, .f32⟩ : BufTy).Contents (Elt F) → (⟨S16384x256, .f32⟩ : BufTy).Contents (Elt F)),
    binary main_v130 main_v129 main_v131 (mulf : (⟨S16384x256, .f32⟩ : BufTy).Contents (Elt F) → (⟨S16384x256, .f32⟩ : BufTy).Contents (Elt F) → (⟨S16384x256, .f32⟩ : BufTy).Contents (Elt F)),
    binary main_v127 main_v131 main_v132 (subf : (⟨S16384x256, .f32⟩ : BufTy).Contents (Elt F) → (⟨S16384x256, .f32⟩ : BufTy).Contents (Elt F) → (⟨S16384x256, .f32⟩ : BufTy).Contents (Elt F)),
    TRef.nullary (TRef.of (T := ⟨S16384x256, .i32⟩) main_call9_v0) (iotaInDim S16384x256 32 1),
    TRef.nullary (TRef.of (T := ⟨S_, .f32⟩) main_call9_cst) (constant S_ .f32 0x7F800000#32),
    TRef.nullary (TRef.of (T := ⟨S_, .i32⟩) main_call9_c) (constantI S_ 32 0#32),
    TRef.quaternary (TRef.of (T := ⟨S16384x256, .f32⟩) main_v132) (TRef.of (T := ⟨S16384x256, .i32⟩) main_call9_v0) (TRef.of (T := ⟨S_, .f32⟩) main_call9_cst) (TRef.of (T := ⟨S_, .i32⟩) main_call9_c) (TRef.of (T := ⟨S16384, .f32⟩) main_call9_v1_0) (fun x y u v j => (Host.argReduce reducer_argmin_f32_i32 x y u v reducesTo_S16384x256_S16384_d1 h_S_ j).1),
    TRef.quaternary (TRef.of (T := ⟨S16384x256, .f32⟩) main_v132) (TRef.of (T := ⟨S16384x256, .i32⟩) main_call9_v0) (TRef.of (T := ⟨S_, .f32⟩) main_call9_cst) (TRef.of (T := ⟨S_, .i32⟩) main_call9_c) (TRef.of (T := ⟨S16384, .i32⟩) main_v133) (fun x y u v j => (Host.argReduce reducer_argmin_f32_i32 x y u v reducesTo_S16384x256_S16384_d1 h_S_ j).2) ]

/-- The buffers that `A3` writes. -/
abbrev A3W : List (Ref sig .tc) := [main_v117, main_v118, main_v119, main_cst_24, main_v120, main_v121, main_v122, main_cst_25, main_v123, main_v124, main_v125, main_v126, main_v127, main_v128, main_v129, main_cst_26, main_v130, main_v131, main_v132, main_call9_v0, main_call9_cst, main_call9_c, main_call9_v1_0, main_v133]

set_option maxRecDepth 8192 in
set_option maxHeartbeats 1000000 in
theorem A3_writes : (A3 : List (HloOp τ sig (Elt F))).Forall fun op => op.writes ⊆ (A3W.map (Proc.devRef (τ := τ) .tc)).toFinset :=
  forall_writes_sub_of_map rfl

set_option maxRecDepth 8192 in
theorem A3_fresh : (A3 : List (HloOp τ sig (Elt F))).Forall fun op => op.fresh = ∅ :=
  forall_fresh_of_map rfl

set_option maxRecDepth 8192 in
theorem A3_sub : (A3 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub ..⟩

/-- Operations 251 to 273: the rows of codebook 3 at the indices. -/
def B3 : List (HloOp τ sig (Elt F)) :=
  [ TRef.nullary (TRef.of (T := ⟨S_, .i32⟩) main_call10_c) (constantI S_ 32 0#32),
    TRef.unary (TRef.of (T := ⟨S_, .i32⟩) main_call10_c) (TRef.of (T := ⟨S16384, .i32⟩) main_call10_v0) (broadcastInDim S16384 ![] bcast_S_S16384),
    TRef.binary (TRef.of (T := ⟨S16384, .i32⟩) main_v133) (TRef.of (T := ⟨S16384, .i32⟩) main_call10_v0) (TRef.of (T := ⟨S16384, .i1⟩) main_call10_v1) (cmpi .slt),
    TRef.nullary (TRef.of (T := ⟨S_, .i32⟩) main_call10_c_0) (constantI S_ 32 256#32),
    TRef.unary (TRef.of (T := ⟨S_, .i32⟩) main_call10_c_0) (TRef.of (T := ⟨S16384, .i32⟩) main_call10_v2) (broadcastInDim S16384 ![] bcast_S_S16384),
    TRef.binary (TRef.of (T := ⟨S16384, .i32⟩) main_v133) (TRef.of (T := ⟨S16384, .i32⟩) main_call10_v2) (TRef.of (T := ⟨S16384, .i32⟩) main_call10_v3) addi,
    TRef.ternary (TRef.of (T := ⟨S16384, .i1⟩) main_call10_v1) (TRef.of (T := ⟨S16384, .i32⟩) main_call10_v3) (TRef.of (T := ⟨S16384, .i32⟩) main_v133) (TRef.of (T := ⟨S16384, .i32⟩) main_call10_v4) select,
    TRef.unary (TRef.of (T := ⟨S16384, .i32⟩) main_call10_v4) (TRef.of (T := ⟨S16384x1, .i32⟩) main_call10_v5) (broadcastInDim S16384x1 ![0] bcast_S16384_S16384x1_0),
    TRef.nullary (TRef.of (T := ⟨S1, .i32⟩) main_call10_c_1) (constantI S1 32 255#32),
    TRef.nullary (TRef.of (T := ⟨S_, .i32⟩) main_call10_c_2) (constantI S_ 32 0#32),
    TRef.unary (TRef.of (T := ⟨S_, .i32⟩) main_call10_c_2) (TRef.of (T := ⟨S16384x1, .i32⟩) main_call10_v6) (broadcastInDim S16384x1 ![] bcast_S_S16384x1),
    TRef.binary (TRef.of (T := ⟨S16384x1, .i32⟩) main_call10_v5) (TRef.of (T := ⟨S16384x1, .i32⟩) main_call10_v6) (TRef.of (T := ⟨S16384x1, .i1⟩) main_call10_v7) (cmpi .sge),
    TRef.unary (TRef.of (T := ⟨S1, .i32⟩) main_call10_c_1) (TRef.of (T := ⟨S1x1, .i32⟩) main_call10_v8) (broadcastInDim S1x1 ![1] bcast_S1_S1x1_1),
    TRef.unary (TRef.of (T := ⟨S1x1, .i32⟩) main_call10_v8) (TRef.of (T := ⟨S16384x1, .i32⟩) main_call10_v9) (broadcastInDim S16384x1 ![0, 1] bcast_S1x1_S16384x1_0_1),
    TRef.binary (TRef.of (T := ⟨S16384x1, .i32⟩) main_call10_v5) (TRef.of (T := ⟨S16384x1, .i32⟩) main_call10_v9) (TRef.of (T := ⟨S16384x1, .i1⟩) main_call10_v10) (cmpi .sle),
    TRef.binary (TRef.of (T := ⟨S16384x1, .i1⟩) main_call10_v7) (TRef.of (T := ⟨S16384x1, .i1⟩) main_call10_v10) (TRef.of (T := ⟨S16384x1, .i1⟩) main_call10_v11) andi,
    TRef.nullary (TRef.of (T := ⟨S_, .i1⟩) main_call10_c_3) (constantI S_ 1 1#1),
    TRef.binary (TRef.of (T := ⟨S16384x1, .i1⟩) main_call10_v11) (TRef.of (T := ⟨S_, .i1⟩) main_call10_c_3) (TRef.of (T := ⟨S16384, .i1⟩) main_call10_v12) (fun x v => Host.reduce IntOp.andi x v reducesTo_S16384x1_S16384_d1 h_S_),
    TRef.binary (TRef.of (T := ⟨S256x64, .f32⟩) main_v118) (TRef.of (T := ⟨S16384x1, .i32⟩) main_call10_v5) (TRef.of (T := ⟨S16384x64, .f32⟩) main_call10_v13) (fun x i => Host.gather gather_S256x64_S16384x1_S16384x64_1_0_n_n_0_1_164 x i),
    TRef.unary (TRef.of (T := ⟨S16384, .i1⟩) main_call10_v12) (TRef.of (T := ⟨S16384x64, .i1⟩) main_call10_v14) (broadcastInDim S16384x64 ![0] bcast_S16384_S16384x64_0),
    TRef.nullary (TRef.of (T := ⟨S_, .f32⟩) main_call10_cst) (constant S_ .f32 0x7FC00000#32),
    TRef.unary (TRef.of (T := ⟨S_, .f32⟩) main_call10_cst) (TRef.of (T := ⟨S16384x64, .f32⟩) main_call10_v15) (broadcastInDim S16384x64 ![] bcast_S_S16384x64),
    TRef.ternary (TRef.of (T := ⟨S16384x64, .i1⟩) main_call10_v14) (TRef.of (T := ⟨S16384x64, .f32⟩) main_call10_v13) (TRef.of (T := ⟨S16384x64, .f32⟩) main_call10_v15) (TRef.of (T := ⟨S16384x64, .f32⟩) main_v134) select ]

/-- The buffers that `B3` writes. -/
abbrev B3W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v134]

set_option maxRecDepth 8192 in
set_option maxHeartbeats 1000000 in
theorem B3_writes : (B3 : List (HloOp τ sig (Elt F))).Forall fun op => op.writes ⊆ (B3W.map (Proc.devRef (τ := τ) .tc)).toFinset :=
  forall_writes_sub_of_map rfl

set_option maxRecDepth 8192 in
theorem B3_fresh : (B3 : List (HloOp τ sig (Elt F))).Forall fun op => op.fresh = ∅ :=
  forall_fresh_of_map rfl

set_option maxRecDepth 8192 in
theorem B3_sub : (B3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Operations 274 to 290: the loss of level 3, the next residual and the sum of the rows. -/
def C3x : List (HloOp τ sig (Elt F)) :=
  [ binary main_v134 main_v115 main_v135 (subf : (⟨S16384x64, .f32⟩ : BufTy).Contents (Elt F) → (⟨S16384x64, .f32⟩ : BufTy).Contents (Elt F) → (⟨S16384x64, .f32⟩ : BufTy).Contents (Elt F)),
    binary main_v135 main_v135 main_v136 (mulf : (⟨S16384x64, .f32⟩ : BufTy).Contents (Elt F) → (⟨S16384x64, .f32⟩ : BufTy).Contents (Elt F) → (⟨S16384x64, .f32⟩ : BufTy).Contents (Elt F)),
    nullary main_cst_27 (constant S_ .f32 0x00000000#32),
    binary main_v136 main_cst_27 main_v137 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_28 (constant S_ .f32 0x49800000#32),
    binary main_v137 main_cst_28 main_v138 (Host.divf : (⟨S_, .f32⟩ : BufTy).Contents (Elt F) → (⟨S_, .f32⟩ : BufTy).Contents (Elt F) → (⟨S_, .f32⟩ : BufTy).Contents (Elt F)),
    binary main_v134 main_v115 main_v139 (subf : (⟨S16384x64, .f32⟩ : BufTy).Contents (Elt F) → (⟨S16384x64, .f32⟩ : BufTy).Contents (Elt F) → (⟨S16384x64, .f32⟩ : BufTy).Contents (Elt F)),
    binary main_v139 main_v139 main_v140 (mulf : (⟨S16384x64, .f32⟩ : BufTy).Contents (Elt F) → (⟨S16384x64, .f32⟩ : BufTy).Contents (Elt F) → (⟨S16384x64, .f32⟩ : BufTy).Contents (Elt F)),
    nullary main_cst_29 (constant S_ .f32 0x00000000#32),
    binary main_v140 main_cst_29 main_v141 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_30 (constant S_ .f32 0x49800000#32),
    binary main_v141 main_cst_30 main_v142 (Host.divf : (⟨S_, .f32⟩ : BufTy).Contents (Elt F) → (⟨S_, .f32⟩ : BufTy).Contents (Elt F) → (⟨S_, .f32⟩ : BufTy).Contents (Elt F)),
    nullary main_cst_31 (constant S_ .f32 0x3E800000#32),
    binary main_cst_31 main_v142 main_v143 (mulf : (⟨S_, .f32⟩ : BufTy).Contents (Elt F) → (⟨S_, .f32⟩ : BufTy).Contents (Elt F) → (⟨S_, .f32⟩ : BufTy).Contents (Elt F)),
    binary main_v138 main_v143 main_v144 (addf : (⟨S_, .f32⟩ : BufTy).Contents (Elt F) → (⟨S_, .f32⟩ : BufTy).Contents (Elt F) → (⟨S_, .f32⟩ : BufTy).Contents (Elt F)),
    binary main_v134 main_v115 main_v145 (subf : (⟨S16384x64, .f32⟩ : BufTy).Contents (Elt F) → (⟨S16384x64, .f32⟩ : BufTy).Contents (Elt F) → (⟨S16384x64, .f32⟩ : BufTy).Contents (Elt F)),
    binary main_v115 main_v145 main_v146 (addf : (⟨S16384x64, .f32⟩ : BufTy).Contents (Elt F) → (⟨S16384x64, .f32⟩ : BufTy).Contents (Elt F) → (⟨S16384x64, .f32⟩ : BufTy).Contents (Elt F)) ]

/-- The buffers that `C3x` writes. -/
abbrev C3xW : List (Ref sig .tc) := [main_v135, main_v136, main_cst_27, main_v137, main_cst_28, main_v138, main_v139, main_v140, main_cst_29, main_v141, main_cst_30, main_v142, main_cst_31, main_v143, main_v144, main_v145, main_v146]

set_option maxRecDepth 8192 in
set_option maxHeartbeats 1000000 in
theorem C3x_writes : (C3x : List (HloOp τ sig (Elt F))).Forall fun op => op.writes ⊆ (C3xW.map (Proc.devRef (τ := τ) .tc)).toFinset :=
  forall_writes_sub_of_map rfl

set_option maxRecDepth 8192 in
theorem C3x_fresh : (C3x : List (HloOp τ sig (Elt F))).Forall fun op => op.fresh = ∅ :=
  forall_fresh_of_map rfl

set_option maxRecDepth 8192 in
theorem C3x_sub : (C3x : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

/-- Operations 291 to 292: the loss of level 3, the next residual and the sum of the rows. -/
def C3y : List (HloOp τ sig (Elt F)) :=
  [ binary main_v115 main_v146 main_v147 (subf : (⟨S16384x64, .f32⟩ : BufTy).Contents (Elt F) → (⟨S16384x64, .f32⟩ : BufTy).Contents (Elt F) → (⟨S16384x64, .f32⟩ : BufTy).Contents (Elt F)),
    binary main_v116 main_v146 main_v148 (addf : (⟨S16384x64, .f32⟩ : BufTy).Contents (Elt F) → (⟨S16384x64, .f32⟩ : BufTy).Contents (Elt F) → (⟨S16384x64, .f32⟩ : BufTy).Contents (Elt F)) ]

/-- The buffers that `C3y` writes. -/
abbrev C3yW : List (Ref sig .tc) := [main_v147, main_v148]

set_option maxRecDepth 8192 in
set_option maxHeartbeats 1000000 in
theorem C3y_writes : (C3y : List (HloOp τ sig (Elt F))).Forall fun op => op.writes ⊆ (C3yW.map (Proc.devRef (τ := τ) .tc)).toFinset :=
  forall_writes_sub_of_map rfl

set_option maxRecDepth 8192 in
theorem C3y_fresh : (C3y : List (HloOp τ sig (Elt F))).Forall fun op => op.fresh = ∅ :=
  forall_fresh_of_map rfl

set_option maxRecDepth 8192 in
theorem C3y_sub : (C3y : List (HloOp τ sig (Elt F))).Forall fun op => op.bufs ⊆ tcRefs τ sig :=
  ⟨binary_bufs_sub .., binary_bufs_sub ..⟩

/-- Operations 293 to 332: the mean loss, the stacked indices and the decoder. -/
def tail : List (HloOp τ sig (Elt F)) :=
  [ unary main_v48 main_v149 (broadcastInDim S1 ![] bcast_S_S1 : (⟨S_, .f32⟩ : BufTy).Contents (Elt F) → (⟨S1, .f32⟩ : BufTy).Contents (Elt F)),
    unary main_v80 main_v150 (broadcastInDim S1 ![] bcast_S_S1 : (⟨S_, .f32⟩ : BufTy).Contents (Elt F) → (⟨S1, .f32⟩ : BufTy).Contents (Elt F)),
    unary main_v112 main_v151 (broadcastInDim S1 ![] bcast_S_S1 : (⟨S_, .f32⟩ : BufTy).Contents (Elt F) → (⟨S1, .f32⟩ : BufTy).Contents (Elt F)),
    unary main_v144 main_v152 (broadcastInDim S1 ![] bcast_S_S1 : (⟨S_, .f32⟩ : BufTy).Contents (Elt F) → (⟨S1, .f32⟩ : BufTy).Contents (Elt F)),
    nary ![main_v149, main_v150, main_v151, main_v152] main_v153 (fun u => fn_main_v153 (F := F) (u 0) (u 1) (u 2) (u 3)),
    nullary main_cst_32 (constant S_ .f32 0x00000000#32),
    binary main_v153 main_cst_32 main_v154 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_33 (constant S_ .f32 0x40800000#32),
    binary main_v154 main_cst_33 main_v155 (Host.divf : (⟨S_, .f32⟩ : BufTy).Contents (Elt F) → (⟨S_, .f32⟩ : BufTy).Contents (Elt F) → (⟨S_, .f32⟩ : BufTy).Contents (Elt F)),
    unary main_v37 main_v156 (broadcastInDim S16384x1 ![0] bcast_S16384_S16384x1_0 : (⟨S16384, .i32⟩ : BufTy).Contents (Elt F) → (⟨S16384x1, .i32⟩ : BufTy).Contents (Elt F)),
    unary main_v69 main_v157 (broadcastInDim S16384x1 ![0] bcast_S16384_S16384x1_0 : (⟨S16384, .i32⟩ : BufTy).Contents (Elt F) → (⟨S16384x1, .i32⟩ : BufTy).Contents (Elt F)),
    unary main_v101 main_v158 (broadcastInDim S16384x1 ![0] bcast_S16384_S16384x1_0 : (⟨S16384, .i32⟩ : BufTy).Contents (Elt F) → (⟨S16384x1, .i32⟩ : BufTy).Contents (Elt F)),
    unary main_v133 main_v159 (broadcastInDim S16384x1 ![0] bcast_S16384_S16384x1_0 : (⟨S16384, .i32⟩ : BufTy).Contents (Elt F) → (⟨S16384x1, .i32⟩ : BufTy).Contents (Elt F)),
    nary ![main_v156, main_v157, main_v158, main_v159] main_v160 (fun u => fn_main_v160 (F := F) (u 0) (u 1) (u 2) (u 3)),
    binary main_v148 main_arg10 main_v161 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg11 main_v162 (broadcastInDim S1x128 ![1] bcast_S128_S1x128_1 : (⟨S128, .f32⟩ : BufTy).Contents (Elt F) → (⟨S1x128, .f32⟩ : BufTy).Contents (Elt F)),
    unary main_v162 main_v163 (broadcastInDim S16384x128 ![0, 1] bcast_S1x128_S16384x128_0_1 : (⟨S1x128, .f32⟩ : BufTy).Contents (Elt F) → (⟨S16384x128, .f32⟩ : BufTy).Contents (Elt F)),
    binary main_v161 main_v163 main_v164 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S16384x128, .f32⟩) main_call11_v0) (broadcastInDim S16384x128 ![] bcast_S_S16384x128),
    TRef.binary (TRef.of (T := ⟨S16384x128, .f32⟩) main_v164) (TRef.of (T := ⟨S16384x128, .f32⟩) main_call11_v0) (TRef.of (T := ⟨S16384x128, .f32⟩) main_v165) maximumf,
    binary main_v165 main_arg12 main_v166 ((fun l r => Host.dotGeneral dot_S16384x128_S128x256_S16384x256_1_0_0_1_n_n none l r) : (⟨S16384x128, .f32⟩ : BufTy).Contents (Elt F) → (⟨S128x256, .f32⟩ : BufTy).Contents (Elt F) → (⟨S16384x256, .f32⟩ : BufTy).Contents (Elt F)),
    unary main_arg13 main_v167 (broadcastInDim S1x256 ![1] bcast_S256_S1x256_1 : (⟨S256, .f32⟩ : BufTy).Contents (Elt F) → (⟨S1x256, .f32⟩ : BufTy).Contents (Elt F)),
    unary main_v167 main_v168 (broadcastInDim S16384x256 ![0, 1] bcast_S1x256_S16384x256_0_1 : (⟨S1x256, .f32⟩ : BufTy).Contents (Elt F) → (⟨S16384x256, .f32⟩ : BufTy).Contents (Elt F)),
    binary main_v166 main_v168 main_v169 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S16384x256, .f32⟩) main_call12_v0) (broadcastInDim S16384x256 ![] bcast_S_S16384x256),
    TRef.binary (TRef.of (T := ⟨S16384x256, .f32⟩) main_v169) (TRef.of (T := ⟨S16384x256, .f32⟩) main_call12_v0) (TRef.of (T := ⟨S16384x256, .f32⟩) main_v170) maximumf,
    binary main_v170 main_arg14 main_v171 ((fun l r => Host.dotGeneral dot_S16384x256_S256x512_S16384x512_1_0_0_1_n_n none l r) : (⟨S16384x256, .f32⟩ : BufTy).Contents (Elt F) → (⟨S256x512, .f32⟩ : BufTy).Contents (Elt F) → (⟨S16384x512, .f32⟩ : BufTy).Contents (Elt F)),
    unary main_arg15 main_v172 (broadcastInDim S1x512 ![1] bcast_S512_S1x512_1 : (⟨S512, .f32⟩ : BufTy).Contents (Elt F) → (⟨S1x512, .f32⟩ : BufTy).Contents (Elt F)),
    unary main_v172 main_v173 (broadcastInDim S16384x512 ![0, 1] bcast_S1x512_S16384x512_0_1 : (⟨S1x512, .f32⟩ : BufTy).Contents (Elt F) → (⟨S16384x512, .f32⟩ : BufTy).Contents (Elt F)),
    binary main_v171 main_v173 main_v174 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S16384x512, .f32⟩) main_call13_v0) (broadcastInDim S16384x512 ![] bcast_S_S16384x512),
    TRef.binary (TRef.of (T := ⟨S16384x512, .f32⟩) main_v174) (TRef.of (T := ⟨S16384x512, .f32⟩) main_call13_v0) (TRef.of (T := ⟨S16384x512, .f32⟩) main_v175) maximumf,
    binary main_v175 main_arg16 main_v176 ((fun l r => Host.dotGeneral dot_S16384x512_S512x768_S16384x768_1_0_0_1_n_n none l r) : (⟨S16384x512, .f32⟩ : BufTy).Contents (Elt F) → (⟨S512x768, .f32⟩ : BufTy).Contents (Elt F) → (⟨S16384x768, .f32⟩ : BufTy).Contents (Elt F)),
    unary main_arg17 main_v177 (broadcastInDim S1x768 ![1] bcast_S768_S1x768_1 : (⟨S768, .f32⟩ : BufTy).Contents (Elt F) → (⟨S1x768, .f32⟩ : BufTy).Contents (Elt F)),
    unary main_v177 main_v178 (broadcastInDim S16384x768 ![0, 1] bcast_S1x768_S16384x768_0_1 : (⟨S1x768, .f32⟩ : BufTy).Contents (Elt F) → (⟨S16384x768, .f32⟩ : BufTy).Contents (Elt F)),
    binary main_v176 main_v178 main_v179 (addf : (⟨S16384x768, .f32⟩ : BufTy).Contents (Elt F) → (⟨S16384x768, .f32⟩ : BufTy).Contents (Elt F) → (⟨S16384x768, .f32⟩ : BufTy).Contents (Elt F)),
    reshape main_v155 main_v180 (rfl : (.f32 : EltTy) = .f32) shapeCasts_S_S1x1 ]

/-- The buffers that `tail` writes. -/
abbrev tailW : List (Ref sig .tc) := [main_v149, main_v150, main_v151, main_v152, main_v153, main_cst_32, main_v154, main_cst_33, main_v155, main_v156, main_v157, main_v158, main_v159, main_v160, main_v161, main_v162, main_v163, main_v164, main_call11_cst, main_call11_v0, main_v165, main_v166, main_v167, main_v168, main_v169, main_call12_cst, main_call12_v0, main_v170, main_v171, main_v172, main_v173, main_v174, main_call13_cst, main_call13_v0, main_v175, main_v176, main_v177, main_v178, main_v179, main_v180]

set_option maxRecDepth 8192 in
set_option maxHeartbeats 1000000 in
theorem tail_writes : (tail : List (HloOp τ sig (Elt F))).Forall fun op => op.writes ⊆ (tailW.map (Proc.devRef (τ := τ) .tc)).toFinset :=
  forall_writes_sub_of_map rfl

set_option maxRecDepth 8192 in
theorem tail_fresh : (tail : List (HloOp τ sig (Elt F))).Forall fun op => op.fresh = ∅ :=
  forall_fresh_of_map rfl

set_option maxRecDepth 8192 in
theorem tail_sub : (tail : List (HloOp τ sig (Elt F))).Forall fun op => op.bufs ⊆ tcRefs τ sig :=
  ⟨unary_bufs_sub .., unary_bufs_sub .., unary_bufs_sub .., unary_bufs_sub .., nary_bufs_sub .., nullary_bufs_sub .., binary_bufs_sub .., nullary_bufs_sub .., binary_bufs_sub .., unary_bufs_sub .., unary_bufs_sub .., unary_bufs_sub .., unary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

set_option maxRecDepth 8192 in
set_option maxHeartbeats 4000000 in
/-- Part 0 of the reference's program is the line of its operations. -/
theorem part0_eq (c : Dev nD) : main_part0 (F := F) c = seq (enc ++ A0 ++ B0 ++ C0x) := rfl

set_option maxRecDepth 8192 in
set_option maxHeartbeats 4000000 in
/-- Part 1 of the reference's program is the line of its operations. -/
theorem part1_eq (c : Dev nD) : main_part1 (F := F) c = seq (C0y ++ A1 ++ B1 ++ C1 ++ A2x) := rfl

set_option maxRecDepth 8192 in
set_option maxHeartbeats 4000000 in
/-- Part 2 of the reference's program is the line of its operations. -/
theorem part2_eq (c : Dev nD) : main_part2 (F := F) c = seq (A2y ++ B2 ++ C2 ++ A3 ++ B3 ++ C3x) := rfl

set_option maxRecDepth 8192 in
set_option maxHeartbeats 4000000 in
/-- Part 3 of the reference's program is the line of its operations. -/
theorem part3_eq (c : Dev nD) : main_part3 (F := F) c = seq (C3y ++ tail) := rfl

/-- All the operations. -/
def ops : List (HloOp τ sig (Elt F)) := (enc ++ A0 ++ B0 ++ C0x) ++ (C0y ++ A1 ++ B1 ++ C1 ++ A2x) ++ (A2y ++ B2 ++ C2 ++ A3 ++ B3 ++ C3x) ++ (C3y ++ tail)

/-- The reference's program is the line of its operations. -/
theorem main_eq (c : Dev nD) : main (F := F) c = seq ops := by
  unfold ops
  rw [seq_append, seq_append, seq_append, ← part0_eq c, ← part1_eq c, ← part2_eq c, ← part3_eq c]; rfl

theorem ops_sub : (ops : List (HloOp τ sig (Elt F))).Forall fun op => op.bufs ⊆ tcRefs τ sig := by
  unfold ops
  simp only [List.forall_append, and_assoc]
  exact ⟨enc_sub, A0_sub, B0_sub, C0x_sub, C0y_sub, A1_sub, B1_sub, C1_sub, A2x_sub, A2y_sub, B2_sub, C2_sub, A3_sub, B3_sub, C3x_sub, C3y_sub, tail_sub⟩

theorem ops_fresh : (ops : List (HloOp τ sig (Elt F))).Forall fun op => op.fresh = ∅ := by
  unfold ops
  simp only [List.forall_append, and_assoc]
  exact ⟨enc_fresh, A0_fresh, B0_fresh, C0x_fresh, C0y_fresh, A1_fresh, B1_fresh, C1_fresh, A2x_fresh, A2y_fresh, B2_fresh, C2_fresh, A3_fresh, B3_fresh, C3x_fresh, C3y_fresh, tail_fresh⟩

theorem scopedRefs_eq : (Finset.univ.filter fun b : Ref sig .tc => b.isScoped) = ∅ := by decide

theorem scopedSems_eq : (Finset.univ.filter fun sm : SemLoc sig => sm.isScoped .tc) = ∅ := by decide

/-- The reference runs to its end and leaves every buffer at what the line of operations makes of the launch contents. -/
theorem run_line (m : (ℓ : Loc nD τ sig) → Buf (Elt F) ℓ) (ρ : Dev nD → PrngReg) :
    θ_run defs (onTc (τ := τ) main) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ fun _ => List.forall_iff_forall_mem.mp ops_fresh

end Cert.ReferenceIdeal.Line

end
-- ==== Proof.RefVals.lean ====
/- What each piece of the reference computes, as functions of arrays. -/
module

public import proofs.«01_k».proof.Proof.RefOps

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- A layer from 768 to 512 features, cut off at zero. -/
def e1 (x : Vec F S16384x768 .f32) (W : Vec F S768x512 .f32) (b : Vec F S512 .f32) : Vec F S16384x512 .f32 :=
  maximumf (addf (Host.dotGeneral dot_S16384x768_S768x512_S16384x512_1_0_0_1_n_n none x W) (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- A layer from 512 to 256 features, cut off at zero. -/
def e2 (x : Vec F S16384x512 .f32) (W : Vec F S512x256 .f32) (b : Vec F S256 .f32) : Vec F S16384x256 .f32 :=
  maximumf (addf (Host.dotGeneral dot_S16384x512_S512x256_S16384x256_1_0_0_1_n_n none x W) (broadcastInDim S16384x256 ![0, 1] bcast_S1x256_S16384x256_0_1 (broadcastInDim S1x256 ![1] bcast_S256_S1x256_1 b)))
    (broadcastInDim S16384x256 ![] bcast_S_S16384x256 (constant S_ .f32 0x00000000#32))

/-- A layer from 256 to 128 features, cut off at zero. -/
def e3 (x : Vec F S16384x256 .f32) (W : Vec F S256x128 .f32) (b : Vec F S128 .f32) : Vec F S16384x128 .f32 :=
  maximumf (addf (Host.dotGeneral dot_S16384x256_S256x128_S16384x128_1_0_0_1_n_n none x W) (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- A layer from 128 to 64 features. -/
def e4 (x : Vec F S16384x128 .f32) (W : Vec F S128x64 .f32) (b : Vec F S64 .f32) : Vec F S16384x64 .f32 :=
  addf (Host.dotGeneral dot_S16384x128_S128x64_S16384x64_1_0_0_1_n_n none x W) (broadcastInDim S16384x64 ![0, 1] bcast_S1x64_S16384x64_0_1 (broadcastInDim S1x64 ![1] bcast_S64_S1x64_1 b))

/-- A layer from 64 to 128 features, cut off at zero. -/
def d1 (x : Vec F S16384x64 .f32) (W : Vec F S64x128 .f32) (b : Vec F S128 .f32) : Vec F S16384x128 .f32 :=
  maximumf (addf (Host.dotGeneral dot_S16384x64_S64x128_S16384x128_1_0_0_1_n_n none x W) (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- A layer from 128 to 256 features, cut off at zero. -/
def d2 (x : Vec F S16384x128 .f32) (W : Vec F S128x256 .f32) (b : Vec F S256 .f32) : Vec F S16384x256 .f32 :=
  maximumf (addf (Host.dotGeneral dot_S16384x128_S128x256_S16384x256_1_0_0_1_n_n none x W) (broadcastInDim S16384x256 ![0, 1] bcast_S1x256_S16384x256_0_1 (broadcastInDim S1x256 ![1] bcast_S256_S1x256_1 b)))
    (broadcastInDim S16384x256 ![] bcast_S_S16384x256 (constant S_ .f32 0x00000000#32))

/-- A layer from 256 to 512 features, cut off at zero. -/
def d3 (x : Vec F S16384x256 .f32) (W : Vec F S256x512 .f32) (b : Vec F S512 .f32) : Vec F S16384x512 .f32 :=
  maximumf (addf (Host.dotGeneral dot_S16384x256_S256x512_S16384x512_1_0_0_1_n_n none x W) (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- A layer from 512 to 768 features. -/
def d4 (x : Vec F S16384x512 .f32) (W : Vec F S512x768 .f32) (b : Vec F S768 .f32) : Vec F S16384x768 .f32 :=
  addf (Host.dotGeneral dot_S16384x512_S512x768_S16384x768_1_0_0_1_n_n none x W) (broadcastInDim S16384x768 ![0, 1] bcast_S1x768_S16384x768_0_1 (broadcastInDim S1x768 ![1] bcast_S768_S1x768_1 b))

/-- The zero array that the sum of the rows starts from. -/
def zeros : Vec F S16384x64 .f32 := broadcastInDim S16384x64 ![] bcast_S_S16384x64 (constant S_ .f32 0x00000000#32)

/-- Codebook 0. -/
def book0 (C : Vec F S4x256x64 .f32) : Vec F S256x64 .f32 :=
  shapeCast S256x64 (extractStridedSlice S1x256x64 ![0, 0, 0] C slices_S4x256x64_S1x256x64_0_0_0) shapeCasts_S1x256x64_S256x64

/-- Codebook 1. -/
def book1 (C : Vec F S4x256x64 .f32) : Vec F S256x64 .f32 :=
  shapeCast S256x64 (extractStridedSlice S1x256x64 ![1, 0, 0] C slices_S4x256x64_S1x256x64_1_0_0) shapeCasts_S1x256x64_S256x64

/-- Codebook 2. -/
def book2 (C : Vec F S4x256x64 .f32) : Vec F S256x64 .f32 :=
  shapeCast S256x64 (extractStridedSlice S1x256x64 ![2, 0, 0] C slices_S4x256x64_S1x256x64_2_0_0) shapeCasts_S1x256x64_S256x64

/-- Codebook 3. -/
def book3 (C : Vec F S4x256x64 .f32) : Vec F S256x64 .f32 :=
  shapeCast S256x64 (extractStridedSlice S1x256x64 ![3, 0, 0] C slices_S4x256x64_S1x256x64_3_0_0) shapeCasts_S1x256x64_S256x64

/-- The squared distance of each row of `r` to each row of the codebook. -/
def dist (r : Vec F S16384x64 .f32) (cb : Vec F S256x64 .f32) : Vec F S16384x256 .f32 :=
  subf
    (addf
      (broadcastInDim S16384x256 ![0, 1] bcast_S16384x1_S16384x256_0_1
        (broadcastInDim S16384x1 ![0] bcast_S16384_S16384x1_0
          (Host.reduceAdd (mulf r r) (constant S_ .f32 0x00000000#32) reducesTo_S16384x64_S16384_d1 h_S_)))
      (broadcastInDim S16384x256 ![0, 1] bcast_S1x256_S16384x256_0_1
        (broadcastInDim S1x256 ![1] bcast_S256_S1x256_1
          (Host.reduceAdd (mulf cb cb) (constant S_ .f32 0x00000000#32) reducesTo_S256x64_S256_d1 h_S_))))
    (mulf (broadcastInDim S16384x256 ![] bcast_S_S16384x256 (constant S_ .f32 0x40000000#32))
      (Host.dotGeneral dot_S16384x64_S64x256_S16384x256_1_0_0_1_n_n none r (transpose S64x256 [1, 0] cb transposes_S256x64_S64x256_1_0)))

/-- The second components of a family of pairs. -/
def second {J α β : Type} (g : J → α × β) : J → β := fun j => (g j).2

/-- The first index of the smallest distance in each row. -/
def arg (d : Vec F S16384x256 .f32) : Vec F S16384 .i32 :=
  second (Host.argReduce reducer_argmin_f32_i32 d (iotaInDim S16384x256 32 1) (constant S_ .f32 0x7F800000#32) (constantI S_ 32 0#32)
    reducesTo_S16384x256_S16384_d1 h_S_)

/-- An index below zero counted from the end. -/
def wrap (i : Vec F S16384 .i32) : Vec F S16384x1 .i32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 256#32))) i)

/-- Whether each wrapped index lies in the codebook. -/
def inside (w : Vec F S16384x1 .i32) : Vec F S16384 .i1 :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1 (broadcastInDim S1x1 ![1] bcast_S1_S1x1_1 (constantI S1 32 255#32)))))
    (constantI S_ 1 1#1) reducesTo_S16384x1_S16384_d1 h_S_

/-- The row of the codebook at each index. -/
def take (cb : Vec F S256x64 .f32) (i : Vec F S16384 .i32) : Vec F S16384x64 .f32 :=
  select (broadcastInDim S16384x64 ![0] bcast_S16384_S16384x64_0 (inside (F := F) (wrap (F := F) i)))
    (Host.gather gather_S256x64_S16384x1_S16384x64_1_0_n_n_0_1_164 cb (wrap (F := F) i))
    (broadcastInDim S16384x64 ![] bcast_S_S16384x64 (constant S_ .f32 0x7FC00000#32))

/-- The mean square of an array's entries. -/
def meanSq (x : Vec F S16384x64 .f32) : Vec F S_ .f32 :=
  Host.divf (Host.reduceAdd (mulf x x) (constant S_ .f32 0x00000000#32) reducesTo_S16384x64_S_d0_1 h_S_) (constant S_ .f32 0x49800000#32)

/-- A level's loss: the mean squared error of the rows, and a quarter of it again. -/
def loss (q r : Vec F S16384x64 .f32) : Vec F S_ .f32 :=
  addf (meanSq (subf q r)) (mulf (constant S_ .f32 0x3E800000#32) (meanSq (subf q r)))

/-- The rows passed straight through. -/
def straight (q r : Vec F S16384x64 .f32) : Vec F S16384x64 .f32 := addf r (subf q r)

/-- The mean of the four levels' losses, as a one by one array. -/
def meanLoss (l0 l1 l2 l3 : Vec F S_ .f32) : Vec F S1x1 .f32 :=
  shapeCast S1x1
    (Host.divf
      (Host.reduceAdd
        (fn_main_v153 (F := F) (broadcastInDim S1 ![] bcast_S_S1 l0) (broadcastInDim S1 ![] bcast_S_S1 l1)
          (broadcastInDim S1 ![] bcast_S_S1 l2) (broadcastInDim S1 ![] bcast_S_S1 l3))
        (constant S_ .f32 0x00000000#32) reducesTo_S4_S_d0 h_S_)
      (constant S_ .f32 0x40800000#32)) shapeCasts_S_S1x1

/-- The four levels' indices side by side. -/
def stack (i0 i1 i2 i3 : Vec F S16384 .i32) : Vec F S16384x4 .i32 :=
  fn_main_v160 (F := F) (broadcastInDim S16384x1 ![0] bcast_S16384_S16384x1_0 i0) (broadcastInDim S16384x1 ![0] bcast_S16384_S16384x1_0 i1)
    (broadcastInDim S16384x1 ![0] bcast_S16384_S16384x1_0 i2) (broadcastInDim S16384x1 ![0] bcast_S16384_S16384x1_0 i3)

set_option maxRecDepth 8192 in
set_option maxHeartbeats 2000000 in
/-- The codebooks after the first piece. -/
theorem enc_book (V : Valuation τ sig (Elt F)) :
    after enc V (Proc.devRef .tc main_v0) = bitcastToFloat (F := F) .f32 (V (Proc.devRef .tc main_arg9)) := by
  simp only [enc, TRef.binary, TRef.nullary, TRef.unary, TRef.ternary, TRef.quaternary, TRef.toBuf, TRef.ofBuf, cast_eq]
  after_results_simp
  all_goals rfl

set_option maxRecDepth 8192 in
set_option maxHeartbeats 2000000 in
/-- The encoder output after the first piece. -/
theorem enc_out (V : Valuation τ sig (Elt F)) :
    after enc V (Proc.devRef .tc main_v19) = e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)) := by
  simp only [enc, TRef.binary, TRef.nullary, TRef.unary, TRef.ternary, TRef.quaternary, TRef.toBuf, TRef.ofBuf, cast_eq]
  after_results_simp
  all_goals rfl

set_option maxRecDepth 8192 in
set_option maxHeartbeats 2000000 in
/-- The start of the sum after the first piece. -/
theorem enc_zero (V : Valuation τ sig (Elt F)) :
    after enc V (Proc.devRef .tc main_v20) = zeros := by
  simp only [enc, TRef.binary, TRef.nullary, TRef.unary, TRef.ternary, TRef.quaternary, TRef.toBuf, TRef.ofBuf, cast_eq]
  after_results_simp
  all_goals rfl

set_option maxRecDepth 8192 in
set_option maxHeartbeats 2000000 in
/-- Codebook 0 after its distances. -/
theorem A0_book (V : Valuation τ sig (Elt F)) :
    after A0 V (Proc.devRef .tc main_v22) = book0 (V (Proc.devRef .tc main_v0)) := by
  simp only [A0, TRef.binary, TRef.nullary, TRef.unary, TRef.ternary, TRef.quaternary, TRef.toBuf, TRef.ofBuf, cast_eq]
  after_results_simp
  all_goals rfl

set_option maxRecDepth 8192 in
set_option maxHeartbeats 2000000 in
/-- The indices of level 0. -/
theorem A0_idx (V : Valuation τ sig (Elt F)) :
    after A0 V (Proc.devRef .tc main_v37) = arg (dist (V (Proc.devRef .tc main_v19)) (book0 (V (Proc.devRef .tc main_v0)))) := by
  simp only [A0, TRef.binary, TRef.nullary, TRef.unary, TRef.ternary, TRef.quaternary, TRef.toBuf, TRef.ofBuf, cast_eq]
  after_results_simp
  all_goals rfl

set_option maxRecDepth 8192 in
set_option maxHeartbeats 2000000 in
/-- The rows of level 0. -/
theorem B0_row (V : Valuation τ sig (Elt F)) :
    after B0 V (Proc.devRef .tc main_v38) = take (V (Proc.devRef .tc main_v22)) (V (Proc.devRef .tc main_v37)) := by
  simp only [B0, TRef.binary, TRef.nullary, TRef.unary, TRef.ternary, TRef.quaternary, TRef.toBuf, TRef.ofBuf, cast_eq]
  after_results_simp
  all_goals rfl

set_option maxRecDepth 8192 in
set_option maxHeartbeats 2000000 in
/-- The loss of level 0. -/
theorem C0_loss (V : Valuation τ sig (Elt F)) :
    after C0y (after C0x V) (Proc.devRef .tc main_v48) = loss (V (Proc.devRef .tc main_v38)) (V (Proc.devRef .tc main_v19)) := by
  simp only [C0x, C0y, TRef.binary, TRef.nullary, TRef.unary, TRef.ternary, TRef.quaternary, TRef.toBuf, TRef.ofBuf, cast_eq]
  after_results_simp
  all_goals rfl

set_option maxRecDepth 8192 in
set_option maxHeartbeats 2000000 in
/-- The residual after level 0. -/
theorem C0_res (V : Valuation τ sig (Elt F)) :
    after C0y (after C0x V) (Proc.devRef .tc main_v51) = subf (V (Proc.devRef .tc main_v19)) (straight (V (Proc.devRef .tc main_v38)) (V (Proc.devRef .tc main_v19))) := by
  simp only [C0x, C0y, TRef.binary, TRef.nullary, TRef.unary, TRef.ternary, TRef.quaternary, TRef.toBuf, TRef.ofBuf, cast_eq]
  after_results_simp
  all_goals rfl

set_option maxRecDepth 8192 in
set_option maxHeartbeats 2000000 in
/-- The sum of the rows after level 0. -/
theorem C0_sum (V : Valuation τ sig (Elt F)) :
    after C0y (after C0x V) (Proc.devRef .tc main_v52) = addf (V (Proc.devRef .tc main_v20)) (straight (V (Proc.devRef .tc main_v38)) (V (Proc.devRef .tc main_v19))) := by
  simp only [C0x, C0y, TRef.binary, TRef.nullary, TRef.unary, TRef.ternary, TRef.quaternary, TRef.toBuf, TRef.ofBuf, cast_eq]
  after_results_simp
  all_goals rfl

set_option maxRecDepth 8192 in
set_option maxHeartbeats 2000000 in
/-- Codebook 1 after its distances. -/
theorem A1_book (V : Valuation τ sig (Elt F)) :
    after A1 V (Proc.devRef .tc main_v54) = book1 (V (Proc.devRef .tc main_v0)) := by
  simp only [A1, TRef.binary, TRef.nullary, TRef.unary, TRef.ternary, TRef.quaternary, TRef.toBuf, TRef.ofBuf, cast_eq]
  after_results_simp
  all_goals rfl

set_option maxRecDepth 8192 in
set_option maxHeartbeats 2000000 in
/-- The indices of level 1. -/
theorem A1_idx (V : Valuation τ sig (Elt F)) :
    after A1 V (Proc.devRef .tc main_v69) = arg (dist (V (Proc.devRef .tc main_v51)) (book1 (V (Proc.devRef .tc main_v0)))) := by
  simp only [A1, TRef.binary, TRef.nullary, TRef.unary, TRef.ternary, TRef.quaternary, TRef.toBuf, TRef.ofBuf, cast_eq]
  after_results_simp
  all_goals rfl

set_option maxRecDepth 8192 in
set_option maxHeartbeats 2000000 in
/-- The rows of level 1. -/
theorem B1_row (V : Valuation τ sig (Elt F)) :
    after B1 V (Proc.devRef .tc main_v70) = take (V (Proc.devRef .tc main_v54)) (V (Proc.devRef .tc main_v69)) := by
  simp only [B1, TRef.binary, TRef.nullary, TRef.unary, TRef.ternary, TRef.quaternary, TRef.toBuf, TRef.ofBuf, cast_eq]
  after_results_simp
  all_goals rfl

set_option maxRecDepth 8192 in
set_option maxHeartbeats 2000000 in
/-- The loss of level 1. -/
theorem C1_loss (V : Valuation τ sig (Elt F)) :
    after C1 V (Proc.devRef .tc main_v80) = loss (V (Proc.devRef .tc main_v70)) (V (Proc.devRef .tc main_v51)) := by
  simp only [C1, TRef.binary, TRef.nullary, TRef.unary, TRef.ternary, TRef.quaternary, TRef.toBuf, TRef.ofBuf, cast_eq]
  after_results_simp
  all_goals rfl

set_option maxRecDepth 8192 in
set_option maxHeartbeats 2000000 in
/-- The residual after level 1. -/
theorem C1_res (V : Valuation τ sig (Elt F)) :
    after C1 V (Proc.devRef .tc main_v83) = subf (V (Proc.devRef .tc main_v51)) (straight (V (Proc.devRef .tc main_v70)) (V (Proc.devRef .tc main_v51))) := by
  simp only [C1, TRef.binary, TRef.nullary, TRef.unary, TRef.ternary, TRef.quaternary, TRef.toBuf, TRef.ofBuf, cast_eq]
  after_results_simp
  all_goals rfl

set_option maxRecDepth 8192 in
set_option maxHeartbeats 2000000 in
/-- The sum of the rows after level 1. -/
theorem C1_sum (V : Valuation τ sig (Elt F)) :
    after C1 V (Proc.devRef .tc main_v84) = addf (V (Proc.devRef .tc main_v52)) (straight (V (Proc.devRef .tc main_v70)) (V (Proc.devRef .tc main_v51))) := by
  simp only [C1, TRef.binary, TRef.nullary, TRef.unary, TRef.ternary, TRef.quaternary, TRef.toBuf, TRef.ofBuf, cast_eq]
  after_results_simp
  all_goals rfl

set_option maxRecDepth 8192 in
set_option maxHeartbeats 2000000 in
/-- Codebook 2 after its distances. -/
theorem A2_book (V : Valuation τ sig (Elt F)) :
    after A2y (after A2x V) (Proc.devRef .tc main_v86) = book2 (V (Proc.devRef .tc main_v0)) := by
  simp only [A2x, A2y, TRef.binary, TRef.nullary, TRef.unary, TRef.ternary, TRef.quaternary, TRef.toBuf, TRef.ofBuf, cast_eq]
  after_results_simp
  all_goals rfl

set_option maxRecDepth 8192 in
set_option maxHeartbeats 2000000 in
/-- The indices of level 2. -/
theorem A2_idx (V : Valuation τ sig (Elt F)) :
    after A2y (after A2x V) (Proc.devRef .tc main_v101) = arg (dist (V (Proc.devRef .tc main_v83)) (book2 (V (Proc.devRef .tc main_v0)))) := by
  simp only [A2x, A2y, TRef.binary, TRef.nullary, TRef.unary, TRef.ternary, TRef.quaternary, TRef.toBuf, TRef.ofBuf, cast_eq]
  after_results_simp
  all_goals rfl

set_option maxRecDepth 8192 in
set_option maxHeartbeats 2000000 in
/-- The rows of level 2. -/
theorem B2_row (V : Valuation τ sig (Elt F)) :
    after B2 V (Proc.devRef .tc main_v102) = take (V (Proc.devRef .tc main_v86)) (V (Proc.devRef .tc main_v101)) := by
  simp only [B2, TRef.binary, TRef.nullary, TRef.unary, TRef.ternary, TRef.quaternary, TRef.toBuf, TRef.ofBuf, cast_eq]
  after_results_simp
  all_goals rfl

set_option maxRecDepth 8192 in
set_option maxHeartbeats 2000000 in
/-- The loss of level 2. -/
theorem C2_loss (V : Valuation τ sig (Elt F)) :
    after C2 V (Proc.devRef .tc main_v112) = loss (V (Proc.devRef .tc main_v102)) (V (Proc.devRef .tc main_v83)) := by
  simp only [C2, TRef.binary, TRef.nullary, TRef.unary, TRef.ternary, TRef.quaternary, TRef.toBuf, TRef.ofBuf, cast_eq]
  after_results_simp
  all_goals rfl

set_option maxRecDepth 8192 in
set_option maxHeartbeats 2000000 in
/-- The residual after level 2. -/
theorem C2_res (V : Valuation τ sig (Elt F)) :
    after C2 V (Proc.devRef .tc main_v115) = subf (V (Proc.devRef .tc main_v83)) (straight (V (Proc.devRef .tc main_v102)) (V (Proc.devRef .tc main_v83))) := by
  simp only [C2, TRef.binary, TRef.nullary, TRef.unary, TRef.ternary, TRef.quaternary, TRef.toBuf, TRef.ofBuf, cast_eq]
  after_results_simp
  all_goals rfl

set_option maxRecDepth 8192 in
set_option maxHeartbeats 2000000 in
/-- The sum of the rows after level 2. -/
theorem C2_sum (V : Valuation τ sig (Elt F)) :
    after C2 V (Proc.devRef .tc main_v116) = addf (V (Proc.devRef .tc main_v84)) (straight (V (Proc.devRef .tc main_v102)) (V (Proc.devRef .tc main_v83))) := by
  simp only [C2, TRef.binary, TRef.nullary, TRef.unary, TRef.ternary, TRef.quaternary, TRef.toBuf, TRef.ofBuf, cast_eq]
  after_results_simp
  all_goals rfl

set_option maxRecDepth 8192 in
set_option maxHeartbeats 2000000 in
/-- Codebook 3 after its distances. -/
theorem A3_book (V : Valuation τ sig (Elt F)) :
    after A3 V (Proc.devRef .tc main_v118) = book3 (V (Proc.devRef .tc main_v0)) := by
  simp only [A3, TRef.binary, TRef.nullary, TRef.unary, TRef.ternary, TRef.quaternary, TRef.toBuf, TRef.ofBuf, cast_eq]
  after_results_simp
  all_goals rfl

set_option maxRecDepth 8192 in
set_option maxHeartbeats 2000000 in
/-- The indices of level 3. -/
theorem A3_idx (V : Valuation τ sig (Elt F)) :
    after A3 V (Proc.devRef .tc main_v133) = arg (dist (V (Proc.devRef .tc main_v115)) (book3 (V (Proc.devRef .tc main_v0)))) := by
  simp only [A3, TRef.binary, TRef.nullary, TRef.unary, TRef.ternary, TRef.quaternary, TRef.toBuf, TRef.ofBuf, cast_eq]
  after_results_simp
  all_goals rfl

set_option maxRecDepth 8192 in
set_option maxHeartbeats 2000000 in
/-- The rows of level 3. -/
theorem B3_row (V : Valuation τ sig (Elt F)) :
    after B3 V (Proc.devRef .tc main_v134) = take (V (Proc.devRef .tc main_v118)) (V (Proc.devRef .tc main_v133)) := by
  simp only [B3, TRef.binary, TRef.nullary, TRef.unary, TRef.ternary, TRef.quaternary, TRef.toBuf, TRef.ofBuf, cast_eq]
  after_results_simp
  all_goals rfl

set_option maxRecDepth 8192 in
set_option maxHeartbeats 2000000 in
/-- The loss of level 3. -/
theorem C3_loss (V : Valuation τ sig (Elt F)) :
    after C3y (after C3x V) (Proc.devRef .tc main_v144) = loss (V (Proc.devRef .tc main_v134)) (V (Proc.devRef .tc main_v115)) := by
  simp only [C3x, C3y, TRef.binary, TRef.nullary, TRef.unary, TRef.ternary, TRef.quaternary, TRef.toBuf, TRef.ofBuf, cast_eq]
  after_results_simp
  all_goals rfl

set_option maxRecDepth 8192 in
set_option maxHeartbeats 2000000 in
/-- The residual after level 3. -/
theorem C3_res (V : Valuation τ sig (Elt F)) :
    after C3y (after C3x V) (Proc.devRef .tc main_v147) = subf (V (Proc.devRef .tc main_v115)) (straight (V (Proc.devRef .tc main_v134)) (V (Proc.devRef .tc main_v115))) := by
  simp only [C3x, C3y, TRef.binary, TRef.nullary, TRef.unary, TRef.ternary, TRef.quaternary, TRef.toBuf, TRef.ofBuf, cast_eq]
  after_results_simp
  all_goals rfl

set_option maxRecDepth 8192 in
set_option maxHeartbeats 2000000 in
/-- The sum of the rows after level 3. -/
theorem C3_sum (V : Valuation τ sig (Elt F)) :
    after C3y (after C3x V) (Proc.devRef .tc main_v148) = addf (V (Proc.devRef .tc main_v116)) (straight (V (Proc.devRef .tc main_v134)) (V (Proc.devRef .tc main_v115))) := by
  simp only [C3x, C3y, TRef.binary, TRef.nullary, TRef.unary, TRef.ternary, TRef.quaternary, TRef.toBuf, TRef.ofBuf, cast_eq]
  after_results_simp
  all_goals rfl

set_option maxRecDepth 8192 in
set_option maxHeartbeats 2000000 in
/-- The decoder output. -/
theorem tail_out (V : Valuation τ sig (Elt F)) :
    after tail V (Proc.devRef .tc main_v179) = d4 (d3 (d2 (d1 (V (Proc.devRef .tc main_v148)) (V (Proc.devRef .tc main_arg10)) (V (Proc.devRef .tc main_arg11))) (V (Proc.devRef .tc main_arg12)) (V (Proc.devRef .tc main_arg13))) (V (Proc.devRef .tc main_arg14)) (V (Proc.devRef .tc main_arg15))) (V (Proc.devRef .tc main_arg16)) (V (Proc.devRef .tc main_arg17)) := by
  simp only [tail, TRef.binary, TRef.nullary, TRef.unary, TRef.ternary, TRef.quaternary, TRef.toBuf, TRef.ofBuf, cast_eq]
  after_results_simp
  all_goals rfl

set_option maxRecDepth 8192 in
set_option maxHeartbeats 2000000 in
/-- The mean loss. -/
theorem tail_loss (V : Valuation τ sig (Elt F)) :
    after tail V (Proc.devRef .tc main_v180) = meanLoss (V (Proc.devRef .tc main_v48)) (V (Proc.devRef .tc main_v80)) (V (Proc.devRef .tc main_v112)) (V (Proc.devRef .tc main_v144)) := by
  simp only [tail, TRef.binary, TRef.nullary, TRef.unary, TRef.ternary, TRef.quaternary, TRef.toBuf, TRef.ofBuf, cast_eq]
  after_results_simp
  all_goals rfl

set_option maxRecDepth 8192 in
set_option maxHeartbeats 2000000 in
/-- The stacked indices. -/
theorem tail_idx (V : Valuation τ sig (Elt F)) :
    after tail V (Proc.devRef .tc main_v160) = stack (V (Proc.devRef .tc main_v37)) (V (Proc.devRef .tc main_v69)) (V (Proc.devRef .tc main_v101)) (V (Proc.devRef .tc main_v133)) := by
  simp only [tail, TRef.binary, TRef.nullary, TRef.unary, TRef.ternary, TRef.quaternary, TRef.toBuf, TRef.ofBuf, cast_eq]
  after_results_simp
  all_goals rfl

end Cert.ReferenceIdeal.Line

end
-- ==== Proof.RefRun.lean ====
/- The run of the reference: every result as a function of the arguments. -/
module

public import proofs.«01_k».proof.Proof.RefVals

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The indices a level picks. -/
def pick (cb : Vec F S256x64 .f32) (r : Vec F S16384x64 .f32) : Vec F S16384 .i32 := arg (dist r cb)

/-- The rows a level picks. -/
def rows (cb : Vec F S256x64 .f32) (r : Vec F S16384x64 .f32) : Vec F S16384x64 .f32 := take cb (pick cb r)

/-- What a level adds to the sum. -/
def step (cb : Vec F S256x64 .f32) (r : Vec F S16384x64 .f32) : Vec F S16384x64 .f32 := straight (rows cb r) r

/-- The residual that a level leaves. -/
def rest (cb : Vec F S256x64 .f32) (r : Vec F S16384x64 .f32) : Vec F S16384x64 .f32 := subf r (step cb r)

/-- The loss of a level. -/
def cost (cb : Vec F S256x64 .f32) (r : Vec F S16384x64 .f32) : Vec F S_ .f32 := loss (rows cb r) r

/-- `enc` leaves alone what it does not write. -/
theorem enc_keep (V : Valuation τ sig (Elt F)) (r : Ref sig .tc) (h : r ∉ encW) : after enc V (Proc.devRef .tc r) = V (Proc.devRef .tc r) :=
  after_of_writes_sub enc V enc_writes h

/-- `A0` leaves alone what it does not write. -/
theorem A0_keep (V : Valuation τ sig (Elt F)) (r : Ref sig .tc) (h : r ∉ A0W) : after A0 V (Proc.devRef .tc r) = V (Proc.devRef .tc r) :=
  after_of_writes_sub A0 V A0_writes h

/-- `B0` leaves alone what it does not write. -/
theorem B0_keep (V : Valuation τ sig (Elt F)) (r : Ref sig .tc) (h : r ∉ B0W) : after B0 V (Proc.devRef .tc r) = V (Proc.devRef .tc r) :=
  after_of_writes_sub B0 V B0_writes h

/-- `C0x` leaves alone what it does not write. -/
theorem C0x_keep (V : Valuation τ sig (Elt F)) (r : Ref sig .tc) (h : r ∉ C0xW) : after C0x V (Proc.devRef .tc r) = V (Proc.devRef .tc r) :=
  after_of_writes_sub C0x V C0x_writes h

/-- `C0y` leaves alone what it does not write. -/
theorem C0y_keep (V : Valuation τ sig (Elt F)) (r : Ref sig .tc) (h : r ∉ C0yW) : after C0y V (Proc.devRef .tc r) = V (Proc.devRef .tc r) :=
  after_of_writes_sub C0y V C0y_writes h

/-- `A1` leaves alone what it does not write. -/
theorem A1_keep (V : Valuation τ sig (Elt F)) (r : Ref sig .tc) (h : r ∉ A1W) : after A1 V (Proc.devRef .tc r) = V (Proc.devRef .tc r) :=
  after_of_writes_sub A1 V A1_writes h

/-- `B1` leaves alone what it does not write. -/
theorem B1_keep (V : Valuation τ sig (Elt F)) (r : Ref sig .tc) (h : r ∉ B1W) : after B1 V (Proc.devRef .tc r) = V (Proc.devRef .tc r) :=
  after_of_writes_sub B1 V B1_writes h

/-- `C1` leaves alone what it does not write. -/
theorem C1_keep (V : Valuation τ sig (Elt F)) (r : Ref sig .tc) (h : r ∉ C1W) : after C1 V (Proc.devRef .tc r) = V (Proc.devRef .tc r) :=
  after_of_writes_sub C1 V C1_writes h

/-- `A2x` leaves alone what it does not write. -/
theorem A2x_keep (V : Valuation τ sig (Elt F)) (r : Ref sig .tc) (h : r ∉ A2xW) : after A2x V (Proc.devRef .tc r) = V (Proc.devRef .tc r) :=
  after_of_writes_sub A2x V A2x_writes h

/-- `A2y` leaves alone what it does not write. -/
theorem A2y_keep (V : Valuation τ sig (Elt F)) (r : Ref sig .tc) (h : r ∉ A2yW) : after A2y V (Proc.devRef .tc r) = V (Proc.devRef .tc r) :=
  after_of_writes_sub A2y V A2y_writes h

/-- `B2` leaves alone what it does not write. -/
theorem B2_keep (V : Valuation τ sig (Elt F)) (r : Ref sig .tc) (h : r ∉ B2W) : after B2 V (Proc.devRef .tc r) = V (Proc.devRef .tc r) :=
  after_of_writes_sub B2 V B2_writes h

/-- `C2` leaves alone what it does not write. -/
theorem C2_keep (V : Valuation τ sig (Elt F)) (r : Ref sig .tc) (h : r ∉ C2W) : after C2 V (Proc.devRef .tc r) = V (Proc.devRef .tc r) :=
  after_of_writes_sub C2 V C2_writes h

/-- `A3` leaves alone what it does not write. -/
theorem A3_keep (V : Valuation τ sig (Elt F)) (r : Ref sig .tc) (h : r ∉ A3W) : after A3 V (Proc.devRef .tc r) = V (Proc.devRef .tc r) :=
  after_of_writes_sub A3 V A3_writes h

/-- `B3` leaves alone what it does not write. -/
theorem B3_keep (V : Valuation τ sig (Elt F)) (r : Ref sig .tc) (h : r ∉ B3W) : after B3 V (Proc.devRef .tc r) = V (Proc.devRef .tc r) :=
  after_of_writes_sub B3 V B3_writes h

/-- `C3x` leaves alone what it does not write. -/
theorem C3x_keep (V : Valuation τ sig (Elt F)) (r : Ref sig .tc) (h : r ∉ C3xW) : after C3x V (Proc.devRef .tc r) = V (Proc.devRef .tc r) :=
  after_of_writes_sub C3x V C3x_writes h

/-- `C3y` leaves alone what it does not write. -/
theorem C3y_keep (V : Valuation τ sig (Elt F)) (r : Ref sig .tc) (h : r ∉ C3yW) : after C3y V (Proc.devRef .tc r) = V (Proc.devRef .tc r) :=
  after_of_writes_sub C3y V C3y_writes h

/-- `tail` leaves alone what it does not write. -/
theorem tail_keep (V : Valuation τ sig (Elt F)) (r : Ref sig .tc) (h : r ∉ tailW) : after tail V (Proc.devRef .tc r) = V (Proc.devRef .tc r) :=
  after_of_writes_sub tail V tail_writes h

/-- The buffers after level 0. -/
def level0 (V : Valuation τ sig (Elt F)) : Valuation τ sig (Elt F) := after C0y (after C0x (after B0 (after A0 V)))

theorem level0_keep (V : Valuation τ sig (Elt F)) (r : Ref sig .tc) (h0 : r ∉ A0W) (h1 : r ∉ B0W) (h2 : r ∉ C0xW) (h3 : r ∉ C0yW) :
    level0 V (Proc.devRef .tc r) = V (Proc.devRef .tc r) := by
  unfold level0
  rw [C0y_keep _ _ h3, C0x_keep _ _ h2, B0_keep _ _ h1, A0_keep _ _ h0]

theorem level0_idx (V : Valuation τ sig (Elt F)) : level0 V (Proc.devRef .tc main_v37) = pick (book0 (V (Proc.devRef .tc main_v0))) (V (Proc.devRef .tc main_v19)) := by
  unfold level0 pick
  rw [C0y_keep _ _ (by decide), C0x_keep _ _ (by decide), B0_keep _ _ (by decide), A0_idx]

theorem level0_loss (V : Valuation τ sig (Elt F)) : level0 V (Proc.devRef .tc main_v48) = cost (book0 (V (Proc.devRef .tc main_v0))) (V (Proc.devRef .tc main_v19)) := by
  unfold level0 cost rows pick
  rw [C0_loss, B0_row, A0_book, A0_idx, B0_keep _ main_v19 (by decide), A0_keep _ main_v19 (by decide)]

theorem level0_res (V : Valuation τ sig (Elt F)) : level0 V (Proc.devRef .tc main_v51) = rest (book0 (V (Proc.devRef .tc main_v0))) (V (Proc.devRef .tc main_v19)) := by
  unfold level0 rest step rows pick
  rw [C0_res, B0_row, A0_book, A0_idx, B0_keep _ main_v19 (by decide), A0_keep _ main_v19 (by decide)]

theorem level0_sum (V : Valuation τ sig (Elt F)) : level0 V (Proc.devRef .tc main_v52) = addf (V (Proc.devRef .tc main_v20)) (step (book0 (V (Proc.devRef .tc main_v0))) (V (Proc.devRef .tc main_v19))) := by
  unfold level0 step rows pick
  rw [C0_sum, B0_row, A0_book, A0_idx, B0_keep _ main_v19 (by decide), A0_keep _ main_v19 (by decide), B0_keep _ main_v20 (by decide), A0_keep _ main_v20 (by decide)]

/-- The buffers after level 1. -/
def level1 (V : Valuation τ sig (Elt F)) : Valuation τ sig (Elt F) := after C1 (after B1 (after A1 V))

theorem level1_keep (V : Valuation τ sig (Elt F)) (r : Ref sig .tc) (h0 : r ∉ A1W) (h1 : r ∉ B1W) (h2 : r ∉ C1W) :
    level1 V (Proc.devRef .tc r) = V (Proc.devRef .tc r) := by
  unfold level1
  rw [C1_keep _ _ h2, B1_keep _ _ h1, A1_keep _ _ h0]

theorem level1_idx (V : Valuation τ sig (Elt F)) : level1 V (Proc.devRef .tc main_v69) = pick (book1 (V (Proc.devRef .tc main_v0))) (V (Proc.devRef .tc main_v51)) := by
  unfold level1 pick
  rw [C1_keep _ _ (by decide), B1_keep _ _ (by decide), A1_idx]

theorem level1_loss (V : Valuation τ sig (Elt F)) : level1 V (Proc.devRef .tc main_v80) = cost (book1 (V (Proc.devRef .tc main_v0))) (V (Proc.devRef .tc main_v51)) := by
  unfold level1 cost rows pick
  rw [C1_loss, B1_row, A1_book, A1_idx, B1_keep _ main_v51 (by decide), A1_keep _ main_v51 (by decide)]

theorem level1_res (V : Valuation τ sig (Elt F)) : level1 V (Proc.devRef .tc main_v83) = rest (book1 (V (Proc.devRef .tc main_v0))) (V (Proc.devRef .tc main_v51)) := by
  unfold level1 rest step rows pick
  rw [C1_res, B1_row, A1_book, A1_idx, B1_keep _ main_v51 (by decide), A1_keep _ main_v51 (by decide)]

theorem level1_sum (V : Valuation τ sig (Elt F)) : level1 V (Proc.devRef .tc main_v84) = addf (V (Proc.devRef .tc main_v52)) (step (book1 (V (Proc.devRef .tc main_v0))) (V (Proc.devRef .tc main_v51))) := by
  unfold level1 step rows pick
  rw [C1_sum, B1_row, A1_book, A1_idx, B1_keep _ main_v51 (by decide), A1_keep _ main_v51 (by decide), B1_keep _ main_v52 (by decide), A1_keep _ main_v52 (by decide)]

/-- The buffers after level 2. -/
def level2 (V : Valuation τ sig (Elt F)) : Valuation τ sig (Elt F) := after C2 (after B2 (after A2y (after A2x V)))

theorem level2_keep (V : Valuation τ sig (Elt F)) (r : Ref sig .tc) (h0 : r ∉ A2xW) (h1 : r ∉ A2yW) (h2 : r ∉ B2W) (h3 : r ∉ C2W) :
    level2 V (Proc.devRef .tc r) = V (Proc.devRef .tc r) := by
  unfold level2
  rw [C2_keep _ _ h3, B2_keep _ _ h2, A2y_keep _ _ h1, A2x_keep _ _ h0]

theorem level2_idx (V : Valuation τ sig (Elt F)) : level2 V (Proc.devRef .tc main_v101) = pick (book2 (V (Proc.devRef .tc main_v0))) (V (Proc.devRef .tc main_v83)) := by
  unfold level2 pick
  rw [C2_keep _ _ (by decide), B2_keep _ _ (by decide), A2_idx]

theorem level2_loss (V : Valuation τ sig (Elt F)) : level2 V (Proc.devRef .tc main_v112) = cost (book2 (V (Proc.devRef .tc main_v0))) (V (Proc.devRef .tc main_v83)) := by
  unfold level2 cost rows pick
  rw [C2_loss, B2_row, A2_book, A2_idx, B2_keep _ main_v83 (by decide), A2y_keep _ main_v83 (by decide), A2x_keep _ main_v83 (by decide)]

theorem level2_res (V : Valuation τ sig (Elt F)) : level2 V (Proc.devRef .tc main_v115) = rest (book2 (V (Proc.devRef .tc main_v0))) (V (Proc.devRef .tc main_v83)) := by
  unfold level2 rest step rows pick
  rw [C2_res, B2_row, A2_book, A2_idx, B2_keep _ main_v83 (by decide), A2y_keep _ main_v83 (by decide), A2x_keep _ main_v83 (by decide)]

theorem level2_sum (V : Valuation τ sig (Elt F)) : level2 V (Proc.devRef .tc main_v116) = addf (V (Proc.devRef .tc main_v84)) (step (book2 (V (Proc.devRef .tc main_v0))) (V (Proc.devRef .tc main_v83))) := by
  unfold level2 step rows pick
  rw [C2_sum, B2_row, A2_book, A2_idx, B2_keep _ main_v83 (by decide), A2y_keep _ main_v83 (by decide), A2x_keep _ main_v83 (by decide), B2_keep _ main_v84 (by decide), A2y_keep _ main_v84 (by decide), A2x_keep _ main_v84 (by decide)]

/-- The buffers after level 3. -/
def level3 (V : Valuation τ sig (Elt F)) : Valuation τ sig (Elt F) := after C3y (after C3x (after B3 (after A3 V)))

theorem level3_keep (V : Valuation τ sig (Elt F)) (r : Ref sig .tc) (h0 : r ∉ A3W) (h1 : r ∉ B3W) (h2 : r ∉ C3xW) (h3 : r ∉ C3yW) :
    level3 V (Proc.devRef .tc r) = V (Proc.devRef .tc r) := by
  unfold level3
  rw [C3y_keep _ _ h3, C3x_keep _ _ h2, B3_keep _ _ h1, A3_keep _ _ h0]

theorem level3_idx (V : Valuation τ sig (Elt F)) : level3 V (Proc.devRef .tc main_v133) = pick (book3 (V (Proc.devRef .tc main_v0))) (V (Proc.devRef .tc main_v115)) := by
  unfold level3 pick
  rw [C3y_keep _ _ (by decide), C3x_keep _ _ (by decide), B3_keep _ _ (by decide), A3_idx]

theorem level3_loss (V : Valuation τ sig (Elt F)) : level3 V (Proc.devRef .tc main_v144) = cost (book3 (V (Proc.devRef .tc main_v0))) (V (Proc.devRef .tc main_v115)) := by
  unfold level3 cost rows pick
  rw [C3_loss, B3_row, A3_book, A3_idx, B3_keep _ main_v115 (by decide), A3_keep _ main_v115 (by decide)]

theorem level3_res (V : Valuation τ sig (Elt F)) : level3 V (Proc.devRef .tc main_v147) = rest (book3 (V (Proc.devRef .tc main_v0))) (V (Proc.devRef .tc main_v115)) := by
  unfold level3 rest step rows pick
  rw [C3_res, B3_row, A3_book, A3_idx, B3_keep _ main_v115 (by decide), A3_keep _ main_v115 (by decide)]

theorem level3_sum (V : Valuation τ sig (Elt F)) : level3 V (Proc.devRef .tc main_v148) = addf (V (Proc.devRef .tc main_v116)) (step (book3 (V (Proc.devRef .tc main_v0))) (V (Proc.devRef .tc main_v115))) := by
  unfold level3 step rows pick
  rw [C3_sum, B3_row, A3_book, A3_idx, B3_keep _ main_v115 (by decide), A3_keep _ main_v115 (by decide), B3_keep _ main_v116 (by decide), A3_keep _ main_v116 (by decide)]

/-- The codebooks, from their words. -/
def codes (w : Vec F S4x256x64 .i32) : Vec F S4x256x64 .f32 := bitcastToFloat (F := F) .f32 w

/-- The residuals before levels 1, 2 and 3, from that before level 0. -/
def res1 (C : Vec F S4x256x64 .f32) (r : Vec F S16384x64 .f32) : Vec F S16384x64 .f32 := rest (book0 C) r
@[inherit_doc res1]
def res2 (C : Vec F S4x256x64 .f32) (r : Vec F S16384x64 .f32) : Vec F S16384x64 .f32 := rest (book1 C) (res1 C r)
@[inherit_doc res1]
def res3 (C : Vec F S4x256x64 .f32) (r : Vec F S16384x64 .f32) : Vec F S16384x64 .f32 := rest (book2 C) (res2 C r)

/-- The sum of what the four levels add. -/
def total (C : Vec F S4x256x64 .f32) (r : Vec F S16384x64 .f32) : Vec F S16384x64 .f32 :=
  addf (addf (addf (addf zeros (step (book0 C) r)) (step (book1 C) (res1 C r))) (step (book2 C) (res2 C r))) (step (book3 C) (res3 C r))

/-- The mean of the four levels' losses. -/
def lossAll (C : Vec F S4x256x64 .f32) (r : Vec F S16384x64 .f32) : Vec F S1x1 .f32 :=
  meanLoss (cost (book0 C) r) (cost (book1 C) (res1 C r)) (cost (book2 C) (res2 C r)) (cost (book3 C) (res3 C r))

/-- The four levels' indices side by side. -/
def idxAll (C : Vec F S4x256x64 .f32) (r : Vec F S16384x64 .f32) : Vec F S16384x4 .i32 :=
  stack (pick (book0 C) r) (pick (book1 C) (res1 C r)) (pick (book2 C) (res2 C r)) (pick (book3 C) (res3 C r))

/-- The buffers at the end. -/
def final (V : Valuation τ sig (Elt F)) : Valuation τ sig (Elt F) := after tail (level3 (level2 (level1 (level0 (after enc V)))))

theorem after_ops (V : Valuation τ sig (Elt F)) : after ops V = final V := by
  unfold ops final level3 level2 level1 level0
  simp only [after_append]

theorem book_at0 (V : Valuation τ sig (Elt F)) : (after enc V) (Proc.devRef .tc main_v0) = codes (V (Proc.devRef .tc main_arg9)) :=
  enc_book V

theorem book_at1 (V : Valuation τ sig (Elt F)) : (level0 (after enc V)) (Proc.devRef .tc main_v0) = codes (V (Proc.devRef .tc main_arg9)) :=
  (level0_keep _ _ (by decide) (by decide) (by decide) (by decide)).trans (book_at0 V)

theorem book_at2 (V : Valuation τ sig (Elt F)) : (level1 (level0 (after enc V))) (Proc.devRef .tc main_v0) = codes (V (Proc.devRef .tc main_arg9)) :=
  (level1_keep _ _ (by decide) (by decide) (by decide)).trans (book_at1 V)

theorem book_at3 (V : Valuation τ sig (Elt F)) : (level2 (level1 (level0 (after enc V)))) (Proc.devRef .tc main_v0) = codes (V (Proc.devRef .tc main_arg9)) :=
  (level2_keep _ _ (by decide) (by decide) (by decide) (by decide)).trans (book_at2 V)

theorem res_at0 (V : Valuation τ sig (Elt F)) : (after enc V) (Proc.devRef .tc main_v19) = e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)) :=
  enc_out V

theorem res_at1 (V : Valuation τ sig (Elt F)) : (level0 (after enc V)) (Proc.devRef .tc main_v51) = res1 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))) :=
  (level0_res _).trans (by rw [res_at0, book_at0]; rfl)

theorem res_at2 (V : Valuation τ sig (Elt F)) : (level1 (level0 (after enc V))) (Proc.devRef .tc main_v83) = res2 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))) :=
  (level1_res _).trans (by rw [res_at1, book_at1]; rfl)

theorem res_at3 (V : Valuation τ sig (Elt F)) : (level2 (level1 (level0 (after enc V)))) (Proc.devRef .tc main_v115) = res3 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))) :=
  (level2_res _).trans (by rw [res_at2, book_at2]; rfl)

theorem sum_at0 (V : Valuation τ sig (Elt F)) : (after enc V) (Proc.devRef .tc main_v20) = zeros :=
  enc_zero V

theorem sum_at1 (V : Valuation τ sig (Elt F)) : (level0 (after enc V)) (Proc.devRef .tc main_v52) = (addf zeros (step (book0 (codes (V (Proc.devRef .tc main_arg9)))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))))) :=
  (level0_sum _).trans (by rw [sum_at0, book_at0, res_at0])

theorem sum_at2 (V : Valuation τ sig (Elt F)) : (level1 (level0 (after enc V))) (Proc.devRef .tc main_v84) = (addf (addf zeros (step (book0 (codes (V (Proc.devRef .tc main_arg9)))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))))) (step (book1 (codes (V (Proc.devRef .tc main_arg9)))) (res1 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))))) :=
  (level1_sum _).trans (by rw [sum_at1, book_at1, res_at1])

theorem sum_at3 (V : Valuation τ sig (Elt F)) : (level2 (level1 (level0 (after enc V)))) (Proc.devRef .tc main_v116) = (addf (addf (addf zeros (step (book0 (codes (V (Proc.devRef .tc main_arg9)))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))))) (step (book1 (codes (V (Proc.devRef .tc main_arg9)))) (res1 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))))) (step (book2 (codes (V (Proc.devRef .tc main_arg9)))) (res2 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))))) :=
  (level2_sum _).trans (by rw [sum_at2, book_at2, res_at2])

theorem sum_at4 (V : Valuation τ sig (Elt F)) : (level3 (level2 (level1 (level0 (after enc V))))) (Proc.devRef .tc main_v148) = (addf (addf (addf (addf zeros (step (book0 (codes (V (Proc.devRef .tc main_arg9)))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))))) (step (book1 (codes (V (Proc.devRef .tc main_arg9)))) (res1 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))))) (step (book2 (codes (V (Proc.devRef .tc main_arg9)))) (res2 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))))) (step (book3 (codes (V (Proc.devRef .tc main_arg9)))) (res3 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))))) :=
  (level3_sum _).trans (by rw [sum_at3, book_at3, res_at3])

theorem idx_at0 (V : Valuation τ sig (Elt F)) : (level3 (level2 (level1 (level0 (after enc V))))) (Proc.devRef .tc main_v37) = pick (book0 (codes (V (Proc.devRef .tc main_arg9)))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))) := by
  rw [level3_keep _ _ (by decide) (by decide) (by decide) (by decide), level2_keep _ _ (by decide) (by decide) (by decide) (by decide), level1_keep _ _ (by decide) (by decide) (by decide), level0_idx, res_at0, book_at0]

theorem idx_at1 (V : Valuation τ sig (Elt F)) : (level3 (level2 (level1 (level0 (after enc V))))) (Proc.devRef .tc main_v69) = pick (book1 (codes (V (Proc.devRef .tc main_arg9)))) (res1 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))) := by
  rw [level3_keep _ _ (by decide) (by decide) (by decide) (by decide), level2_keep _ _ (by decide) (by decide) (by decide) (by decide), level1_idx, res_at1, book_at1]

theorem idx_at2 (V : Valuation τ sig (Elt F)) : (level3 (level2 (level1 (level0 (after enc V))))) (Proc.devRef .tc main_v101) = pick (book2 (codes (V (Proc.devRef .tc main_arg9)))) (res2 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))) := by
  rw [level3_keep _ _ (by decide) (by decide) (by decide) (by decide), level2_idx, res_at2, book_at2]

theorem idx_at3 (V : Valuation τ sig (Elt F)) : (level3 (level2 (level1 (level0 (after enc V))))) (Proc.devRef .tc main_v133) = pick (book3 (codes (V (Proc.devRef .tc main_arg9)))) (res3 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))) := by
  rw [level3_idx, res_at3, book_at3]

theorem loss_at0 (V : Valuation τ sig (Elt F)) : (level3 (level2 (level1 (level0 (after enc V))))) (Proc.devRef .tc main_v48) = cost (book0 (codes (V (Proc.devRef .tc main_arg9)))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))) := by
  rw [level3_keep _ _ (by decide) (by decide) (by decide) (by decide), level2_keep _ _ (by decide) (by decide) (by decide) (by decide), level1_keep _ _ (by decide) (by decide) (by decide), level0_loss, res_at0, book_at0]

theorem loss_at1 (V : Valuation τ sig (Elt F)) : (level3 (level2 (level1 (level0 (after enc V))))) (Proc.devRef .tc main_v80) = cost (book1 (codes (V (Proc.devRef .tc main_arg9)))) (res1 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))) := by
  rw [level3_keep _ _ (by decide) (by decide) (by decide) (by decide), level2_keep _ _ (by decide) (by decide) (by decide) (by decide), level1_loss, res_at1, book_at1]

theorem loss_at2 (V : Valuation τ sig (Elt F)) : (level3 (level2 (level1 (level0 (after enc V))))) (Proc.devRef .tc main_v112) = cost (book2 (codes (V (Proc.devRef .tc main_arg9)))) (res2 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))) := by
  rw [level3_keep _ _ (by decide) (by decide) (by decide) (by decide), level2_loss, res_at2, book_at2]

theorem loss_at3 (V : Valuation τ sig (Elt F)) : (level3 (level2 (level1 (level0 (after enc V))))) (Proc.devRef .tc main_v144) = cost (book3 (codes (V (Proc.devRef .tc main_arg9)))) (res3 (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))) := by
  rw [level3_loss, res_at3, book_at3]

theorem arg10_at4 (V : Valuation τ sig (Elt F)) : (level3 (level2 (level1 (level0 (after enc V))))) (Proc.devRef .tc main_arg10) = (V (Proc.devRef .tc main_arg10)) := by
  rw [level3_keep _ _ (by decide) (by decide) (by decide) (by decide), level2_keep _ _ (by decide) (by decide) (by decide) (by decide), level1_keep _ _ (by decide) (by decide) (by decide), level0_keep _ _ (by decide) (by decide) (by decide) (by decide), enc_keep _ _ (by decide)]

theorem arg11_at4 (V : Valuation τ sig (Elt F)) : (level3 (level2 (level1 (level0 (after enc V))))) (Proc.devRef .tc main_arg11) = (V (Proc.devRef .tc main_arg11)) := by
  rw [level3_keep _ _ (by decide) (by decide) (by decide) (by decide), level2_keep _ _ (by decide) (by decide) (by decide) (by decide), level1_keep _ _ (by decide) (by decide) (by decide), level0_keep _ _ (by decide) (by decide) (by decide) (by decide), enc_keep _ _ (by decide)]

theorem arg12_at4 (V : Valuation τ sig (Elt F)) : (level3 (level2 (level1 (level0 (after enc V))))) (Proc.devRef .tc main_arg12) = (V (Proc.devRef .tc main_arg12)) := by
  rw [level3_keep _ _ (by decide) (by decide) (by decide) (by decide), level2_keep _ _ (by decide) (by decide) (by decide) (by decide), level1_keep _ _ (by decide) (by decide) (by decide), level0_keep _ _ (by decide) (by decide) (by decide) (by decide), enc_keep _ _ (by decide)]

theorem arg13_at4 (V : Valuation τ sig (Elt F)) : (level3 (level2 (level1 (level0 (after enc V))))) (Proc.devRef .tc main_arg13) = (V (Proc.devRef .tc main_arg13)) := by
  rw [level3_keep _ _ (by decide) (by decide) (by decide) (by decide), level2_keep _ _ (by decide) (by decide) (by decide) (by decide), level1_keep _ _ (by decide) (by decide) (by decide), level0_keep _ _ (by decide) (by decide) (by decide) (by decide), enc_keep _ _ (by decide)]

theorem arg14_at4 (V : Valuation τ sig (Elt F)) : (level3 (level2 (level1 (level0 (after enc V))))) (Proc.devRef .tc main_arg14) = (V (Proc.devRef .tc main_arg14)) := by
  rw [level3_keep _ _ (by decide) (by decide) (by decide) (by decide), level2_keep _ _ (by decide) (by decide) (by decide) (by decide), level1_keep _ _ (by decide) (by decide) (by decide), level0_keep _ _ (by decide) (by decide) (by decide) (by decide), enc_keep _ _ (by decide)]

theorem arg15_at4 (V : Valuation τ sig (Elt F)) : (level3 (level2 (level1 (level0 (after enc V))))) (Proc.devRef .tc main_arg15) = (V (Proc.devRef .tc main_arg15)) := by
  rw [level3_keep _ _ (by decide) (by decide) (by decide) (by decide), level2_keep _ _ (by decide) (by decide) (by decide) (by decide), level1_keep _ _ (by decide) (by decide) (by decide), level0_keep _ _ (by decide) (by decide) (by decide) (by decide), enc_keep _ _ (by decide)]

theorem arg16_at4 (V : Valuation τ sig (Elt F)) : (level3 (level2 (level1 (level0 (after enc V))))) (Proc.devRef .tc main_arg16) = (V (Proc.devRef .tc main_arg16)) := by
  rw [level3_keep _ _ (by decide) (by decide) (by decide) (by decide), level2_keep _ _ (by decide) (by decide) (by decide) (by decide), level1_keep _ _ (by decide) (by decide) (by decide), level0_keep _ _ (by decide) (by decide) (by decide) (by decide), enc_keep _ _ (by decide)]

theorem arg17_at4 (V : Valuation τ sig (Elt F)) : (level3 (level2 (level1 (level0 (after enc V))))) (Proc.devRef .tc main_arg17) = (V (Proc.devRef .tc main_arg17)) := by
  rw [level3_keep _ _ (by decide) (by decide) (by decide) (by decide), level2_keep _ _ (by decide) (by decide) (by decide) (by decide), level1_keep _ _ (by decide) (by decide) (by decide), level0_keep _ _ (by decide) (by decide) (by decide) (by decide), enc_keep _ _ (by decide)]

/-- The decoder output at the end. -/
theorem final_out (V : Valuation τ sig (Elt F)) : final V (Proc.devRef .tc main_v179) =
    d4 (d3 (d2 (d1 (total (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8)))) (V (Proc.devRef .tc main_arg10)) (V (Proc.devRef .tc main_arg11))) (V (Proc.devRef .tc main_arg12)) (V (Proc.devRef .tc main_arg13))) (V (Proc.devRef .tc main_arg14)) (V (Proc.devRef .tc main_arg15))) (V (Proc.devRef .tc main_arg16)) (V (Proc.devRef .tc main_arg17)) := by
  unfold final total
  rw [tail_out, sum_at4, arg10_at4, arg11_at4, arg12_at4, arg13_at4, arg14_at4, arg15_at4, arg16_at4, arg17_at4]

/-- The loss at the end. -/
theorem final_loss (V : Valuation τ sig (Elt F)) : final V (Proc.devRef .tc main_v180) = lossAll (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))) := by
  unfold final lossAll
  rw [tail_loss, loss_at0, loss_at1, loss_at2, loss_at3]

/-- The indices at the end. -/
theorem final_idx (V : Valuation τ sig (Elt F)) : final V (Proc.devRef .tc main_v160) = idxAll (codes (V (Proc.devRef .tc main_arg9))) (e4 (e3 (e2 (e1 (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) (V (Proc.devRef .tc main_arg7)) (V (Proc.devRef .tc main_arg8))) := by
  unfold final idxAll
  rw [tail_idx, idx_at0, idx_at1, idx_at2, idx_at3]

/-- A buffer that no operation writes is at the end what it was. -/
theorem final_keep (V : Valuation τ sig (Elt F)) (r : Ref sig .tc) (h0 : r ∉ encW) (h1 : r ∉ A0W) (h2 : r ∉ B0W) (h3 : r ∉ C0xW) (h4 : r ∉ C0yW) (h5 : r ∉ A1W) (h6 : r ∉ B1W) (h7 : r ∉ C1W) (h8 : r ∉ A2xW) (h9 : r ∉ A2yW) (h10 : r ∉ B2W) (h11 : r ∉ C2W) (h12 : r ∉ A3W) (h13 : r ∉ B3W) (h14 : r ∉ C3xW) (h15 : r ∉ C3yW) (h16 : r ∉ tailW) :
    final V (Proc.devRef .tc r) = V (Proc.devRef .tc r) := by
  unfold final level3 level2 level1 level0
  rw [tail_keep _ _ h16, C3y_keep _ _ h15, C3x_keep _ _ h14, B3_keep _ _ h13, A3_keep _ _ h12, C2_keep _ _ h11, B2_keep _ _ h10, A2y_keep _ _ h9, A2x_keep _ _ h8, C1_keep _ _ h7, B1_keep _ _ h6, A1_keep _ _ h5, C0y_keep _ _ h4, C0x_keep _ _ h3, B0_keep _ _ h2, A0_keep _ _ h1, enc_keep _ _ h0]

/-- The encoder's output from the launch contents. -/
def r0 (m : (ℓ : Loc nD τ sig) → Buf (Elt F) ℓ) (c : Dev nD) : Vec F S16384x64 .f32 :=
  e4 (e3 (e2 (e1 (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))

/-- The codebooks from the launch contents. -/
def cb0 (m : (ℓ : Loc nD τ sig) → Buf (Elt F) ℓ) (c : Dev nD) : Vec F S4x256x64 .f32 := codes (m ((c.tc : Thread nD τ).loc main_arg9))

/-- The decoder output from the launch contents. -/
def outAll (m : (ℓ : Loc nD τ sig) → Buf (Elt F) ℓ) (c : Dev nD) : Vec F S16384x768 .f32 :=
  d4 (d3 (d2 (d1 (total (cb0 m c) (r0 m c)) (m ((c.tc : Thread nD τ).loc main_arg10)) (m ((c.tc : Thread nD τ).loc main_arg11))) (m ((c.tc : Thread nD τ).loc main_arg12)) (m ((c.tc : Thread nD τ).loc main_arg13))) (m ((c.tc : Thread nD τ).loc main_arg14)) (m ((c.tc : Thread nD τ).loc main_arg15))) (m ((c.tc : Thread nD τ).loc main_arg16)) (m ((c.tc : Thread nD τ).loc main_arg17))

set_option maxRecDepth 8192 in
/-- The reference runs to its end with each result at its function of the arguments, the arguments unchanged and every
    semaphore at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v179) = outAll m c
      ∧ r.2.mem ((c.tc : Thread nD τ).loc main_v180) = lossAll (cb0 m c) (r0 m c)
      ∧ r.2.mem ((c.tc : Thread nD τ).loc main_v160) = idxAll (cb0 m c) (r0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0 :=
  (θ_run defs _ _).mono (fun r h => ⟨fun c =>
    ⟨(h c main_v179).trans ((congrFun (after_ops _) _).trans (final_out _)),
     (h c main_v180).trans ((congrFun (after_ops _) _).trans (final_loss _)),
     (h c main_v160).trans ((congrFun (after_ops _) _).trans (final_idx _)),
     (h c main_arg0).trans ((congrFun (after_ops _) _).trans (final_keep _ main_arg0 (by decide) (by decide) (by decide) (by decide) (by decide) (by decide) (by decide) (by decide) (by decide) (by decide) (by decide) (by decide) (by decide) (by decide) (by decide) (by decide) (by decide))),
     (h c main_arg1).trans ((congrFun (after_ops _) _).trans (final_keep _ main_arg1 (by decide) (by decide) (by decide) (by decide) (by decide) (by decide) (by decide) (by decide) (by decide) (by decide) (by decide) (by decide) (by decide) (by decide) (by decide) (by decide) (by decide))),
     (h c main_arg2).trans ((congrFun (after_ops _) _).trans (final_keep _ main_arg2 (by decide) (by decide) (by decide) (by decide) (by decide) (by decide) (by decide) (by decide) (by decide) (by decide) (by decide) (by decide) (by decide) (by decide) (by decide) (by decide) (by decide))),
     (h c main_arg3).trans ((congrFun (after_ops _) _).trans (final_keep _ main_arg3 (by decide) (by decide) (by decide) (by decide) (by decide) (by decide) (by decide) (by decide) (by decide) (by decide) (by decide) (by decide) (by decide) (by decide) (by decide) (by decide) (by decide))),
     (h c main_arg4).trans ((congrFun (after_ops _) _).trans (final_keep _ main_arg4 (by decide) (by decide) (by decide) (by decide) (by decide) (by decide) (by decide) (by decide) (by decide) (by decide) (by decide) (by decide) (by decide) (by decide) (by decide) (by decide) (by decide))),
     (h c main_arg5).trans ((congrFun (after_ops _) _).trans (final_keep _ main_arg5 (by decide) (by decide) (by decide) (by decide) (by decide) (by decide) (by decide) (by decide) (by decide) (by decide) (by decide) (by decide) (by decide) (by decide) (by decide) (by decide) (by decide))),
     (h c main_arg6).trans ((congrFun (after_ops _) _).trans (final_keep _ main_arg6 (by decide) (by decide) (by decide) (by decide) (by decide) (by decide) (by decide) (by decide) (by decide) (by decide) (by decide) (by decide) (by decide) (by decide) (by decide) (by decide) (by decide))),
     (h c main_arg7).trans ((congrFun (after_ops _) _).trans (final_keep _ main_arg7 (by decide) (by decide) (by decide) (by decide) (by decide) (by decide) (by decide) (by decide) (by decide) (by decide) (by decide) (by decide) (by decide) (by decide) (by decide) (by decide) (by decide))),
     (h c main_arg8).trans ((congrFun (after_ops _) _).trans (final_keep _ main_arg8 (by decide) (by decide) (by decide) (by decide) (by decide) (by decide) (by decide) (by decide) (by decide) (by decide) (by decide) (by decide) (by decide) (by decide) (by decide) (by decide) (by decide))),
     (h c main_arg9).trans ((congrFun (after_ops _) _).trans (final_keep _ main_arg9 (by decide) (by decide) (by decide) (by decide) (by decide) (by decide) (by decide) (by decide) (by decide) (by decide) (by decide) (by decide) (by decide) (by decide) (by decide) (by decide) (by decide))),
     (h c main_arg10).trans ((congrFun (after_ops _) _).trans (final_keep _ main_arg10 (by decide) (by decide) (by decide) (by decide) (by decide) (by decide) (by decide) (by decide) (by decide) (by decide) (by decide) (by decide) (by decide) (by decide) (by decide) (by decide) (by decide))),
     (h c main_arg11).trans ((congrFun (after_ops _) _).trans (final_keep _ main_arg11 (by decide) (by decide) (by decide) (by decide) (by decide) (by decide) (by decide) (by decide) (by decide) (by decide) (by decide) (by decide) (by decide) (by decide) (by decide) (by decide) (by decide))),
     (h c main_arg12).trans ((congrFun (after_ops _) _).trans (final_keep _ main_arg12 (by decide) (by decide) (by decide) (by decide) (by decide) (by decide) (by decide) (by decide) (by decide) (by decide) (by decide) (by decide) (by decide) (by decide) (by decide) (by decide) (by decide))),
     (h c main_arg13).trans ((congrFun (after_ops _) _).trans (final_keep _ main_arg13 (by decide) (by decide) (by decide) (by decide) (by decide) (by decide) (by decide) (by decide) (by decide) (by decide) (by decide) (by decide) (by decide) (by decide) (by decide) (by decide) (by decide))),
     (h c main_arg14).trans ((congrFun (after_ops _) _).trans (final_keep _ main_arg14 (by decide) (by decide) (by decide) (by decide) (by decide) (by decide) (by decide) (by decide) (by decide) (by decide) (by decide) (by decide) (by decide) (by decide) (by decide) (by decide) (by decide))),
     (h c main_arg15).trans ((congrFun (after_ops _) _).trans (final_keep _ main_arg15 (by decide) (by decide) (by decide) (by decide) (by decide) (by decide) (by decide) (by decide) (by decide) (by decide) (by decide) (by decide) (by decide) (by decide) (by decide) (by decide) (by decide))),
     (h c main_arg16).trans ((congrFun (after_ops _) _).trans (final_keep _ main_arg16 (by decide) (by decide) (by decide) (by decide) (by decide) (by decide) (by decide) (by decide) (by decide) (by decide) (by decide) (by decide) (by decide) (by decide) (by decide) (by decide) (by decide))),
     (h c main_arg17).trans ((congrFun (after_ops _) _).trans (final_keep _ main_arg17 (by decide) (by decide) (by decide) (by decide) (by decide) (by decide) (by decide) (by decide) (by decide) (by decide) (by decide) (by decide) (by decide) (by decide) (by decide) (by decide) (by decide)))⟩,
    sem_eq_zero_of_no_sems (by decide) _⟩)
    (run_line m ρ)

end Cert.ReferenceIdeal.Line

end
-- ==== Proof.Plain.lean ====
/- Plain mathematics used by both sides: the first smallest of 256 extended reals, words put together from their four
   bytes, finite extended reals, and sums over rows taken block by block. -/
module

public import Idealize.ShloMosaic.Lib.Pointwise

@[expose] public section

noncomputable section

namespace Cert.Plain

open Idealize.ShloMosaic

/-- An extended real that is a real number. -/
def Fin? (x : EReal) : Prop := ∃ a : ℝ, x = (a : EReal)

theorem Fin?.add {x y : EReal} (hx : Fin? x) (hy : Fin? y) : Fin? (x + y) := by
  obtain ⟨a, rfl⟩ := hx; obtain ⟨b, rfl⟩ := hy; exact ⟨a + b, by push_cast; rfl⟩

theorem Fin?.mul {x y : EReal} (hx : Fin? x) (hy : Fin? y) : Fin? (x * y) := by
  obtain ⟨a, rfl⟩ := hx; obtain ⟨b, rfl⟩ := hy; exact ⟨a * b, by push_cast; rfl⟩

theorem Fin?.sub {x y : EReal} (hx : Fin? x) (hy : Fin? y) : Fin? (x - y) := by
  obtain ⟨a, rfl⟩ := hx; obtain ⟨b, rfl⟩ := hy; exact ⟨a - b, by push_cast; rfl⟩

theorem Fin?.max {x y : EReal} (hx : Fin? x) (hy : Fin? y) : Fin? (max x y) := by
  rcases max_choice x y with h | h <;> rw [h] <;> assumption

theorem Fin?.zero : Fin? 0 := ⟨0, by simp⟩

/-- The sum of real numbers, read as an extended real, is the sum of them so read. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem Fin?.sum {ι : Type} (s : Finset ι) (f : ι → EReal) (h : ∀ i, Fin? (f i)) : Fin? (∑ i ∈ s, f i) := by
  choose g hg using h
  exact ⟨∑ i ∈ s, g i, by rw [coe_sum]; exact Finset.sum_congr rfl fun i _ => hg i⟩

/-- A finite number is what adding its difference to a finite number gives. -/
theorem add_sub_self {r q : EReal} (hr : Fin? r) (hq : Fin? q) : r + (q - r) = q := by
  obtain ⟨a, rfl⟩ := hr; obtain ⟨b, rfl⟩ := hq
  rw [← EReal.coe_sub, ← EReal.coe_add]; congr 1; ring

/-- Distances with the factor −2 inside the product's sum are those with 2 taken off after it, at finite vectors. -/
theorem dist_eq {n : Nat} (r b : Fin n → EReal) (x : EReal) (hr : ∀ e, Fin? (r e)) (hb : ∀ e, Fin? (b e)) (hx : Fin? x) :
    x + ∑ e, r e * (((-2 : ℝ) : EReal) * b e) = x - ((2 : ℝ) : EReal) * ∑ e, r e * b e := by
  choose r' hr' using hr
  choose b' hb' using hb
  obtain ⟨x', rfl⟩ := hx
  simp only [hr', hb', ← EReal.coe_mul, ← coe_sum, ← EReal.coe_add, ← EReal.coe_sub]
  congr 1
  rw [Finset.mul_sum, sub_eq_add_neg, ← Finset.sum_neg_distrib]
  congr 1
  exact Finset.sum_congr rfl fun e _ => by ring

theorem exists_least (d : Fin 256 → EReal) : (Finset.univ.filter fun j => ∀ k, d j ≤ d k).Nonempty := by
  obtain ⟨j, hj⟩ := Finite.exists_min d
  exact ⟨j, by simpa using hj⟩

/-- The first of 256 numbers that is smallest. -/
def first (d : Fin 256 → EReal) : Fin 256 := (Finset.univ.filter fun j => ∀ k, d j ≤ d k).min' (exists_least d)

theorem first_le (d : Fin 256 → EReal) (k : Fin 256) : d (first d) ≤ d k := by
  have := Finset.min'_mem _ (exists_least d)
  simp only [Finset.mem_filter, Finset.mem_univ, true_and] at this
  exact this k

theorem first_first (d : Fin 256 → EReal) (j : Fin 256) (h : ∀ k, d j ≤ d k) : first d ≤ j :=
  Finset.min'_le _ _ (by simpa using h)

theorem fold_min (d : Fin 256 → EReal) : Finset.univ.fold min ⊤ d = d (first d) := by
  apply le_antisymm
  · exact Finset.fold_min_le _ |>.mpr (Or.inr ⟨first d, Finset.mem_univ _, le_refl _⟩)
  · exact Finset.le_fold_min _ |>.mpr ⟨le_top, fun k _ => first_le d k⟩

theorem toInt_minsi (a b : BitVec 32) : (IntOp.minsi a b).toInt = min a.toInt b.toInt := by
  unfold IntOp.minsi
  simp only [BitVec.sle, decide_eq_true_eq, BitVec.slt]
  split <;> omega

/-- The signed minimum of words one of which is smallest is that word. -/
theorem fold_minsi {n : Nat} (f : Fin n → BitVec 32) (i v : BitVec 32) (a : Fin n) (ha : f a = v) (hi : v.toInt ≤ i.toInt)
    (h : ∀ k, v.toInt ≤ (f k).toInt) : Finset.univ.fold IntOp.minsi i f = v := by
  apply BitVec.eq_of_toInt_eq
  have := Finset.fold_hom (op := IntOp.minsi) (op' := (min : Int → Int → Int)) (s := (Finset.univ : Finset (Fin n))) (b := i) (f := f)
    (m := BitVec.toInt) toInt_minsi
  rw [← this]
  apply le_antisymm
  · exact Finset.fold_min_le _ |>.mpr (Or.inr ⟨a, Finset.mem_univ _, by rw [ha]⟩)
  · exact Finset.le_fold_min _ |>.mpr ⟨hi, fun k _ => h k⟩

theorem toInt_small (j : Nat) (h : j ≤ 256) : (BitVec.ofNat 32 j).toInt = j := by
  have e : (BitVec.ofNat 32 j).toNat = j := by rw [BitVec.toNat_ofNat]; omega
  rw [BitVec.toInt_eq_toNat_cond, e]
  split <;> omega

/-- The kernel's way to the first smallest: the smallest column number among those at most the minimum. -/
theorem fold_lanes (d : Fin 256 → EReal) :
    Finset.univ.fold IntOp.minsi (2147483647#32) (fun x : Fin 256 => if d x ≤ Finset.univ.fold min ⊤ d then BitVec.ofNat 32 x.val else 256#32)
      = BitVec.ofNat 32 (first d).val := by
  rw [fold_min]
  have hf := (first d).isLt
  refine fold_minsi _ _ _ (first d) (by simp) ?_ fun k => ?_
  · rw [toInt_small _ (by omega)]
    have : (2147483647#32 : BitVec 32).toInt = 2147483647 := by decide
    omega
  · rw [toInt_small _ (by omega)]
    split
    next h =>
      rw [toInt_small _ (by have := k.isLt; omega)]
      have : first d ≤ k := first_first d k fun l => h.trans (first_le d l)
      exact_mod_cast this
    next h =>
      have : (256#32 : BitVec 32).toInt = 256 := by decide
      omega

/-- A pair of value and number is at most another: smaller in value, or equal in value and no larger in number. -/
def atMost (a b : EReal × BitVec 32) : Prop := a.1 < b.1 ∨ (a.1 = b.1 ∧ a.2.toInt ≤ b.2.toInt)

/-- A fold by an operation that takes the lesser of two pairs ends at the least pair. -/
theorem foldl_least (f : EReal × BitVec 32 → EReal × BitVec 32 → EReal × BitVec 32) (m : EReal × BitVec 32)
    (hl : ∀ b, atMost m b → f m b = m) (hr : ∀ a, atMost m a → f a m = m) (hc : ∀ a b, f a b = a ∨ f a b = b)
    (l : List (EReal × BitVec 32)) : ∀ a, atMost m a → (∀ x ∈ l, atMost m x) → (a = m ∨ m ∈ l) → l.foldl f a = m := by
  induction l with
  | nil => intro a _ _ h; simpa using h
  | cons b l ih =>
    intro a ha hb h
    have hb' := hb b (by simp)
    rw [List.foldl_cons]
    refine ih _ ?_ (fun x hx => hb x (by simp [hx])) ?_
    · rcases hc a b with e | e <;> rw [e] <;> assumption
    · rcases h with rfl | h
      · exact Or.inl (hl b hb')
      · rcases List.mem_cons.mp h with rfl | h
        · exact Or.inl (hr a ha)
        · exact Or.inr h

/-- Byte `k` of a word, as an eight-bit word. -/
def byteOf (k : Nat) (w : BitVec 32) : BitVec 8 := (w >>> (8 * k) &&& 255#32).setWidth 8

/-- A word put together again from its four bytes. -/
theorem bytes_word (w : BitVec 32) :
    ((((byteOf 0 w).signExtend 32 &&& 255#32) ||| (((byteOf 1 w).signExtend 32 &&& 255#32) <<< 8))
        ||| (((byteOf 2 w).signExtend 32 &&& 255#32) <<< 16)) ||| ((byteOf 3 w).signExtend 32 <<< 24) = w := by
  apply BitVec.eq_of_getLsbD_eq
  intro q hq
  have h255 (i : Nat) (hi : i < 32) : (255#32 : BitVec 32).getLsbD i = decide (i < 8) := by
    interval_cases i <;> rfl
  unfold byteOf
  interval_cases q <;> simp [BitVec.getElem_signExtend, BitVec.getLsbD_signExtend]

/-- The row of the whole array that row `p` of block `t` is. -/
def rowOf (t : Fin 8) (p : Fin 2048) : Fin 16384 := ⟨2048 * t.val + p.val, by omega⟩

/-- A sum over all rows, block by block. -/
theorem sum_rows (f : Fin 16384 → ℝ) : ∑ i, f i = ∑ t : Fin 8, ∑ p : Fin 2048, f (rowOf t p) := by
  rw [← Fintype.sum_prod_type']
  refine (Fintype.sum_equiv (finProdFinEquiv (m := 8) (n := 2048)) _ _ fun x => ?_).symm
  congr 1
  apply Fin.ext
  simp only [rowOf, finProdFinEquiv_apply_val]
  omega

/-- The loss of one residual stage laid out: the kernel's sum of block shares is the mean over four levels. -/
theorem loss_eq (E : Fin 4 → Fin 8 → ℝ) :
    ∑ t : Fin 8, (E 0 t + E 1 t + E 2 t + E 3 t) * (5 / 16777216 : ℝ)
      = ((∑ t, E 0 t) / 1048576 + 1 / 4 * ((∑ t, E 0 t) / 1048576) + ((∑ t, E 1 t) / 1048576 + 1 / 4 * ((∑ t, E 1 t) / 1048576))
          + ((∑ t, E 2 t) / 1048576 + 1 / 4 * ((∑ t, E 2 t) / 1048576)) + ((∑ t, E 3 t) / 1048576 + 1 / 4 * ((∑ t, E 3 t) / 1048576))) / 4 := by
  rw [← Finset.sum_mul, Finset.sum_add_distrib, Finset.sum_add_distrib, Finset.sum_add_distrib]
  ring

theorem bits_inf : Ideal.ofBits .f32 0x7F800000#32 = (⊤ : EReal) := by simp [Ideal.ofBits, Ideal.ieee]
theorem bits_two : Ideal.ofBits .f32 0x40000000#32 = ((2 : ℝ) : EReal) := by
  simp [Ideal.ofBits, Ideal.ieee]; norm_num; rw [← EReal.coe_mul]; norm_num
theorem bits_neg_two : Ideal.ofBits .f32 0xC0000000#32 = ((-2 : ℝ) : EReal) := by
  simp [Ideal.ofBits, Ideal.ieee]; norm_num; rw [← EReal.coe_mul]; norm_num
theorem bits_scale : Ideal.ofBits .f32 0x34A00000#32 = ((5 / 16777216 : ℝ) : EReal) := by
  simp [Ideal.ofBits, Ideal.ieee]; norm_num; rw [← EReal.coe_mul]; norm_num
theorem bits_count : Ideal.ofBits .f32 0x49800000#32 = ((1048576 : ℝ) : EReal) := by
  simp [Ideal.ofBits, Ideal.ieee]; norm_num; rw [← EReal.coe_mul]; norm_num
theorem bits_four : Ideal.ofBits .f32 0x40800000#32 = ((4 : ℝ) : EReal) := by
  simp [Ideal.ofBits, Ideal.ieee]; norm_num; rw [← EReal.coe_mul]; norm_num
theorem bits_quarter : Ideal.ofBits .f32 0x3E800000#32 = ((1 / 4 : ℝ) : EReal) := by
  simp [Ideal.ofBits, Ideal.ieee]; norm_num; rw [← EReal.coe_mul]; norm_num

end Cert.Plain
-- ==== Proof.KLevel.lean ====
/- One quantizer level of the kernel on a block of rows, read entry by entry over the extended reals. -/
module

public import proofs.«01_k».proof.Proof.Block
public import proofs.«01_k».proof.Proof.Plain
public import Idealize.ShloMosaic.Lib.IntMxu
public import Idealize.ShloMosaic.Lib.MatmulPlain

@[expose] public section

set_option maxRecDepth 16384

noncomputable section

namespace Cert.KernelIdeal.Body

open Cert.KernelIdeal Cert.KernelIdeal.Gen Idealize.ShloMosaic Cert.Plain

/-- A product of eight-bit matrices at an entry, its left row the indicator of one column: the right entry there. -/
theorem pick_plane (o : IVec S2048x256 8) (P : IVec S256x64 8) (p : Fin 2048) (e : Fin 64) (a : Fin 256)
    (ho : ∀ k : Fin 256, o (ix2 p k) = if k = a then 1#8 else 0#8) :
    matmulI8 IntMxuNumerics.v7x dot_S2048x256_S256x64_S2048x64_1_0_0_1_n_n o P (constantI S2048x64 32 0#32) (ix2 p e)
      = (P (ix2 a e)).signExtend 32 := by
  rw [matmulI8_exact_of_numel _ _ _ _ _ _ rfl (by decide)]
  unfold dotI8 BitVec.signExtend
  have hd : dot_S2048x256_S256x64_S2048x64_1_0_0_1_n_n = DotDims.plain 2048 256 64 := rfl
  rw [hd]
  congr 1
  rw [← Equiv.sum_comp (DotDims.plainContr 2048 256 64).symm]
  have key : ∀ k : Fin 256, (o ((DotDims.plain 2048 256 64).lhsIdx (ix2 p e) ((DotDims.plainContr 2048 256 64).symm k))).toInt
      * (P ((DotDims.plain 2048 256 64).rhsIdx (ix2 p e) ((DotDims.plainContr 2048 256 64).symm k))).toInt
      = if k = a then (P (ix2 a e)).toInt else 0 := by
    intro k
    have hk := ValueIdx.contrEquiv1_symm_val _ 256 (DotDims.plain_contr_rank 2048 256 64) (DotDims.plain_contr_size 2048 256 64) k
    have el : (DotDims.plain 2048 256 64).lhsIdx (ix2 p e) ((DotDims.plainContr 2048 256 64).symm k) = ix2 p k := by
      funext c; apply Fin.ext
      match c with
      | ⟨0, _⟩ => rfl
      | ⟨1, _⟩ => exact hk
    have er : (DotDims.plain 2048 256 64).rhsIdx (ix2 p e) ((DotDims.plainContr 2048 256 64).symm k) = ix2 k e := by
      funext c; apply Fin.ext
      match c with
      | ⟨0, _⟩ => exact hk
      | ⟨1, _⟩ => rfl
    rw [el, er, ho]
    split
    next h => subst h; rw [show (1#8 : BitVec 8).toInt = 1 by decide, one_mul]
    next h => rw [show (0#8 : BitVec 8).toInt = 0 by decide, zero_mul]
  rw [Finset.sum_congr rfl fun k _ => key k, Finset.sum_ite_eq' Finset.univ a, if_pos (Finset.mem_univ a)]

variable (s : Slab Ideal) (r : Vec Ideal S2048x64 .f32)

/-- A distance: the squared norms and the product's sum. -/
theorem far_apply (p : Fin 2048) (j : Fin 256) :
    far s r (ix2 p j) = ∑ x : Fin 64, r (ix2 p x) * r (ix2 p x) + s.sq (ix3 0 0 j) + ∑ x : Fin 64, r (ix2 p x) * s.t (ix3 0 x j) := by
  pointwise [far, k0_pay9]

theorem lane_apply (p : Fin 2048) (j : Fin 256) : lane (ix2 p j) = BitVec.ofNat 32 j.val := by
  pointwise [lane]

/-- The number that a row chooses: the first column of least distance. -/
def num (p : Fin 2048) : Fin 256 := first fun j => far s r (ix2 p j)

theorem best_apply (p : Fin 2048) : best s r (ix2 p 0) = BitVec.ofNat 32 (num s r p).val := by
  pointwise [best, k0_pay10]
  simp only [lane_apply, bits_inf]
  exact fold_lanes _

theorem hot_apply (p : Fin 2048) (k : Fin 256) : k0_pay11 lane (far s r) (ix2 p k) = if k = num s r p then 1#8 else 0#8 := by
  have hb : k0_pay10 lane (far s r) (ix2 p 0) = BitVec.ofNat 32 (num s r p).val := best_apply s r p
  pointwise [k0_pay11]
  rw [lane_apply, hb]
  by_cases h : k = num s r p
  · subst h; rw [if_pos rfl]; simp [IntOp.cmpi]
  · rw [if_neg h]
    have hk := k.isLt
    have hn := (num s r p).isLt
    have : ¬ BitVec.ofNat 32 k.val = BitVec.ofNat 32 (num s r p).val := fun e => h (Fin.ext (by
      have e := congrArg BitVec.toNat e
      rw [BitVec.toNat_ofNat, BitVec.toNat_ofNat] at e
      omega))
    simp only [IntOp.cmpi, beq_eq_false_iff_ne.mpr this]
    rfl

theorem word_apply (W : Fin 256 → Fin 64 → BitVec 32)
    (h0 : ∀ j e, s.p0 (ix3 0 j e) = byteOf 0 (W j e)) (h1 : ∀ j e, s.p1 (ix3 0 j e) = byteOf 1 (W j e))
    (h2 : ∀ j e, s.p2 (ix3 0 j e) = byteOf 2 (W j e)) (h3 : ∀ j e, s.p3 (ix3 0 j e) = byteOf 3 (W j e))
    (p : Fin 2048) (e : Fin 64) : word s r (ix2 p e) = W (num s r p) e := by
  have q (P : Vec Ideal S1x256x64 .i8) (k : Nat) (h : ∀ j e, P (ix3 0 j e) = byteOf k (W j e)) :
      matmulI8 IntMxuNumerics.v7x dot_S2048x256_S256x64_S2048x64_1_0_0_1_n_n (k0_pay11 lane (far s r))
        (shapeCast S256x64 P shapeCasts_S1x256x64_S256x64) (constantI S2048x64 32 0#32) (ix2 p e)
        = (byteOf k (W (num s r p) e)).signExtend 32 := by
    rw [pick_plane _ _ p e (num s r p) (hot_apply s r p), ← h]
    congr 1
    pointwise
  have b := bytes_word (W (num s r p) e)
  rw [← q s.p0 0 h0, ← q s.p1 1 h1, ← q s.p2 2 h2, ← q s.p3 3 h3] at b
  refine Eq.trans ?_ b
  rfl

theorem row_apply (p : Fin 2048) (e : Fin 64) : row s r (ix2 p e) = Ideal.ofBits .f32 (word s r (ix2 p e)) := by
  pointwise [row]

end Cert.KernelIdeal.Body
-- ==== Proof.RLevel.lean ====
/- One quantizer level of the reference, read entry by entry over the extended reals. -/
module

public import proofs.«01_k».proof.Proof.RefRun
public import proofs.«01_k».proof.Proof.Plain

@[expose] public section

set_option maxRecDepth 16384

noncomputable section

namespace Cert.ReferenceIdeal.Line

open Cert.ReferenceIdeal Cert.ReferenceIdeal.Gen Idealize.ShloMosaic Cert.Plain

theorem dist_apply (r : Vec Ideal S16384x64 .f32) (b : Vec Ideal S256x64 .f32) (p : Fin 16384) (j : Fin 256) :
    dist r b (ix2 p j) = ∑ x : Fin 64, r (ix2 p x) * r (ix2 p x) + ∑ x : Fin 64, b (ix2 j x) * b (ix2 j x)
      - Ideal.ofBits .f32 0x40000000#32 * ∑ x : Fin 64, r (ix2 p x) * b (ix2 j x) := by
  pointwise [dist]

/-- An arg-reduction by an operation that takes the lesser of two pairs, at a result index: the least pair there. -/
theorem argReduce_least {s t u : Shape} {axes : List (Fin s.rank)} (f : EReal × BitVec 32 → EReal × BitVec 32 → EReal × BitVec 32)
    (x : FVec Ideal s .f32) (y : s.Idx → BitVec 32) (ix : u.Idx → Ideal .f32) (iy : u.Idx → BitVec 32) (h : s.ReducesTo axes t)
    (hu : 0 < u.numel) (j : t.Idx) (m : EReal × BitVec 32)
    (hl : ∀ b, atMost m b → f m b = m) (hr : ∀ a, atMost m a → f a m = m) (hc : ∀ a b, f a b = a ∨ f a b = b)
    (hi : atMost m (ix (Shape.Idx.first hu), iy (Shape.Idx.first hu)))
    (hx : ∀ i, h.drop i = j → atMost m (x i, y i)) (hm : ∃ i, h.drop i = j ∧ (x i, y i) = m) :
    Host.argReduce (F := Ideal) (φ := .f32) f x y ix iy h hu j = m := by
  rw [Ideal.argReduce_eq_reduce2, Host.reduce2_eq_foldl_fiber]
  refine foldl_least f m hl hr hc _ _ hi (fun z hz => ?_) (Or.inr ?_)
  · simp only [Host.argReduceFiber, List.mem_map, List.mem_filter, decide_eq_true_eq] at hz
    obtain ⟨n, ⟨_, hn⟩, rfl⟩ := hz
    exact hx _ hn
  · obtain ⟨i, h1, h2⟩ := hm
    simp only [Host.argReduceFiber, List.mem_map, List.mem_filter, decide_eq_true_eq]
    exact ⟨s.rowMajor i, ⟨List.mem_finRange _, by simpa using h1⟩, by simpa using h2⟩

/-- The reference's operation on pairs takes the lesser pair. -/
theorem reducer_choice (a b : EReal × BitVec 32) : reducer_argmin_f32_i32 (F := Ideal) a b = if a.1 < b.1 ∨ (a.1 = b.1 ∧ a.2.slt b.2) then a else b := by
  obtain ⟨x, i⟩ := a
  obtain ⟨y, j⟩ := b
  simp only [reducer_argmin_f32_i32, Ideal.cmpf_def, Ideal.cmp, IntOp.cmpi, IntOp.ori, IntOp.andi, Scalar.select]
  rcases lt_trichotomy x y with h | h | h
  · simp [h, h.ne]
  · subst h
    by_cases g : i.slt j <;> simp [g]
  · simp [h, h.ne, h.ne', not_lt_of_gt h]

theorem reducer_left (m b : EReal × BitVec 32) (h : atMost m b) : reducer_argmin_f32_i32 (F := Ideal) m b = m := by
  rw [reducer_choice]
  split
  next => rfl
  next g =>
    rcases h with h | ⟨h1, h2⟩
    · exact absurd (Or.inl h) g
    · have : ¬ (m.2.slt b.2 = true) := fun c => g (Or.inr ⟨h1, c⟩)
      rw [BitVec.slt_iff_toInt_lt] at this
      exact Prod.ext h1.symm (BitVec.eq_of_toInt_eq (by omega))

theorem reducer_right (m a : EReal × BitVec 32) (h : atMost m a) : reducer_argmin_f32_i32 (F := Ideal) a m = m := by
  rw [reducer_choice]
  split
  next g =>
    rcases h with h | ⟨h1, h2⟩ <;> rcases g with g | ⟨g1, g2⟩
    · exact absurd (h.trans g) (lt_irrefl _)
    · exact absurd (g1 ▸ h) (lt_irrefl _)
    · exact absurd (h1 ▸ g) (lt_irrefl _)
    · rw [BitVec.slt_iff_toInt_lt] at g2; omega
  next => rfl

theorem reducer_or (a b : EReal × BitVec 32) : reducer_argmin_f32_i32 (F := Ideal) a b = a ∨ reducer_argmin_f32_i32 (F := Ideal) a b = b := by
  rw [reducer_choice]; split <;> simp

/-- The first component of a row of the distances that drops to a given row. -/
theorem drop_row (a p : Fin 16384) (j : Fin 256) (h : Shape.ReducesTo.drop reducesTo_S16384x256_S16384_d1 (ix2 a j) = ix1 p) : a = p := by
  apply Fin.ext
  have e := Shape.ReducesTo.drop_apply_val_of_eq reducesTo_S16384x256_S16384_d1 (ix2 a j) 0 0
  rw [h] at e
  exact e.symm

theorem row_drop (p : Fin 16384) (j : Fin 256) : Shape.ReducesTo.drop reducesTo_S16384x256_S16384_d1 (ix2 p j) = ix1 p := by
  funext c
  obtain rfl : c = 0 := Subsingleton.elim _ _
  apply Fin.ext
  exact Shape.ReducesTo.drop_apply_val_of_eq reducesTo_S16384x256_S16384_d1 (ix2 p j) 0 0

theorem lane_row (p : Fin 16384) (j : Fin 256) : iotaInDim S16384x256 32 1 (ix2 p j) = BitVec.ofNat 32 j.val := by
  pointwise

/-- The first least number, with its value, is at most the pair that the arg-reduction starts from. -/
theorem least_start (f : Fin 256 → EReal) :
    atMost (f (first f), BitVec.ofNat 32 (first f).val) (⊤, 0#32) := by
  rcases lt_or_eq_of_le (le_top : f (first f) ≤ ⊤) with h | h
  · exact Or.inl h
  · refine Or.inr ⟨h, ?_⟩
    have : first f ≤ 0 := first_first f 0 fun k => by
      have := first_le f k
      rw [h, top_le_iff] at this
      rw [this]; exact le_top
    have h0 : (first f).val = 0 := by
      have : (first f).val ≤ 0 := this
      omega
    show (BitVec.ofNat 32 (first f).val).toInt ≤ (0#32 : BitVec 32).toInt
    rw [h0]

/-- The first least number, with its value, is at most every number with its value. -/
theorem least_all (f : Fin 256 → EReal) (j : Fin 256) :
    atMost (f (first f), BitVec.ofNat 32 (first f).val) (f j, BitVec.ofNat 32 j.val) := by
  have hlt := (first f).isLt
  rcases lt_or_eq_of_le (first_le f j) with h | h
  · exact Or.inl h
  · refine Or.inr ⟨h, ?_⟩
    have hj := j.isLt
    show (BitVec.ofNat 32 (first f).val).toInt ≤ (BitVec.ofNat 32 j.val).toInt
    rw [toInt_small _ (by omega), toInt_small _ (by omega)]
    have : first f ≤ j := first_first f j fun k => h ▸ first_le f k
    exact_mod_cast this

/-- The second component of a family of pairs, at a point where the pair is known. -/
theorem second_at {J α β : Type} (g : J → α × β) (j : J) (v : α) (n : β) (h : g j = (v, n)) : second g j = n := by
  unfold second; rw [h]

theorem start_pair (i : S_.Idx) : ((constant (F := Ideal) S_ .f32 0x7F800000#32 i, constantI S_ 32 0#32 i) : EReal × BitVec 32) = (⊤, 0#32) := by
  rw [ValueIdx.constant_apply, bits_inf]
  rfl

/-- The pair that the arg-reduction leaves at a row. -/
theorem pair_apply (d : Vec Ideal S16384x256 .f32) (p : Fin 16384) :
    Host.argReduce (F := Ideal) (φ := .f32) reducer_argmin_f32_i32 d (iotaInDim S16384x256 32 1) (constant S_ .f32 0x7F800000#32) (constantI S_ 32 0#32)
      reducesTo_S16384x256_S16384_d1 h_S_ (ix1 p)
      = (d (ix2 p (first fun j => d (ix2 p j))), BitVec.ofNat 32 (first fun j => d (ix2 p j)).val) := by
  apply argReduce_least
  · exact reducer_left _
  · exact reducer_right _
  · exact reducer_or
  · rw [start_pair]
    exact least_start fun j => d (ix2 p j)
  · intro i hdrop
    obtain ⟨a, j, rfl⟩ : ∃ (a : Fin 16384) (j : Fin 256), i = ix2 a j := ⟨i 0, i 1, eq_ix2 i⟩
    obtain rfl := drop_row a p j hdrop
    rw [lane_row]
    exact least_all (fun j => d (ix2 a j)) j
  · exact ⟨ix2 p (first fun j => d (ix2 p j)), row_drop _ _, by rw [lane_row]⟩

/-- The index of a row's least distance is the first such. -/
theorem arg_apply (d : Vec Ideal S16384x256 .f32) (p : Fin 16384) :
    arg d (ix1 p) = BitVec.ofNat 32 (first fun j => d (ix2 p j)).val :=
  second_at _ (ix1 p) _ _ (pair_apply d p)

/-- A gather of whole rows, its start index within the operand. -/
theorem gather_row (b : Vec Ideal S256x64 .f32) (w : IVec S16384x1 32) (p : Fin 16384) (e : Fin 64) (j : Fin 256)
    (h : w (ix2 p 0) = BitVec.ofNat 32 j.val) :
    Host.gather gather_S256x64_S16384x1_S16384x64_1_0_n_n_0_1_164 b w (ix2 p e) = b (ix2 j e) := by
  unfold Host.gather
  congr 1
  funext a
  refine Fin.ext ?_
  show GatherDims.start _ (ix2 p e) w a + GatherDims.batchCoord _ (ix2 p e) a + GatherDims.offCoord _ (ix2 p e) a = _
  have hj := j.isLt
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S256x64_S16384x1_S16384x64_1_0_n_n_0_1_164.startIndexMap from List.mem_singleton.mpr rfl)]
    have hsi : GatherDims.siIdx gather_S256x64_S16384x1_S16384x64_1_0_n_n_0_1_164 (ix2 p e) ⟨List.idxOf (0 : Fin 2) gather_S256x64_S16384x1_S16384x64_1_0_n_n_0_1_164.startIndexMap,
        List.idxOf_lt_length_iff.2 (List.mem_singleton.mpr rfl)⟩ = ix2 p 0 := by
      funext c; refine Fin.ext ?_
      match c with
      | ⟨0, _⟩ => rfl
      | ⟨1, _⟩ => rfl
    rw [hsi, h, toInt_small _ (by omega), Int.toNat_natCast]
    show min j.val 255 + 0 + 0 = j.val
    omega
  · unfold GatherDims.start
    rw [dif_neg (show (1 : Fin 2) ∉ gather_S256x64_S16384x1_S16384x64_1_0_n_n_0_1_164.startIndexMap by decide)]
    unfold GatherDims.offCoord
    rw [dif_pos (show (1 : Fin 2) ∈ gather_S256x64_S16384x1_S16384x64_1_0_n_n_0_1_164.sKept by decide)]
    show 0 + 0 + e.val = e.val
    omega

/-- A row of the codebook at an index within it. -/
theorem take_apply (b : Vec Ideal S256x64 .f32) (i : Vec Ideal S16384 .i32) (p : Fin 16384) (e : Fin 64) (j : Fin 256)
    (h : i (ix1 p) = BitVec.ofNat 32 j.val) : take b i (ix2 p e) = b (ix2 j e) := by
  have hj := j.isLt
  have hi : (BitVec.ofNat 32 j.val).toInt = j.val := toInt_small _ (by omega)
  have hw : wrap (F := Ideal) i (ix2 p 0) = BitVec.ofNat 32 j.val := by
    pointwise [wrap]
    rw [h]
    have : IntOp.cmpi CmpIPredicate.slt (BitVec.ofNat 32 j.val) 0#32 = 0#1 := by
      have : (BitVec.ofNat 32 j.val).slt 0#32 = false := by
        rw [Bool.eq_false_iff, Ne, BitVec.slt_iff_toInt_lt, hi]
        simp
      simp [IntOp.cmpi, this]
    rw [this]
    simp [Scalar.select]
  have hin : inside (F := Ideal) (wrap (F := Ideal) i) (ix1 p) = 1#1 := by
    pointwise [inside]
    have e1 : IntOp.cmpi CmpIPredicate.sge (BitVec.ofNat 32 j.val) 0#32 = 1#1 := by
      have : (0#32 : BitVec 32).sle (BitVec.ofNat 32 j.val) = true := by
        rw [BitVec.sle_iff_toInt_le, hi]; simp
      simp [IntOp.cmpi, this]
    have e2 : IntOp.cmpi CmpIPredicate.sle (BitVec.ofNat 32 j.val) 255#32 = 1#1 := by
      have : (BitVec.ofNat 32 j.val).sle 255#32 = true := by
        rw [BitVec.sle_iff_toInt_le, hi, show (255#32 : BitVec 32).toInt = 255 by decide]; omega
      simp [IntOp.cmpi, this]
    rw [show (Finset.univ : Finset (Fin 1)) = {0} from rfl, Finset.fold_singleton, hw, e1, e2]
    rfl
  pointwise [take]
  rw [hin, gather_row b _ p e j hw]
  rfl

end Cert.ReferenceIdeal.Line
-- ==== Proof.Level.lean ====
/- One quantizer level: what the kernel does to a block of rows is what the reference does to those rows. -/
module

public import proofs.«01_k».proof.Proof.KLevel
public import proofs.«01_k».proof.Proof.RLevel

@[expose] public section

set_option maxRecDepth 16384

noncomputable section

namespace Cert.Equal

open Cert.KernelIdeal Cert.KernelIdeal.Gen Idealize.ShloMosaic Cert.Plain
open Cert.KernelIdeal.Body (Slab far best num word row nx err add)
open Cert.ReferenceIdeal.Line (dist pick rows step rest cost)

/-- A block of rows is block `t` of an array. -/
def Cut {n : Nat} (t : Fin 8) (x : FVec Ideal ⟨2, ![2048, n]⟩ .f32) (X : FVec Ideal ⟨2, ![16384, n]⟩ .f32) : Prop :=
  ∀ p j, x (ix2 p j) = X (ix2 (rowOf t p) j)

/-- Every entry of a two-axis array is a real number. -/
def Fins {a n : Nat} (X : FVec Ideal ⟨2, ![a, n]⟩ .f32) : Prop := ∀ i j, Fin? (X (ix2 i j))

/-- A level's kernel operands are those made from the words `W` of a codebook. -/
structure Made (s : Slab Ideal) (W : Fin 256 → Fin 64 → BitVec 32) : Prop where
  t : ∀ e j, s.t (ix3 0 e j) = ((-2 : ℝ) : EReal) * Ideal.ofBits .f32 (W j e)
  sq : ∀ j, s.sq (ix3 0 0 j) = ∑ e : Fin 64, Ideal.ofBits .f32 (W j e) * Ideal.ofBits .f32 (W j e)
  p0 : ∀ j e, s.p0 (ix3 0 j e) = byteOf 0 (W j e)
  p1 : ∀ j e, s.p1 (ix3 0 j e) = byteOf 1 (W j e)
  p2 : ∀ j e, s.p2 (ix3 0 j e) = byteOf 2 (W j e)
  p3 : ∀ j e, s.p3 (ix3 0 j e) = byteOf 3 (W j e)

/-- The reference's codebook holds the numbers that the words `W` denote, every one of them real. -/
structure Holds (b : Vec Ideal S256x64 .f32) (W : Fin 256 → Fin 64 → BitVec 32) : Prop where
  eq : ∀ j e, b (ix2 j e) = Ideal.ofBits .f32 (W j e)
  fin : ∀ j e, Fin? (Ideal.ofBits .f32 (W j e))

variable {t : Fin 8} {s : Slab Ideal} {W : Fin 256 → Fin 64 → BitVec 32} {b : Vec Ideal S256x64 .f32}
  {x : Vec Ideal S2048x64 .f32} {X : Vec Ideal Cert.ReferenceIdeal.S16384x64 .f32}

/-- The distances agree. -/
theorem far_eq (hs : Made s W) (hb : Holds b W) (hx : Cut t x X) (hX : Fins X) (p : Fin 2048) (j : Fin 256) :
    far s x (ix2 p j) = dist X b (ix2 (rowOf t p) j) := by
  rw [Cert.KernelIdeal.Body.far_apply, Cert.ReferenceIdeal.Line.dist_apply, bits_two]
  have hx' : ∀ p e, x (ix2 p e) = X (ix2 (rowOf t p) e) := hx
  simp only [hs.t, hs.sq, hb.eq, hx']
  exact dist_eq _ _ _ (fun e => hX _ e) (fun e => hb.fin j e)
    ((Fin?.sum _ _ fun e => (hX _ e).mul (hX _ e)).add (Fin?.sum _ _ fun e => (hb.fin j e).mul (hb.fin j e)))

theorem pick_apply (i : Fin 16384) : pick b X (ix1 i) = BitVec.ofNat 32 (first fun j => dist X b (ix2 i j)).val :=
  Cert.ReferenceIdeal.Line.arg_apply _ i

theorem rows_apply (i : Fin 16384) (e : Fin 64) : rows b X (ix2 i e) = b (ix2 (first fun j => dist X b (ix2 i j)) e) :=
  Cert.ReferenceIdeal.Line.take_apply b _ i e _ (pick_apply i)

theorem num_eq (hs : Made s W) (hb : Holds b W) (hx : Cut t x X) (hX : Fins X) (p : Fin 2048) :
    num s x p = first fun j => dist X b (ix2 (rowOf t p) j) :=
  congrArg first (funext fun j => far_eq hs hb hx hX p j)

/-- The chosen numbers agree. -/
theorem best_eq (hs : Made s W) (hb : Holds b W) (hx : Cut t x X) (hX : Fins X) (p : Fin 2048) :
    best s x (ix2 p 0) = pick b X (ix1 (rowOf t p)) := by
  rw [Cert.KernelIdeal.Body.best_apply, pick_apply, num_eq hs hb hx hX]

/-- The chosen rows agree. -/
theorem row_cut (hs : Made s W) (hb : Holds b W) (hx : Cut t x X) (hX : Fins X) : Cut t (row s x) (rows b X) := by
  intro p e
  rw [Cert.KernelIdeal.Body.row_apply, Cert.KernelIdeal.Body.word_apply s x W hs.p0 hs.p1 hs.p2 hs.p3, rows_apply, hb.eq,
    num_eq hs hb hx hX]

theorem rows_fin (hb : Holds b W) : Fins (rows b X) := fun i e => by
  rw [rows_apply, hb.eq]; exact hb.fin _ _

/-- The straight-through sum is the chosen row itself. -/
theorem step_apply (hb : Holds b W) (hX : Fins X) (i : Fin 16384) (e : Fin 64) : step b X (ix2 i e) = rows b X (ix2 i e) := by
  show X (ix2 i e) + (rows b X (ix2 i e) - X (ix2 i e)) = _
  exact add_sub_self (hX i e) (rows_fin hb i e)

theorem rest_apply (hb : Holds b W) (hX : Fins X) (i : Fin 16384) (e : Fin 64) : rest b X (ix2 i e) = X (ix2 i e) - rows b X (ix2 i e) := by
  show X (ix2 i e) - step b X (ix2 i e) = _
  rw [step_apply hb hX]

theorem rest_fin (hb : Holds b W) (hX : Fins X) : Fins (rest b X) := fun i e => by
  rw [rest_apply hb hX]; exact (hX i e).sub (rows_fin hb i e)

/-- The residuals left agree. -/
theorem nx_cut (hs : Made s W) (hb : Holds b W) (hx : Cut t x X) (hX : Fins X) : Cut t (nx s x) (rest b X) := by
  intro p e
  rw [rest_apply hb hX, ← row_cut hs hb hx hX p e, ← hx p e]
  rfl

/-- The running sums agree. -/
theorem add_cut (hs : Made s W) (hb : Holds b W) (hx : Cut t x X) (hX : Fins X) {a : Vec Ideal S2048x64 .f32}
    {A : Vec Ideal Cert.ReferenceIdeal.S16384x64 .f32} (ha : Cut t a A) : Cut t (add s x a) (addf A (step b X)) := by
  intro p e
  show a (ix2 p e) + row s x (ix2 p e) = A (ix2 _ e) + step b X (ix2 _ e)
  rw [ha p e, row_cut hs hb hx hX p e, step_apply hb hX]

end Cert.Equal
-- ==== Proof.Host.lean ====
/- What the host hands to the kernel: the codebook operands as functions of the codebook words. -/
module

public import proofs.«01_k».proof.Proof.KFrame
public import proofs.«01_k».proof.Proof.Level

@[expose] public section

set_option maxRecDepth 16384

noncomputable section

namespace Cert.Equal

open Cert.KernelIdeal Cert.KernelIdeal.Gen Idealize.ShloMosaic Idealize.ShloMosaic.StableHlo Cert.Plain

variable {F : FTy → Type} [FloatOps F]

/-- Minus twice the transposed codebooks. -/
def hostT (w : Vec F S4x256x64 .i32) : Vec F S4x64x256 .f32 :=
  mulf (broadcastInDim S4x64x256 ![] bcast_S_S4x64x256 (constant S_ .f32 0xC0000000#32))
    (transpose S4x64x256 [0, 2, 1] (bitcastToFloat .f32 w) transposes_S4x256x64_S4x64x256_0_2_1)

/-- The squared norms of the codebook entries. -/
def hostSq (w : Vec F S4x256x64 .i32) : Vec F S4x1x256 .f32 :=
  broadcastInDim S4x1x256 ![0, 2] bcast_S4x256_S4x1x256_0_2
    (Host.reduceAdd (mulf (bitcastToFloat .f32 w) (bitcastToFloat (F := F) .f32 w)) (constant S_ .f32 0x00000000#32) reducesTo_S4x256x64_S4x256_d2 h_S_)

/-- The lowest byte of the codebook words. -/
def hostP0 (w : Vec F S4x256x64 .i32) : Vec F S4x256x64 .i8 :=
  trunci 8 (andi w (broadcastInDim S4x256x64 ![] bcast_S_S4x256x64 (constantI S_ 32 255#32))) natLt_8_32

/-- A higher byte of the codebook words. -/
def hostP (n : BitVec 32) (w : Vec F S4x256x64 .i32) : Vec F S4x256x64 .i8 :=
  trunci 8 (andi (Host.shrui w (broadcastInDim S4x256x64 ![] bcast_S_S4x256x64 (constantI S_ 32 n)))
    (broadcastInDim S4x256x64 ![] bcast_S_S4x256x64 (constantI S_ 32 255#32))) natLt_8_32

variable (m : (ℓ : Loc nD τ sig) → Buf (Elt F) ℓ) (c : Dev nD)

set_option maxHeartbeats 1000000 in
theorem V_t : V m c main_v3 = hostT (m (c, Proc.devRef .tc main_arg9)) := by
  unfold V hostOps0
  after_results_simp
  all_goals rfl

set_option maxHeartbeats 1000000 in
theorem V_sq : V m c main_v6 = hostSq (m (c, Proc.devRef .tc main_arg9)) := by
  unfold V hostOps0
  after_results_simp
  all_goals rfl

set_option maxHeartbeats 1000000 in
theorem V_p0 : V m c main_v9 = hostP0 (F := F) (m (c, Proc.devRef .tc main_arg9)) := by
  unfold V hostOps0
  after_results_simp
  all_goals rfl

set_option maxHeartbeats 1000000 in
theorem V_p1 : V m c main_v14 = hostP (F := F) 8#32 (m (c, Proc.devRef .tc main_arg9)) := by
  unfold V hostOps0
  after_results_simp
  all_goals rfl

set_option maxHeartbeats 1000000 in
theorem V_p2 : V m c main_v19 = hostP (F := F) 16#32 (m (c, Proc.devRef .tc main_arg9)) := by
  unfold V hostOps0
  after_results_simp
  all_goals rfl

set_option maxHeartbeats 1000000 in
theorem V_p3 : V m c main_v24 = hostP (F := F) 24#32 (m (c, Proc.devRef .tc main_arg9)) := by
  unfold V hostOps0
  after_results_simp
  all_goals rfl

end Cert.Equal
-- ==== Proof.Blocks.lean ====
/- What the grid points read: a block of the input's rows, whole weights, and the codebook operands, all as functions of
   the arguments. -/
module

public import proofs.«01_k».proof.Proof.Host
public import Idealize.ShloMosaic.Lib.Pipeline.ValueKit.Point

@[expose] public section

set_option maxRecDepth 16384

noncomputable section

namespace Cert.Equal

open Cert.KernelIdeal Cert.KernelIdeal.Gen Idealize.ShloMosaic Cert.Plain
open Cert.KernelIdeal.Body (Books Slab slab0 slab1 slab2 slab3 bk zb outB enc dec acc)

section
variable {F : FTy → Type} [FloatOps F]
variable (m : (ℓ : Loc nD τ sig) → Buf (Elt F) ℓ) (c : Dev nD) (t : Fin cfg0.N)

theorem index0 : ∀ t : Fin grid0.N, win0_0.index t 0 = t.val ∧ win0_0.index t 1 = 0 := by decide +kernel

/-- Block `t` of the input holds its rows `2048 t` to `2048 t + 2047`. -/
theorem blk0 (t : Fin 8) (p : Fin 2048) (j : Fin 768) :
    iblk m c 0 t (ix2 p j) = m (c, Proc.devRef .tc main_arg0) (ix2 (rowOf t p) j) := by
  refine Eq.trans (b := V m c main_arg0 (ix2 (rowOf t p) j)) ?_ (congrFun (V_main_arg0 m c) _)
  blk_ext [iblk, (index0 t).1, (index0 t).2, rowOf]

theorem at1 : ∀ (t : Fin grid0.N) a, win0_1.index t a = 0 := by decide +kernel
theorem blk1 : iblk m c 1 t = m (c, Proc.devRef .tc main_arg1) :=
  Eq.trans (b := V m c main_arg1) (by blk_ext! [iblk, at1 t]) (V_main_arg1 m c)
theorem at2 : ∀ (t : Fin grid0.N) a, win0_2.index t a = 0 := by decide +kernel
theorem blk2 : iblk m c 2 t = m (c, Proc.devRef .tc main_arg2) :=
  Eq.trans (b := V m c main_arg2) (by blk_ext! [iblk, at2 t]) (V_main_arg2 m c)
theorem at3 : ∀ (t : Fin grid0.N) a, win0_3.index t a = 0 := by decide +kernel
theorem blk3 : iblk m c 3 t = m (c, Proc.devRef .tc main_arg3) :=
  Eq.trans (b := V m c main_arg3) (by blk_ext! [iblk, at3 t]) (V_main_arg3 m c)
theorem at4 : ∀ (t : Fin grid0.N) a, win0_4.index t a = 0 := by decide +kernel
theorem blk4 : iblk m c 4 t = m (c, Proc.devRef .tc main_arg4) :=
  Eq.trans (b := V m c main_arg4) (by blk_ext! [iblk, at4 t]) (V_main_arg4 m c)
theorem at5 : ∀ (t : Fin grid0.N) a, win0_5.index t a = 0 := by decide +kernel
theorem blk5 : iblk m c 5 t = m (c, Proc.devRef .tc main_arg5) :=
  Eq.trans (b := V m c main_arg5) (by blk_ext! [iblk, at5 t]) (V_main_arg5 m c)
theorem at6 : ∀ (t : Fin grid0.N) a, win0_6.index t a = 0 := by decide +kernel
theorem blk6 : iblk m c 6 t = m (c, Proc.devRef .tc main_arg6) :=
  Eq.trans (b := V m c main_arg6) (by blk_ext! [iblk, at6 t]) (V_main_arg6 m c)
theorem at7 : ∀ (t : Fin grid0.N) a, win0_7.index t a = 0 := by decide +kernel
theorem blk7 : iblk m c 7 t = m (c, Proc.devRef .tc main_arg7) :=
  Eq.trans (b := V m c main_arg7) (by blk_ext! [iblk, at7 t]) (V_main_arg7 m c)
theorem at8 : ∀ (t : Fin grid0.N) a, win0_8.index t a = 0 := by decide +kernel
theorem blk8 : iblk m c 8 t = m (c, Proc.devRef .tc main_arg8) :=
  Eq.trans (b := V m c main_arg8) (by blk_ext! [iblk, at8 t]) (V_main_arg8 m c)
theorem at15 : ∀ (t : Fin grid0.N) a, win0_15.index t a = 0 := by decide +kernel
theorem blk15 : iblk m c 15 t = m (c, Proc.devRef .tc main_arg10) :=
  Eq.trans (b := V m c main_arg10) (by blk_ext! [iblk, at15 t]) (V_main_arg10 m c)
theorem at16 : ∀ (t : Fin grid0.N) a, win0_16.index t a = 0 := by decide +kernel
theorem blk16 : iblk m c 16 t = m (c, Proc.devRef .tc main_arg11) :=
  Eq.trans (b := V m c main_arg11) (by blk_ext! [iblk, at16 t]) (V_main_arg11 m c)
theorem at17 : ∀ (t : Fin grid0.N) a, win0_17.index t a = 0 := by decide +kernel
theorem blk17 : iblk m c 17 t = m (c, Proc.devRef .tc main_arg12) :=
  Eq.trans (b := V m c main_arg12) (by blk_ext! [iblk, at17 t]) (V_main_arg12 m c)
theorem at18 : ∀ (t : Fin grid0.N) a, win0_18.index t a = 0 := by decide +kernel
theorem blk18 : iblk m c 18 t = m (c, Proc.devRef .tc main_arg13) :=
  Eq.trans (b := V m c main_arg13) (by blk_ext! [iblk, at18 t]) (V_main_arg13 m c)
theorem at19 : ∀ (t : Fin grid0.N) a, win0_19.index t a = 0 := by decide +kernel
theorem blk19 : iblk m c 19 t = m (c, Proc.devRef .tc main_arg14) :=
  Eq.trans (b := V m c main_arg14) (by blk_ext! [iblk, at19 t]) (V_main_arg14 m c)
theorem at20 : ∀ (t : Fin grid0.N) a, win0_20.index t a = 0 := by decide +kernel
theorem blk20 : iblk m c 20 t = m (c, Proc.devRef .tc main_arg15) :=
  Eq.trans (b := V m c main_arg15) (by blk_ext! [iblk, at20 t]) (V_main_arg15 m c)
theorem at21 : ∀ (t : Fin grid0.N) a, win0_21.index t a = 0 := by decide +kernel
theorem blk21 : iblk m c 21 t = m (c, Proc.devRef .tc main_arg16) :=
  Eq.trans (b := V m c main_arg16) (by blk_ext! [iblk, at21 t]) (V_main_arg16 m c)
theorem at22 : ∀ (t : Fin grid0.N) a, win0_22.index t a = 0 := by decide +kernel
theorem blk22 : iblk m c 22 t = m (c, Proc.devRef .tc main_arg17) :=
  Eq.trans (b := V m c main_arg17) (by blk_ext! [iblk, at22 t]) (V_main_arg17 m c)
theorem at9 : ∀ (t : Fin grid0.N) a, win0_9.index t a = 0 := by decide +kernel
theorem blk9 : iblk m c 9 t = hostT (m (c, Proc.devRef .tc main_arg9)) :=
  Eq.trans (b := V m c main_v3) (by blk_ext! [iblk, at9 t]) (V_t m c)
theorem at10 : ∀ (t : Fin grid0.N) a, win0_10.index t a = 0 := by decide +kernel
theorem blk10 : iblk m c 10 t = hostP0 (F := F) (m (c, Proc.devRef .tc main_arg9)) :=
  Eq.trans (b := V m c main_v9) (by blk_ext! [iblk, at10 t]) (V_p0 m c)
theorem at11 : ∀ (t : Fin grid0.N) a, win0_11.index t a = 0 := by decide +kernel
theorem blk11 : iblk m c 11 t = hostP (F := F) 8#32 (m (c, Proc.devRef .tc main_arg9)) :=
  Eq.trans (b := V m c main_v14) (by blk_ext! [iblk, at11 t]) (V_p1 m c)
theorem at12 : ∀ (t : Fin grid0.N) a, win0_12.index t a = 0 := by decide +kernel
theorem blk12 : iblk m c 12 t = hostP (F := F) 16#32 (m (c, Proc.devRef .tc main_arg9)) :=
  Eq.trans (b := V m c main_v19) (by blk_ext! [iblk, at12 t]) (V_p2 m c)
theorem at13 : ∀ (t : Fin grid0.N) a, win0_13.index t a = 0 := by decide +kernel
theorem blk13 : iblk m c 13 t = hostP (F := F) 24#32 (m (c, Proc.devRef .tc main_arg9)) :=
  Eq.trans (b := V m c main_v24) (by blk_ext! [iblk, at13 t]) (V_p3 m c)
theorem at14 : ∀ (t : Fin grid0.N) a, win0_14.index t a = 0 := by decide +kernel
theorem blk14 : iblk m c 14 t = hostSq (m (c, Proc.devRef .tc main_arg9)) :=
  Eq.trans (b := V m c main_v6) (by blk_ext! [iblk, at14 t]) (V_sq m c)

/-- The codebook operands made from the codebook words. -/
def books (w : Vec F S4x256x64 .i32) : Books F := ⟨hostT w, hostP0 (F := F) w, hostP (F := F) 8#32 w, hostP (F := F) 16#32 w, hostP (F := F) 24#32 w, hostSq w⟩

/-- Every point reads the same codebook operands. -/
theorem bk_eq : bk m c t = books (m (c, Proc.devRef .tc main_arg9)) := by
  unfold bk books
  rw [blk9, blk10, blk11, blk12, blk13, blk14]
end

/-! The codebook operands, entry by entry -/

variable (w : Vec Ideal S4x256x64 .i32)

theorem hostT_apply (l : Fin 4) (e : Fin 64) (j : Fin 256) :
    hostT w (ix3 l e j) = ((-2 : ℝ) : EReal) * Ideal.ofBits .f32 (w (ix3 l j e)) := by
  pointwise [hostT]
  rw [bits_neg_two]

theorem hostSq_apply (l : Fin 4) (j : Fin 256) :
    hostSq w (ix3 l 0 j) = ∑ e : Fin 64, Ideal.ofBits .f32 (w (ix3 l j e)) * Ideal.ofBits .f32 (w (ix3 l j e)) := by
  pointwise [hostSq]

theorem hostP0_apply (l : Fin 4) (j : Fin 256) (e : Fin 64) : hostP0 (F := Ideal) w (ix3 l j e) = byteOf 0 (w (ix3 l j e)) := by
  pointwise [hostP0]
  simp [byteOf, IntOp.andi]

theorem hostP_apply (k : Nat) (hk : k < 4) (l : Fin 4) (j : Fin 256) (e : Fin 64) :
    hostP (F := Ideal) (BitVec.ofNat 32 (8 * k)) w (ix3 l j e) = byteOf k (w (ix3 l j e)) := by
  pointwise [hostP]
  interval_cases k <;> simp [byteOf, IntOp.andi, IntOp.shrui]

/-- The words of level `l`'s codebook. -/
def words (l : Fin 4) (j : Fin 256) (e : Fin 64) : BitVec 32 := w (ix3 l j e)

/-- A level whose operands are read from the host's at level `l` has the operands made from that level's words. -/
theorem made_of (l : Fin 4) (s : Slab Ideal) (ht : ∀ e j, s.t (ix3 0 e j) = (books w).t (ix3 l e j))
    (hsq : ∀ j, s.sq (ix3 0 0 j) = (books w).sq (ix3 l 0 j)) (h0 : ∀ j e, s.p0 (ix3 0 j e) = (books w).p0 (ix3 l j e))
    (h1 : ∀ j e, s.p1 (ix3 0 j e) = (books w).p1 (ix3 l j e)) (h2 : ∀ j e, s.p2 (ix3 0 j e) = (books w).p2 (ix3 l j e))
    (h3 : ∀ j e, s.p3 (ix3 0 j e) = (books w).p3 (ix3 l j e)) : Made s (words w l) where
  t e j := (ht e j).trans (hostT_apply w l e j)
  sq j := (hsq j).trans (hostSq_apply w l j)
  p0 j e := (h0 j e).trans (hostP0_apply w l j e)
  p1 j e := (h1 j e).trans (hostP_apply w 1 (by omega) l j e)
  p2 j e := (h2 j e).trans (hostP_apply w 2 (by omega) l j e)
  p3 j e := (h3 j e).trans (hostP_apply w 3 (by omega) l j e)

theorem made0 : Made (slab0 (books w)) (words w 0) := by
  refine made_of w 0 _ ?_ ?_ ?_ ?_ ?_ ?_ <;> intros <;> generalize books w = K <;> pointwise [slab0]
theorem made1 : Made (slab1 (books w)) (words w 1) := by
  refine made_of w 1 _ ?_ ?_ ?_ ?_ ?_ ?_ <;> intros <;> generalize books w = K <;> pointwise [slab1]
theorem made2 : Made (slab2 (books w)) (words w 2) := by
  refine made_of w 2 _ ?_ ?_ ?_ ?_ ?_ ?_ <;> intros <;> generalize books w = K <;> pointwise [slab2]
theorem made3 : Made (slab3 (books w)) (words w 3) := by
  refine made_of w 3 _ ?_ ?_ ?_ ?_ ?_ ?_ <;> intros <;> generalize books w = K <;> pointwise [slab3]

/-- The reference's level `l` codebook holds the same words. -/
theorem holds0 (h : ∀ i, Fin? (bitcastToFloat (F := Ideal) .f32 w i)) : Holds (Cert.ReferenceIdeal.Line.book0 (Cert.ReferenceIdeal.Line.codes w)) (words w 0) :=
  ⟨fun j e => by pointwise [Cert.ReferenceIdeal.Line.book0, Cert.ReferenceIdeal.Line.codes, words], fun j e => h (ix3 0 j e)⟩
theorem holds1 (h : ∀ i, Fin? (bitcastToFloat (F := Ideal) .f32 w i)) : Holds (Cert.ReferenceIdeal.Line.book1 (Cert.ReferenceIdeal.Line.codes w)) (words w 1) :=
  ⟨fun j e => by pointwise [Cert.ReferenceIdeal.Line.book1, Cert.ReferenceIdeal.Line.codes, words], fun j e => h (ix3 1 j e)⟩
theorem holds2 (h : ∀ i, Fin? (bitcastToFloat (F := Ideal) .f32 w i)) : Holds (Cert.ReferenceIdeal.Line.book2 (Cert.ReferenceIdeal.Line.codes w)) (words w 2) :=
  ⟨fun j e => by pointwise [Cert.ReferenceIdeal.Line.book2, Cert.ReferenceIdeal.Line.codes, words], fun j e => h (ix3 2 j e)⟩
theorem holds3 (h : ∀ i, Fin? (bitcastToFloat (F := Ideal) .f32 w i)) : Holds (Cert.ReferenceIdeal.Line.book3 (Cert.ReferenceIdeal.Line.codes w)) (words w 3) :=
  ⟨fun j e => by pointwise [Cert.ReferenceIdeal.Line.book3, Cert.ReferenceIdeal.Line.codes, words], fun j e => h (ix3 3 j e)⟩

end Cert.Equal
-- ==== Proof.Results.lean ====
/- The three result arrays of the kernel, entry by entry, from what the grid points leave in their blocks. -/
module

public import proofs.«01_k».proof.Proof.Blocks

@[expose] public section

set_option maxRecDepth 16384

noncomputable section

namespace Cert.Equal

open Cert.KernelIdeal Cert.KernelIdeal.Gen Idealize.ShloMosaic Cert.Plain
open Cert.KernelIdeal.Body (dats outB colB lossB after0_23 after0_24 after0_25)

variable {F : FTy → Type} [FloatOps F]
variable (m : (ℓ : Loc nD τ sig) → Buf (Elt F) ℓ) (c : Dev nD)

theorem index23 : ∀ t : Fin grid0.N, win0_23.index t 0 = t.val ∧ win0_23.index t 1 = 0 := by decide +kernel
theorem index24 : ∀ t : Fin grid0.N, win0_24.index t 0 = t.val ∧ win0_24.index t 1 = 0 := by decide +kernel
theorem index25 : ∀ (t : Fin grid0.N) a, win0_25.index t a = 0 := by decide +kernel
theorem flush23 : ∀ t : Fin grid0.N, win0_23.flush t = true := by decide +kernel
theorem flush24 : ∀ t : Fin grid0.N, win0_24.flush t = true := by decide +kernel
theorem flush25 : ∀ t : Fin grid0.N, win0_25.flush t = true ↔ t.val = 7 := by decide +kernel

theorem apart23 (t t' : Fin cfg0.N) (_ : (cfg0.win 23).flush t = true) (_ : (cfg0.win 23).flush t' = true) (h : t ≠ t') :
    Disjoint ((cfg0.win 23).blk t).view.set ((cfg0.win 23).blk t').view.set :=
  (cfg0.win 23).disjoint_blk fun e => h (Fin.ext (((index23 t).1.symm.trans (congrFun e 0)).trans (index23 t').1))

theorem apart24 (t t' : Fin cfg0.N) (_ : (cfg0.win 24).flush t = true) (_ : (cfg0.win 24).flush t' = true) (h : t ≠ t') :
    Disjoint ((cfg0.win 24).blk t).view.set ((cfg0.win 24).blk t').view.set :=
  (cfg0.win 24).disjoint_blk fun e => h (Fin.ext (((index24 t).1.symm.trans (congrFun e 0)).trans (index24 t').1))

theorem apart25 (t t' : Fin cfg0.N) (f : (cfg0.win 25).flush t = true) (f' : (cfg0.win 25).flush t' = true) (h : t ≠ t') :
    Disjoint ((cfg0.win 25).blk t).view.set ((cfg0.win 25).blk t').view.set :=
  absurd (Fin.ext (((flush25 t).1 f).trans ((flush25 t').1 f').symm)) h

/-- The decoder's output: row `2048 t + p` is row `p` of what point `t` leaves. -/
theorem arr23 (t : Fin 8) (p : Fin 2048) (j : Fin 768) :
    (dats m 0 c).arrAt 23 cfg0.N (ix2 (rowOf t p) j) = outB m c t (ix2 p j) := by
  have h := congrFun ((dats m 0 c).read_blk_arrAt_eq_flushed 23 apart23 cfg0.N t t.isLt (flush23 t)) (ix2 p j)
  have e : ((cfg0.win 23).blk t).view.read (Elt F) ((dats m 0 c).arrAt 23 cfg0.N) (ix2 p j)
      = (dats m 0 c).arrAt 23 cfg0.N (ix2 (rowOf t p) j) := by
    generalize (dats m 0 c).arrAt 23 cfg0.N = A
    blk_ext [(index23 t).1, (index23 t).2, rowOf]
  refine e.symm.trans (h.trans ?_)
  exact congrFun (after0_23 m c t) (ix2 p j)

/-- The chosen numbers: row `2048 t + p` is row `p` of what point `t` leaves. -/
theorem arr24 (t : Fin 8) (p : Fin 2048) (j : Fin 4) :
    (dats m 0 c).arrAt 24 cfg0.N (ix2 (rowOf t p) j) = colB m c t (ix2 p j) := by
  have h := congrFun ((dats m 0 c).read_blk_arrAt_eq_flushed 24 apart24 cfg0.N t t.isLt (flush24 t)) (ix2 p j)
  have e : ((cfg0.win 24).blk t).view.read (Elt F) ((dats m 0 c).arrAt 24 cfg0.N) (ix2 p j)
      = (dats m 0 c).arrAt 24 cfg0.N (ix2 (rowOf t p) j) := by
    generalize (dats m 0 c).arrAt 24 cfg0.N = A
    blk_ext [(index24 t).1, (index24 t).2, rowOf]
  refine e.symm.trans (h.trans ?_)
  exact congrFun (after0_24 m c t) (ix2 p j)

/-- The loss: what the last point leaves. -/
theorem arr25 : (dats m 0 c).arrAt 25 cfg0.N (ix2 0 0) = lossB m c 7 (by decide) (ix2 0 0) := by
  have h := congrFun ((dats m 0 c).read_blk_arrAt_eq_flushed 25 apart25 cfg0.N (7 : Fin 8) (by decide) ((flush25 (7 : Fin 8)).2 rfl)) (ix2 0 0)
  have e : ((cfg0.win 25).blk (7 : Fin 8)).view.read (Elt F) ((dats m 0 c).arrAt 25 cfg0.N) (ix2 0 0)
      = (dats m 0 c).arrAt 25 cfg0.N (ix2 0 0) := by
    generalize (dats m 0 c).arrAt 25 cfg0.N = A
    blk_ext [index25 (7 : Fin 8)]
  refine e.symm.trans (h.trans ?_)
  exact congrFun (after0_25 m c (7 : Fin 8)) (ix2 0 0)

end Cert.Equal
-- ==== Proof.Mlp.lean ====
/- The encoder and the decoder: a block of rows through the kernel's layers is those rows through the reference's. -/
module

public import proofs.«01_k».proof.Proof.Level

@[expose] public section

set_option maxRecDepth 16384

noncomputable section

namespace Cert.Equal

open Cert.KernelIdeal Cert.KernelIdeal.Gen Idealize.ShloMosaic Cert.Plain
open Cert.ReferenceIdeal.Line (e1 e2 e3 e4 d1 d2 d3 d4)

variable {t : Fin 8}

theorem e1_cut {x : Vec Ideal S2048x768 .f32} {X : Vec Ideal Cert.ReferenceIdeal.S16384x768 .f32} (h : Cut t x X) (W b) :
    Cut t (k0_pay1 x W b) (e1 X W b) := fun p j => by
  have h' : ∀ p j, x (ix2 p j) = X (ix2 (rowOf t p) j) := h
  pointwise [k0_pay1, e1]
  simp only [h']

theorem e2_cut {x : Vec Ideal S2048x512 .f32} {X : Vec Ideal Cert.ReferenceIdeal.S16384x512 .f32} (h : Cut t x X) (W b) :
    Cut t (k0_pay2 x W b) (e2 X W b) := fun p j => by
  have h' : ∀ p j, x (ix2 p j) = X (ix2 (rowOf t p) j) := h
  pointwise [k0_pay2, e2]
  simp only [h']

theorem e3_cut {x : Vec Ideal S2048x256 .f32} {X : Vec Ideal Cert.ReferenceIdeal.S16384x256 .f32} (h : Cut t x X) (W b) :
    Cut t (k0_pay5 (k0_pay3 x W b) k0_pay4) (e3 X W b) := fun p j => by
  have h' : ∀ p j, x (ix2 p j) = X (ix2 (rowOf t p) j) := h
  pointwise [k0_pay5, k0_pay4, k0_pay3, e3]
  simp only [h']

theorem e4_cut {x : Vec Ideal S2048x128 .f32} {X : Vec Ideal Cert.ReferenceIdeal.S16384x128 .f32} (h : Cut t x X) (W b) :
    Cut t (k0_pay6 x W b) (e4 X W b) := fun p j => by
  have h' : ∀ p j, x (ix2 p j) = X (ix2 (rowOf t p) j) := h
  pointwise [k0_pay6, e4]
  simp only [h']

theorem d1_cut {x : Vec Ideal S2048x64 .f32} {X : Vec Ideal Cert.ReferenceIdeal.S16384x64 .f32} (h : Cut t x X) (W b) :
    Cut t (k0_pay42 (k0_pay41 x W b)) (d1 X W b) := fun p j => by
  have h' : ∀ p j, x (ix2 p j) = X (ix2 (rowOf t p) j) := h
  pointwise [k0_pay42, k0_pay41, k0_pay40, d1]
  simp only [h']

theorem d2_cut {x : Vec Ideal S2048x128 .f32} {X : Vec Ideal Cert.ReferenceIdeal.S16384x128 .f32} (h : Cut t x X) (W b) :
    Cut t (k0_pay43 x W b) (d2 X W b) := fun p j => by
  have h' : ∀ p j, x (ix2 p j) = X (ix2 (rowOf t p) j) := h
  pointwise [k0_pay43, d2]
  simp only [h']

theorem d3_cut {x : Vec Ideal S2048x256 .f32} {X : Vec Ideal Cert.ReferenceIdeal.S16384x256 .f32} (h : Cut t x X) (W b) :
    Cut t (k0_pay44 x W b) (d3 X W b) := fun p j => by
  have h' : ∀ p j, x (ix2 p j) = X (ix2 (rowOf t p) j) := h
  pointwise [k0_pay44, d3]
  simp only [h']

theorem d4_cut {x : Vec Ideal S2048x512 .f32} {X : Vec Ideal Cert.ReferenceIdeal.S16384x512 .f32} (h : Cut t x X) (W b) :
    Cut t (k0_pay45 x W b) (d4 X W b) := fun p j => by
  have h' : ∀ p j, x (ix2 p j) = X (ix2 (rowOf t p) j) := h
  pointwise [k0_pay45, d4]
  simp only [h']

/-- The decoder on a block of rows. -/
theorem dec_cut {x : Vec Ideal S2048x64 .f32} {X : Vec Ideal Cert.ReferenceIdeal.S16384x64 .f32} (h : Cut t x X) (W1 b1 W2 b2 W3 b3 W4 b4) :
    Cut t (Cert.KernelIdeal.Body.dec x W1 b1 W2 b2 W3 b3 W4 b4) (d4 (d3 (d2 (d1 X W1 b1) W2 b2) W3 b3) W4 b4) :=
  d4_cut (d3_cut (d2_cut (d1_cut h _ _) _ _) _ _) _ _

/-- The encoder on a block of rows. -/
theorem enc_cut {x : Vec Ideal S2048x768 .f32} {X : Vec Ideal Cert.ReferenceIdeal.S16384x768 .f32} (h : Cut t x X) (W1 b1 W2 b2 W3 b3 W4 b4) :
    Cut t (Cert.KernelIdeal.Body.enc x W1 b1 W2 b2 W3 b3 W4 b4) (e4 (e3 (e2 (e1 X W1 b1) W2 b2) W3 b3) W4 b4) :=
  e4_cut (e3_cut (e2_cut (e1_cut h _ _) _ _) _ _) _ _

/-- Every entry of a one-axis array is a real number. -/
def Fins1 {n : Nat} (b : FVec Ideal ⟨1, ![n]⟩ .f32) : Prop := ∀ j, Fin? (b (ix1 j))

/-- The encoder keeps finite rows finite under finite weights. -/
theorem enc_fin {X : Vec Ideal Cert.ReferenceIdeal.S16384x768 .f32} (hX : Fins X)
    {W1 : Vec Ideal Cert.ReferenceIdeal.S768x512 .f32} {b1 : Vec Ideal Cert.ReferenceIdeal.S512 .f32}
    {W2 : Vec Ideal Cert.ReferenceIdeal.S512x256 .f32} {b2 : Vec Ideal Cert.ReferenceIdeal.S256 .f32}
    {W3 : Vec Ideal Cert.ReferenceIdeal.S256x128 .f32} {b3 : Vec Ideal Cert.ReferenceIdeal.S128 .f32}
    {W4 : Vec Ideal Cert.ReferenceIdeal.S128x64 .f32} {b4 : Vec Ideal Cert.ReferenceIdeal.S64 .f32}
    (h1 : Fins W1) (g1 : Fins1 b1) (h2 : Fins W2) (g2 : Fins1 b2) (h3 : Fins W3) (g3 : Fins1 b3) (h4 : Fins W4) (g4 : Fins1 b4) :
    Fins (e4 (e3 (e2 (e1 X W1 b1) W2 b2) W3 b3) W4 b4) := by
  have f1 : Fins (e1 X W1 b1) := fun i j => by
    pointwise [e1]
    exact (((Fin?.sum _ _ fun k => (hX i k).mul (h1 k j)).add (g1 j)).max Fin?.zero)
  have f2 : Fins (e2 (e1 X W1 b1) W2 b2) := fun i j => by
    generalize e1 X W1 b1 = Y at f1
    pointwise [e2]
    exact (((Fin?.sum _ _ fun k => (f1 i k).mul (h2 k j)).add (g2 j)).max Fin?.zero)
  have f3 : Fins (e3 (e2 (e1 X W1 b1) W2 b2) W3 b3) := fun i j => by
    generalize e2 (e1 X W1 b1) W2 b2 = Y at f2
    pointwise [e3]
    exact (((Fin?.sum _ _ fun k => (f2 i k).mul (h3 k j)).add (g3 j)).max Fin?.zero)
  intro i j
  generalize e3 (e2 (e1 X W1 b1) W2 b2) W3 b3 = Y at f3
  pointwise [e4]
  exact ((Fin?.sum _ _ fun k => (f3 i k).mul (h4 k j)).add (g4 j))

end Cert.Equal
-- ==== Proof.Total.lean ====
/- The four levels together: the numbers, the sum of chosen rows and the squared errors of a block of rows. -/
module

public import proofs.«01_k».proof.Proof.Mlp
public import proofs.«01_k».proof.Proof.Blocks
public import proofs.«01_k».proof.Proof.RefRun

@[expose] public section

set_option maxRecDepth 16384

noncomputable section

namespace Cert.Equal

open Cert.KernelIdeal Cert.KernelIdeal.Gen Idealize.ShloMosaic Cert.Plain
open Cert.KernelIdeal.Body (Books Slab slab0 slab1 slab2 slab3 best row nx err add acc err3 share)
open Cert.ReferenceIdeal.Line (dist pick rows step rest cost codes book0 book1 book2 book3 total)

variable (w : Vec Ideal S4x256x64 .i32) (hw : ∀ i, Fin? (bitcastToFloat (F := Ideal) .f32 w i)) (X : Vec Ideal Cert.ReferenceIdeal.S16384x64 .f32) (hX : Fins X)
  {t : Fin 8} {x : Vec Ideal S2048x64 .f32} (hx : Cut t x X)

include hw hX in
theorem fins1 : Fins (Cert.ReferenceIdeal.Line.res1 (codes w) X) := rest_fin (holds0 w hw) hX
include hw hX in
theorem fins2 : Fins (Cert.ReferenceIdeal.Line.res2 (codes w) X) := rest_fin (holds1 w hw) (fins1 w hw X hX)
include hw hX in
theorem fins3 : Fins (Cert.ReferenceIdeal.Line.res3 (codes w) X) := rest_fin (holds2 w hw) (fins2 w hw X hX)

include hw hX hx in
theorem cut1 : Cut t (Cert.KernelIdeal.Body.res1 (books w) x) (Cert.ReferenceIdeal.Line.res1 (codes w) X) :=
  nx_cut (made0 w) (holds0 w hw) hx hX
include hw hX hx in
theorem cut2 : Cut t (Cert.KernelIdeal.Body.res2 (books w) x) (Cert.ReferenceIdeal.Line.res2 (codes w) X) :=
  nx_cut (made1 w) (holds1 w hw) (cut1 w hw X hX hx) (fins1 w hw X hX)
include hw hX hx in
theorem cut3 : Cut t (Cert.KernelIdeal.Body.res3 (books w) x) (Cert.ReferenceIdeal.Line.res3 (codes w) X) :=
  nx_cut (made2 w) (holds2 w hw) (cut2 w hw X hX hx) (fins2 w hw X hX)

include hw hX hx in
/-- The sum of the chosen rows of a block is the reference's sum on those rows. -/
theorem acc_cut : Cut t (acc (books w) x) (total (codes w) X) :=
  add_cut (made3 w) (holds3 w hw) (cut3 w hw X hX hx) (fins3 w hw X hX)
    (add_cut (made2 w) (holds2 w hw) (cut2 w hw X hX hx) (fins2 w hw X hX)
      (add_cut (made1 w) (holds1 w hw) (cut1 w hw X hX hx) (fins1 w hw X hX)
        (add_cut (made0 w) (holds0 w hw) hx hX fun p e => by
          pointwise [k0_pay7, Cert.ReferenceIdeal.Line.zeros])))

/-! The squared errors -/

/-- The squared error of level `l` on row block `t`, as the reference's arrays give it. -/
def sq (q r : Vec Ideal Cert.ReferenceIdeal.S16384x64 .f32) (t : Fin 8) : EReal := ∑ p : Fin 2048, ∑ e : Fin 64, (q (ix2 (rowOf t p) e) - r (ix2 (rowOf t p) e)) * (q (ix2 (rowOf t p) e) - r (ix2 (rowOf t p) e))

/-- The running squared error after adding a block of squares. -/
theorem pay30_apply (e : FVec Ideal S1x1 .f32) (r : FVec Ideal S2048x64 .f32) :
    k0_pay30 e r (ix2 0 0) = e (ix2 0 0) + ∑ p : Fin 2048, ∑ j : Fin 64, r (ix2 p j) := by
  pointwise [k0_pay30]

theorem sub_sq_apply (q r : FVec Ideal S2048x64 .f32) (p : Fin 2048) (j : Fin 64) :
    mulf (subf q r) (subf q r) (ix2 p j) = (q (ix2 p j) - r (ix2 p j)) * (q (ix2 p j) - r (ix2 p j)) := rfl

/-- What a level adds to the running squared error. -/
theorem err_apply {s : Slab Ideal} {W b} (hs : Made s W) (hb : Holds b W) {x : Vec Ideal S2048x64 .f32}
    {X : Vec Ideal Cert.ReferenceIdeal.S16384x64 .f32} (hx : Cut t x X) (hX : Fins X)
    (e : FVec Ideal S1x1 .f32) : err s x e (ix2 0 0) = e (ix2 0 0) + sq (rows b X) X t := by
  refine (pay30_apply e _).trans ?_
  refine congrArg (fun z : EReal => e (ix2 0 0) + z) ?_
  refine Finset.sum_congr rfl fun p _ => Finset.sum_congr rfl fun j _ => ?_
  rw [sub_sq_apply, row_cut hs hb hx hX p j, hx p j]

/-- The block's share of the loss is the scaled squared error of the four levels. -/
theorem share_err (K : Books Ideal) (x : Vec Ideal S2048x64 .f32) :
    share K x (ix2 0 0) = err (slab3 K) (Cert.KernelIdeal.Body.res3 K x) (err3 K x) (ix2 0 0) * Ideal.ofBits .f32 0x34A00000#32 := by
  have h : ∀ (a : FVec Ideal S1x1 .f32) (q r : FVec Ideal S2048x64 .f32),
      k0_pay39 a (multiReduction .add [1, 2] S1 (shapeCast S1x2048x64 (mulf (subf q r) (subf q r)) shapeCasts_S2048x64_S1x2048x64) 0x00000000#32 reduces_S1x2048x64_S1 (.inl rfl) rfl) (ix2 0 0)
        = k0_pay30 a (mulf (subf q r) (subf q r)) (ix2 0 0) * Ideal.ofBits .f32 0x34A00000#32 := fun a q r => by
    pointwise [k0_pay39, k0_pay30]
  exact h _ _ _

include hw hX hx in
theorem share_apply : share (books w) x (ix2 0 0)
    = (0 + sq (rows (book0 (codes w)) X) X t
        + sq (rows (book1 (codes w)) (Cert.ReferenceIdeal.Line.res1 (codes w) X)) (Cert.ReferenceIdeal.Line.res1 (codes w) X) t
        + sq (rows (book2 (codes w)) (Cert.ReferenceIdeal.Line.res2 (codes w) X)) (Cert.ReferenceIdeal.Line.res2 (codes w) X) t
        + sq (rows (book3 (codes w)) (Cert.ReferenceIdeal.Line.res3 (codes w) X)) (Cert.ReferenceIdeal.Line.res3 (codes w) X) t)
      * ((5 / 16777216 : ℝ) : EReal) := by
  rw [share_err, bits_scale, err_apply (made3 w) (holds3 w hw) (cut3 w hw X hX hx) (fins3 w hw X hX)]
  unfold err3
  rw [err_apply (made2 w) (holds2 w hw) (cut2 w hw X hX hx) (fins2 w hw X hX),
    err_apply (made1 w) (holds1 w hw) (cut1 w hw X hX hx) (fins1 w hw X hX), err_apply (made0 w) (holds0 w hw) hx hX]
  have h : (k0_pay8 : FVec Ideal S1x1 .f32) (ix2 0 0) = 0 := by pointwise [k0_pay8]
  rw [h]

end Cert.Equal
-- ==== Proof.Loss.lean ====
/- The four columns of numbers and the loss: the kernel's block values against the reference's. -/
module

public import proofs.«01_k».proof.Proof.Total

@[expose] public section

set_option maxRecDepth 16384

noncomputable section

namespace Cert.Equal

open Cert.KernelIdeal Cert.KernelIdeal.Gen Idealize.ShloMosaic Cert.Plain
open Cert.KernelIdeal.Body (Books Slab slab0 slab1 slab2 slab3 best cols cols_cover share)
open Cert.ReferenceIdeal.Line (pick rows cost loss meanLoss stack codes book0 book1 book2 book3 idxAll lossAll)

/-! The numbers -/

theorem stack_apply (i0 i1 i2 i3 : Vec Ideal Cert.ReferenceIdeal.S16384 .i32) (i : Fin 16384) :
    stack i0 i1 i2 i3 (ix2 i 0) = i0 (ix1 i) ∧ stack i0 i1 i2 i3 (ix2 i 1) = i1 (ix1 i) ∧ stack i0 i1 i2 i3 (ix2 i 2) = i2 (ix1 i)
      ∧ stack i0 i1 i2 i3 (ix2 i 3) = i3 (ix1 i) := by
  refine ⟨?_, ?_, ?_, ?_⟩ <;> pointwise [stack, Cert.ReferenceIdeal.Line.fn_main_v160]

/-- A column stored at place `k` of a row of four, read at place `l`. -/
theorem col_at (p : Fin 2048) (l k : Fin 4) (b : Vec Ideal S2048x1 .i32) (v : BitVec 32) (h : l = k → b (ix2 p 0) = v) :
    View.TileAt (Val := Elt Ideal) (S := S2048x4) (e := .i32) (ix2 p l) ![0, k.val] S2048x1.size b v := by
  intro y hy
  have h0 : (y 0).val = p.val := by have := hy 0; simpa using this.symm
  have h1 : (y 1).val = 0 := by have := (y 1).isLt; show (y 1).val = 0; exact Nat.lt_one_iff.mp this
  have hl : l = k := Fin.ext (by have := hy 1; simp only [h1] at this; simpa using this)
  rw [← h hl]
  refine congrArg b (funext fun a => Fin.ext ?_)
  rcases (by decide : ∀ a : Fin 2, a = 0 ∨ a = 1) a with rfl | rfl
  · exact h0
  · exact h1

/-- A row of the block of numbers holds the four levels' numbers. -/
theorem cols_apply (K : Books Ideal) (x : Vec Ideal S2048x64 .f32) (p : Fin 2048) (l : Fin 4) (v : BitVec 32)
    (h0 : l = 0 → best (slab0 K) x (ix2 p 0) = v) (h1 : l = 1 → best (slab1 K) (Cert.KernelIdeal.Body.res1 K x) (ix2 p 0) = v)
    (h2 : l = 2 → best (slab2 K) (Cert.KernelIdeal.Body.res2 K x) (ix2 p 0) = v)
    (h3 : l = 3 → best (slab3 K) (Cert.KernelIdeal.Body.res3 K x) (ix2 p 0) = v) :
    View.canon (Val := Elt Ideal) (cols K x) (ix2 p l) = v :=
  View.canon_eq_of_allAt _ _ _ (cols_cover K x _)
    (View.allAt_cons_unit _ _ _ _ _ (col_at p l 3 _ v h3) (View.allAt_cons_unit _ _ _ _ _ (col_at p l 2 _ v h2)
      (View.allAt_cons_unit _ _ _ _ _ (col_at p l 1 _ v h1) (View.allAt_cons_unit _ _ _ _ _ (col_at p l 0 _ v h0) (View.allAt_nil _ _)))))

variable (w : Vec Ideal S4x256x64 .i32) (hw : ∀ i, Fin? (bitcastToFloat (F := Ideal) .f32 w i)) (X : Vec Ideal Cert.ReferenceIdeal.S16384x64 .f32) (hX : Fins X)

include hw hX in
/-- The block of numbers is the reference's on those rows. -/
theorem cols_eq {t : Fin 8} {x : Vec Ideal S2048x64 .f32} (hx : Cut t x X) (p : Fin 2048) (l : Fin 4) :
    View.canon (Val := Elt Ideal) (cols (books w) x) (ix2 p l) = idxAll (codes w) X (ix2 (rowOf t p) l) := by
  obtain ⟨s0, s1, s2, s3⟩ := stack_apply (pick (book0 (codes w)) X) (pick (book1 (codes w)) (Cert.ReferenceIdeal.Line.res1 (codes w) X))
    (pick (book2 (codes w)) (Cert.ReferenceIdeal.Line.res2 (codes w) X)) (pick (book3 (codes w)) (Cert.ReferenceIdeal.Line.res3 (codes w) X)) (rowOf t p)
  refine cols_apply _ _ _ _ _ ?_ ?_ ?_ ?_ <;> rintro rfl
  · exact (best_eq (made0 w) (holds0 w hw) hx hX p).trans s0.symm
  · exact (best_eq (made1 w) (holds1 w hw) (cut1 w hw X hX hx) (fins1 w hw X hX) p).trans s1.symm
  · exact (best_eq (made2 w) (holds2 w hw) (cut2 w hw X hX hx) (fins2 w hw X hX) p).trans s2.symm
  · exact (best_eq (made3 w) (holds3 w hw) (cut3 w hw X hX hx) (fins3 w hw X hX) p).trans s3.symm

/-! The loss -/

theorem meanLoss_apply (a b c d : Vec Ideal Cert.ReferenceIdeal.S_ .f32) :
    meanLoss a b c d (ix2 0 0) = Ideal.div (a ix0 + b ix0 + c ix0 + d ix0) (Ideal.ofBits .f32 0x40800000#32) := by
  pointwise [meanLoss]
  rw [Fin.sum_univ_four]
  pointwise [Cert.ReferenceIdeal.Line.fn_main_v153]

theorem loss_apply (q r : Vec Ideal Cert.ReferenceIdeal.S16384x64 .f32) :
    loss q r ix0 = Ideal.div (∑ i : Fin 16384, ∑ e : Fin 64, (q (ix2 i e) - r (ix2 i e)) * (q (ix2 i e) - r (ix2 i e))) (Ideal.ofBits .f32 0x49800000#32)
      + Ideal.ofBits .f32 0x3E800000#32 * Ideal.div (∑ i : Fin 16384, ∑ e : Fin 64, (q (ix2 i e) - r (ix2 i e)) * (q (ix2 i e) - r (ix2 i e))) (Ideal.ofBits .f32 0x49800000#32) := by
  pointwise [loss, Cert.ReferenceIdeal.Line.meanSq]

/-- A quotient of reals is real. -/
theorem div_real (a b : ℝ) (h : b ≠ 0) : Ideal.div (a : EReal) (b : EReal) = ((a / b : ℝ) : EReal) := by
  rw [Ideal.div_coe h, ← EReal.coe_mul, mul_one_div]

/-- A level's squared errors, block by block, as real numbers, and its loss in terms of them. -/
theorem level_real {q r : Vec Ideal Cert.ReferenceIdeal.S16384x64 .f32} (hq : Fins q) (hr : Fins r) :
    ∃ E : Fin 8 → ℝ, (∀ t, sq q r t = (E t : EReal))
      ∧ loss q r ix0 = (((∑ t, E t) / 1048576 + 1 / 4 * ((∑ t, E t) / 1048576) : ℝ) : EReal) := by
  have h : ∀ i : Fin 16384, Fin? (∑ e : Fin 64, (q (ix2 i e) - r (ix2 i e)) * (q (ix2 i e) - r (ix2 i e))) := fun i =>
    Fin?.sum _ _ fun e => ((hq i e).sub (hr i e)).mul ((hq i e).sub (hr i e))
  choose g hg using h
  refine ⟨fun t => ∑ p : Fin 2048, g (rowOf t p), fun t => ?_, ?_⟩
  · rw [coe_sum]
    exact Finset.sum_congr rfl fun p _ => hg (rowOf t p)
  · rw [loss_apply, Finset.sum_congr rfl fun i _ => hg i, ← coe_sum, bits_count, bits_quarter, div_real _ _ (by norm_num),
      ← EReal.coe_mul, ← EReal.coe_add, sum_rows]

include hw hX in
/-- The eight shares of the loss add up to the reference's loss. -/
theorem shares_eq (x : Fin 8 → Vec Ideal S2048x64 .f32) (hx : ∀ t, Cut t (x t) X) :
    ∑ t : Fin 8, share (books w) (x t) (ix2 0 0) = lossAll (codes w) X (ix2 0 0) := by
  obtain ⟨E0, a0, b0⟩ := level_real (rows_fin (X := X) (holds0 w hw)) hX
  obtain ⟨E1, a1, b1⟩ := level_real (rows_fin (X := Cert.ReferenceIdeal.Line.res1 (codes w) X) (holds1 w hw)) (fins1 w hw X hX)
  obtain ⟨E2, a2, b2⟩ := level_real (rows_fin (X := Cert.ReferenceIdeal.Line.res2 (codes w) X) (holds2 w hw)) (fins2 w hw X hX)
  obtain ⟨E3, a3, b3⟩ := level_real (rows_fin (X := Cert.ReferenceIdeal.Line.res3 (codes w) X) (holds3 w hw)) (fins3 w hw X hX)
  have hs : ∀ t, share (books w) (x t) (ix2 0 0) = (((E0 t + E1 t + E2 t + E3 t) * (5 / 16777216) : ℝ) : EReal) := fun t => by
    rw [share_apply w hw X hX (hx t), a0, a1, a2, a3, zero_add, ← EReal.coe_add, ← EReal.coe_add, ← EReal.coe_add, ← EReal.coe_mul]
  rw [Finset.sum_congr rfl fun t _ => hs t, ← coe_sum]
  refine Eq.trans ?_ (meanLoss_apply _ _ _ _).symm
  rw [show cost (book0 (codes w)) X ix0 = _ from b0, show cost (book1 (codes w)) (Cert.ReferenceIdeal.Line.res1 (codes w) X) ix0 = _ from b1,
    show cost (book2 (codes w)) (Cert.ReferenceIdeal.Line.res2 (codes w) X) ix0 = _ from b2,
    show cost (book3 (codes w)) (Cert.ReferenceIdeal.Line.res3 (codes w) X) ix0 = _ from b3,
    bits_four, ← EReal.coe_add, ← EReal.coe_add, ← EReal.coe_add, div_real _ _ (by norm_num)]
  exact congrArg _ (loss_eq ![E0, E1, E2, E3])

end Cert.Equal
-- ==== Proof.Whole.lean ====
/- The kernel's three result arrays are the reference's, over the ideal numbers. -/
module

public import proofs.«01_k».proof.Proof.Results
public import proofs.«01_k».proof.Proof.Loss

@[expose] public section

set_option maxRecDepth 16384

noncomputable section

namespace Cert.Equal

open Cert.KernelIdeal Cert.KernelIdeal.Gen Idealize.ShloMosaic Idealize.SL.Sem Cert.Plain
open Cert.KernelIdeal.Body (dats bk zb enc dec acc cols share outB colB shareB lossB)
open Cert.ReferenceIdeal.Line (e1 e2 e3 e4 d1 d2 d3 d4 codes total idxAll lossAll outAll cb0 r0)

variable (m : (ℓ : Loc nD τ sig) → Buf (Elt Ideal) ℓ) (c : Dev nD)

/-- The codebook words at launch. -/
def wordsAt : Vec Ideal S4x256x64 .i32 := m (c, Proc.devRef .tc main_arg9)

/-- The encoder's rows from the kernel's arguments. -/
def rowsAt : Vec Ideal Cert.ReferenceIdeal.S16384x64 .f32 :=
  e4 (e3 (e2 (e1 (m (c, Proc.devRef .tc main_arg0)) (m (c, Proc.devRef .tc main_arg1)) (m (c, Proc.devRef .tc main_arg2))) (m (c, Proc.devRef .tc main_arg3)) (m (c, Proc.devRef .tc main_arg4))) (m (c, Proc.devRef .tc main_arg5)) (m (c, Proc.devRef .tc main_arg6))) (m (c, Proc.devRef .tc main_arg7)) (m (c, Proc.devRef .tc main_arg8))

/-- The decoder's rows from the kernel's arguments. -/
def outAt : Vec Ideal Cert.ReferenceIdeal.S16384x768 .f32 :=
  d4 (d3 (d2 (d1 (total (codes (wordsAt m c)) (rowsAt m c)) (m (c, Proc.devRef .tc main_arg10)) (m (c, Proc.devRef .tc main_arg11))) (m (c, Proc.devRef .tc main_arg12)) (m (c, Proc.devRef .tc main_arg13))) (m (c, Proc.devRef .tc main_arg14)) (m (c, Proc.devRef .tc main_arg15))) (m (c, Proc.devRef .tc main_arg16)) (m (c, Proc.devRef .tc main_arg17))

/-- The encoder's block at a grid point, over the kernel's arguments. -/
theorem zb_form (t : Fin cfg0.N) : zb m c t = enc (iblk m c 0 t) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) := by
  unfold zb
  rw [blk1, blk2, blk3, blk4, blk5, blk6, blk7, blk8]

/-- The decoder's block at a grid point, over the kernel's arguments. -/
theorem outB_form (t : Fin cfg0.N) : outB m c t = dec (acc (books (wordsAt m c)) (zb m c t)) (m (c, Proc.devRef .tc main_arg10)) (m (c, Proc.devRef .tc main_arg11)) (m (c, Proc.devRef .tc main_arg12)) (m (c, Proc.devRef .tc main_arg13)) (m (c, Proc.devRef .tc main_arg14)) (m (c, Proc.devRef .tc main_arg15)) (m (c, Proc.devRef .tc main_arg16)) (m (c, Proc.devRef .tc main_arg17)) := by
  unfold outB
  rw [bk_eq, blk15, blk16, blk17, blk18, blk19, blk20, blk21, blk22]
  rfl

/-- The block of numbers at a grid point. -/
theorem colB_form (t : Fin cfg0.N) : colB m c t = View.canon (cols (books (wordsAt m c)) (zb m c t)) := by
  unfold colB
  rw [bk_eq]
  rfl

/-- The share of the loss at a grid point. -/
theorem shareB_form (t : Fin cfg0.N) : shareB m c t = share (books (wordsAt m c)) (zb m c t) := by
  unfold shareB
  rw [bk_eq]
  rfl

/-- The loss block after point `n` is the sum of the shares up to that point. -/
theorem lossB_upto (i : S1x1.Idx) : ∀ (n : ℕ) (hn : n < cfg0.N),
    lossB m c n hn i = ∑ k : Fin (n + 1), shareB m c ⟨k.val, lt_of_lt_of_le k.isLt hn⟩ i
  | 0, _ => by
    rw [Fin.sum_univ_one]
    rfl
  | n + 1, hn => by
    rw [Fin.sum_univ_castSucc]
    exact congrArg (fun e : EReal => e + (shareB m c ⟨n + 1, hn⟩ i : EReal)) (lossB_upto i n (Nat.lt_of_succ_lt hn))

/-- The loss block after the last point is the sum of the eight points' shares. -/
theorem lossB_last : lossB m c 7 (by decide) (ix2 0 0) = ∑ t : Fin 8, shareB m c t (ix2 0 0) := lossB_upto m c (ix2 0 0) 7 (by decide)

/-- Every row of an array of 16384 rows lies in one of the eight blocks. -/
theorem row_split (i : Fin 16384) : ∃ t p, i = rowOf t p :=
  ⟨⟨i.val / 2048, by omega⟩, ⟨i.val % 2048, Nat.mod_lt _ (by norm_num)⟩, Fin.ext (Nat.div_add_mod _ _).symm⟩

/-- The encoder of a grid point gives the point's rows of the whole encoder's output. -/
theorem zb_cut (t : Fin 8) : Cut t (zb m c t) (rowsAt m c) := by
  intro p j
  refine (congrFun (zb_form m c t) (ix2 p j)).trans ?_
  exact enc_cut (X := m (c, Proc.devRef .tc main_arg0)) (blk0 m c t) _ _ _ _ _ _ _ _ p j

variable (hw : ∀ i, Fin? (bitcastToFloat (F := Ideal) .f32 (wordsAt m c) i)) (hX : Fins (rowsAt m c))

include hw hX in
/-- The kernel's decoder output is the reference's. -/
theorem out_eq : (dats m 0 c).arrAt 23 cfg0.N = outAt m c := by
  funext i
  obtain ⟨a, j, rfl⟩ : ∃ (a : Fin 16384) (j : Fin 768), i = ix2 a j := ⟨i 0, i 1, eq_ix2 i⟩
  obtain ⟨t, p, rfl⟩ := row_split a
  refine (arr23 m c t p j).trans ?_
  refine (congrFun (outB_form m c t) (ix2 p j)).trans ?_
  exact dec_cut (acc_cut (wordsAt m c) hw (rowsAt m c) hX (zb_cut m c t)) _ _ _ _ _ _ _ _ p j

include hw hX in
/-- The kernel's numbers are the reference's. -/
theorem idx_eq : (dats m 0 c).arrAt 24 cfg0.N = idxAll (codes (wordsAt m c)) (rowsAt m c) := by
  funext i
  obtain ⟨a, j, rfl⟩ : ∃ (a : Fin 16384) (j : Fin 4), i = ix2 a j := ⟨i 0, i 1, eq_ix2 i⟩
  obtain ⟨t, p, rfl⟩ := row_split a
  refine (arr24 m c t p j).trans ?_
  refine (congrFun (colB_form m c t) (ix2 p j)).trans ?_
  exact cols_eq (wordsAt m c) hw (rowsAt m c) hX (zb_cut m c t) p j

include hw hX in
/-- The eight points' shares add up to the reference's loss. -/
theorem shareB_sum : ∑ t : Fin 8, shareB m c t (ix2 0 0) = lossAll (codes (wordsAt m c)) (rowsAt m c) (ix2 0 0) :=
  (Finset.sum_congr rfl fun t _ => congrFun (shareB_form m c t) (ix2 0 0)).trans
    (shares_eq (wordsAt m c) hw (rowsAt m c) hX (fun t => zb m c t) (zb_cut m c))

include hw hX in
/-- The kernel's loss is the reference's. -/
theorem loss_all : (dats m 0 c).arrAt 25 cfg0.N = lossAll (codes (wordsAt m c)) (rowsAt m c) := by
  funext i
  obtain ⟨a, j, rfl⟩ : ∃ (a : Fin 1) (j : Fin 1), i = ix2 a j := ⟨i 0, i 1, eq_ix2 i⟩
  obtain rfl : a = 0 := Subsingleton.elim _ _
  obtain rfl : j = 0 := Subsingleton.elim _ _
  exact (arr25 m c).trans ((lossB_last m c).trans (shareB_sum m c hw hX))

end Cert.Equal

end
-- ==== Proof.Finite.lean ====
/- What the precondition says: every entry of the input, of the encoder and of the codebooks is a real number. -/
module

public import proofs.«01_k».proof.Pre_finite
public import Idealize.ShloMosaic.Lib.ReduceAll
public import proofs.«01_k».proof.Proof.Mlp

@[expose] public section

set_option maxRecDepth 16384

noncomputable section

namespace Cert.Equal

open Idealize.ShloMosaic Cert.Plain Cert.Pre_finite

/-- A number whose absolute value lies below the infinity is real. -/
theorem fin_of_abs (a : Ideal .f32) (h : FloatOps.cmpf (F := Ideal) .olt (FloatOps.absf a) (Ideal.ofBits .f32 0x7F800000#32) = 1#1) :
    Fin? a := by
  rw [Ideal.cmpf_def, Ideal.absf_def, bits_inf] at h
  change EReal at a
  induction a using EReal.rec with
  | bot => simp [Ideal.cmp] at h
  | top => simp [Ideal.cmp] at h
  | coe r => exact ⟨r, rfl⟩

/-- An array whose test for finiteness comes out true has only real entries. -/
theorem fin_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : Fin? (x i) :=
  haveI : Subsingleton S_.Idx := ⟨fun a b => funext fun k => k.elim0⟩
  fin_of_abs (x i) (Host.reduce_andi_all _ _ hr hu ix0 e i)

/-- The precondition, entry by entry. -/
theorem fin_of_pre [Facts] (a0 a1 a2 a3 a4 a5 a6 a7 a8 a9 a10 a11 a12 a13 a14 a15 a16 a17)
    (h : fn (F := Ideal) a0 a1 a2 a3 a4 a5 a6 a7 a8 a9 a10 a11 a12 a13 a14 a15 a16 a17 = fun _ => 1#1) :
    (∀ i, Fin? (bitcastToFloat (F := Ideal) .f32 a9 i)) ∧ (∀ i, Fin? (a0 i)) ∧ (∀ i, Fin? (a1 i)) ∧ (∀ i, Fin? (a2 i)) ∧ (∀ i, Fin? (a3 i)) ∧ (∀ i, Fin? (a4 i)) ∧ (∀ i, Fin? (a5 i)) ∧ (∀ i, Fin? (a6 i)) ∧ (∀ i, Fin? (a7 i)) ∧ (∀ i, Fin? (a8 i)) := by
  have e := congrFun h ix0
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e9, e0⟩ := IntOp.andi_eq_one.1 e
  exact ⟨fin_of_all _ _ _ _ e9, fin_of_all _ _ _ _ e0, fin_of_all _ _ _ _ e1, fin_of_all _ _ _ _ e2, fin_of_all _ _ _ _ e3,
    fin_of_all _ _ _ _ e4, fin_of_all _ _ _ _ e5, fin_of_all _ _ _ _ e6, fin_of_all _ _ _ _ e7, fin_of_all _ _ _ _ e8⟩

end Cert.Equal
-- ==== Proof.Equal.lean ====
/- The kernel over the ideal numbers ends with the reference's three results. -/
module

public import proofs.«01_k».proof.Defs
public import proofs.«01_k».proof.Proof.Whole
public import proofs.«01_k».proof.Proof.Finite

@[expose] public section

set_option maxRecDepth 16384

noncomputable section

namespace Cert.Equal

open Cert.KernelIdeal Cert.KernelIdeal.Gen Idealize.ShloMosaic Idealize.SL.Sem Cert.Plain
open Cert.KernelIdeal.Body (dats bk zb enc dec acc cols share outB colB shareB lossB)
open Cert.ReferenceIdeal.Line (e1 e2 e3 e4 d1 d2 d3 d4 codes total idxAll lossAll outAll cb0 r0)

variable (m : (ℓ : Loc nD τ sig) → Buf (Elt Ideal) ℓ) (c : Dev nD)

/-- Under the precondition the codebook words and the encoder's rows are real numbers. -/
theorem fin_at [Cert.Pre_finite.Facts] (h : Cert.Pre_KernelIdeal_finite m) :
    (∀ i, Fin? (bitcastToFloat (F := Ideal) .f32 (wordsAt m c) i)) ∧ Fins (rowsAt m c) := by
  obtain ⟨h9, h0, h1, h2, h3, h4, h5, h6, h7, h8⟩ := fin_of_pre _ _ _ _ _ _ _ _ _ _ _ _ _ _ _ _ _ _ (h c)
  exact ⟨h9, enc_fin (fun i j => h0 _) (fun i j => h1 _) (fun j => h2 _) (fun i j => h3 _) (fun j => h4 _) (fun i j => h5 _)
    (fun j => h6 _) (fun i j => h7 _) (fun j => h8 _)⟩

/-- From finite inputs the kernel and the reference, started on the same arguments, end with the same decoder output, the same
    loss and the same numbers, and leave their arguments as they were. -/
theorem algebraic [Cert.Pre_finite.Facts] : Cert.algebraic_KernelIdeal_ReferenceIdeal_pre_finite := by
  intro m g m' g' hp hargs
  have hr : ∀ c : Dev nD, outAll m' c = outAt m c ∧ cb0 m' c = codes (wordsAt m c) ∧ r0 m' c = rowsAt m c := fun c => by
    obtain ⟨h0, h1, h2, h3, h4, h5, h6, h7, h8, h9, h10, h11, h12, h13, h14, h15, h16, h17⟩ := hargs c
    have hc : cb0 m' c = codes (wordsAt m c) := congrArg codes h9
    have hz : r0 m' c = rowsAt m c := by
      unfold r0
      rw [h0, h1, h2, h3, h4, h5, h6, h7, h8]
      rfl
    refine ⟨?_, hc, hz⟩
    unfold outAll
    rw [hc, hz, h10, h11, h12, h13, h14, h15, h16, h17]
    rfl
  refine ⟨fun c => outAt m c, fun c => lossAll (codes (wordsAt m c)) (rowsAt m c), fun c => idxAll (codes (wordsAt m c)) (rowsAt m c), ?_, ?_⟩
  · refine (θ_run _ _ _).mono (fun r h c => ?_)
      (θ_run_and (Cert.KernelIdeal.Body.unchanged m g) (Cert.KernelIdeal.Body.run_main m g))
    obtain ⟨hw, hX⟩ := fin_at m c hp
    exact ⟨((h.2 c).1 23).trans (out_eq m c hw hX), ((h.2 c).1 25).trans (loss_all m c hw hX), ((h.2 c).1 24).trans (idx_eq m c hw hX), h.1 c⟩
  · refine (θ_run _ _ _).mono (fun r h c => ?_) (Cert.ReferenceIdeal.Line.run m' g')
    obtain ⟨ho, hc, hz⟩ := hr c
    obtain ⟨a, b, d, e⟩ := h.1 c
    rw [hc, hz] at b d
    exact ⟨a.trans ho, b, d, e⟩

end Cert.Equal

end
-- ==== Proof.lean ====
/- The claims of this certificate, put together: the frames of the kernel as printed, of the kernel read over the ideal
   numbers and of the reference, and the equality of the last two programs' results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.Pre_finite
public import proofs.«01_k».proof.Proof.SameText
public import proofs.«01_k».proof.Proof.RefRun
public import proofs.«01_k».proof.Proof.Equal

@[expose] public section

noncomputable section

namespace Cert.Proof

open Idealize.ShloMosaic Idealize.SL.Sem

/-- The reference ends with its arguments unchanged and every semaphore counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0) :=
  (θ_run _ _ _).mono (fun _ h => ⟨fun c => (h.1 c).2.2.2, h.2⟩) (Cert.ReferenceIdeal.Line.run m g)

theorem claim : Cert.Claim :=
  ⟨Cert.Kernel.Gen.facts, Cert.KernelIdeal.Gen.facts, Cert.ReferenceIdeal.Gen.facts, Cert.Pre_finite.Gen.facts, fun m g _ => Cert.SameText.frame m g,
    fun m g _ => Cert.KernelIdeal.Body.frame m g, fun m g _ => Cert.KernelIdeal.Body.frame m g,
    fun m g _ => reference_frame m g, fun m g _ => reference_frame m g, trivial, Cert.Equal.algebraic⟩

end Cert.Proof

end
